-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x8x160x12288 : Shape := ⟨4, ![16, 8, 160, 12288]⟩
abbrev S_ : Shape := ⟨0, ![]⟩
abbrev S8x160 : Shape := ⟨2, ![8, 160]⟩

class Facts : Prop where
  reducesTo_S16x8x160x12288_S8x160_d0_3 : S16x8x160x12288.ReducesTo [0, 3] S8x160
  h_S_ : 0 < S_.numel
  bcast_S_S8x160 : S_.BroadcastsInDim S8x160 (![] : Fin 0 → Fin S8x160.rank)
  reducesTo_S8x160_S_d0_1 : S8x160.ReducesTo [0, 1] S_

variable [Facts]

def fn {F : FTy → Type} [FloatOps F] (main_arg0 : FVec F S16x8x160x12288 .f32) : IVec S_ 1 :=
  let main_v0 : FVec F S16x8x160x12288 .f32 := Host.absf main_arg0
  let main_cst : FVec F S_ .f32 := constant S_ .f32 0xFF800000#32
  let main_v1 : FVec F S8x160 .f32 := (fun x v => Host.reduce FloatOps.maximumf x v reducesTo_S16x8x160x12288_S8x160_d0_3 h_S_) main_v0 main_cst
  let main_cst_0 : FVec F S_ .f32 := constant S_ .f32 0x00000000#32
  let main_v2 : FVec F S8x160 .f32 := broadcastInDim S8x160 ![] bcast_S_S8x160 main_cst_0
  let main_v3 : IVec S8x160 1 := cmpf .oeq main_v1 main_v2
  let main_cst_1 : FVec F S_ .f32 := constant S_ .f32 0x0A000000#32
  let main_v4 : FVec F S8x160 .f32 := broadcastInDim S8x160 ![] bcast_S_S8x160 main_cst_1
  let main_v5 : IVec S8x160 1 := cmpf .oge main_v1 main_v4
  let main_cst_2 : FVec F S_ .f32 := constant S_ .f32 0x7F7FFFFF#32
  let main_v6 : FVec F S8x160 .f32 := broadcastInDim S8x160 ![] bcast_S_S8x160 main_cst_2
  let main_v7 : IVec S8x160 1 := cmpf .ole main_v1 main_v6
  let main_v8 : IVec S8x160 1 := andi main_v5 main_v7
  let main_v9 : IVec S8x160 1 := ori main_v3 main_v8
  let main_c : IVec S_ 1 := constantI S_ 1 1#1
  let main_v10 : IVec S_ 1 := (fun x v => Host.reduce IntOp.andi x v reducesTo_S8x160_S_d0_1 h_S_) main_v9 main_c
  main_v10
-- ==== Kernel.lean ====
abbrev S16x8x160x12288 : Shape := ⟨4, ![16, 8, 160, 12288]⟩
abbrev S1280x128 : Shape := ⟨2, ![1280, 128]⟩
abbrev S1280x256 : Shape := ⟨2, ![1280, 256]⟩
abbrev S1x1x32x12288 : Shape := ⟨4, ![1, 1, 32, 12288]⟩
abbrev S32x128 : Shape := ⟨2, ![32, 128]⟩
abbrev S32x256 : Shape := ⟨2, ![32, 256]⟩
abbrev S16x32x12288 : Shape := ⟨3, ![16, 32, 12288]⟩
abbrev S16x3x32x128 : Shape := ⟨4, ![16, 3, 32, 128]⟩
abbrev S1x1x32x128 : Shape := ⟨4, ![1, 1, 32, 128]⟩
abbrev S32 : Shape := ⟨1, ![32]⟩
abbrev S32x1 : Shape := ⟨2, ![32, 1]⟩
abbrev S1x32x128 : Shape := ⟨3, ![1, 32, 128]⟩
abbrev S1 : Shape := ⟨1, ![1]⟩
abbrev S1x1x1 : Shape := ⟨3, ![1, 1, 1]⟩

abbrev nBuf : Space → Nat
  | .hbm => 4
  | .vmem => 11
  | .smem => 0
  | _ => 0

abbrev bufTy : (tb : Table) → Fin (tcTables nBuf tb) → BufTy
  | .hbm, ⟨0, _⟩ => ⟨S16x8x160x12288, .f32⟩
  | .hbm, ⟨1, _⟩ => ⟨S16x8x160x12288, .i8⟩
  | .hbm, ⟨2, _⟩ => ⟨S1280x128, .f32⟩
  | .hbm, ⟨3, _⟩ => ⟨S1280x256, .i32⟩
  | .local _ .vmem, ⟨0, _⟩ => ⟨S1x1x32x12288, .f32⟩
  | .local _ .vmem, ⟨1, _⟩ => ⟨S1x1x32x12288, .f32⟩
  | .local _ .vmem, ⟨2, _⟩ => ⟨S1x1x32x12288, .i8⟩
  | .local _ .vmem, ⟨3, _⟩ => ⟨S1x1x32x12288, .i8⟩
  | .local _ .vmem, ⟨4, _⟩ => ⟨S32x128, .f32⟩
  | .local _ .vmem, ⟨5, _⟩ => ⟨S32x128, .f32⟩
  | .local _ .vmem, ⟨6, _⟩ => ⟨S32x256, .i32⟩
  | .local _ .vmem, ⟨7, _⟩ => ⟨S32x256, .i32⟩
  | .local _ .vmem, ⟨8, _⟩ => ⟨S16x32x12288, .f32⟩
  | .local _ .vmem, ⟨9, _⟩ => ⟨S16x3x32x128, .f32⟩
  | .local _ .vmem, ⟨10, _⟩ => ⟨S32x128, .f32⟩
  | _, _ => ⟨S16x8x160x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![41, 16], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let c0_i32_0 : BitVec 32 := 0#32
  let v2 : BitVec 1 := Scalar.cmpi .sgt arg0 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_8 : BitVec 32 := 0#32
  let c16_i32 : BitVec 32 := 16#32
  let v17 : BitVec 32 := Scalar.addi c0_i32_8 c16_i32
  let c1_i32 : BitVec 32 := 1#32
  ⟨c0_i32_8, v17, c1_i32⟩
def k0_off1 (k0_t1 : Fin k0_t1_loop.trips) : Fin 4 → Nat :=
  let c0_i32_8 : BitVec 32 := 0#32
  let c1_i32 : BitVec 32 := 1#32
  let arg9 : BitVec 32 := Scf.iv c0_i32_8 c1_i32 k0_t1
  let v88 : Index := Scalar.indexCast arg9
  let c0 : Index := 0#32
  let c0_33 : Index := 0#32
  let c0_34 : Index := 0#32
  ![v88.toNat, 0, 0, 0]
def k0_off2 (k0_t1 : Fin k0_t1_loop.trips) : Fin 4 → Nat :=
  let c0_i32_8 : BitVec 32 := 0#32
  let c1_i32 : BitVec 32 := 1#32
  let arg9 : BitVec 32 := Scf.iv c0_i32_8 c1_i32 k0_t1
  let v102 : Index := Scalar.indexCast arg9
  let c1 : Index := 1#32
  let c0_35 : Index := 0#32
  let c0_36 : Index := 0#32
  ![v102.toNat, 1, 0, 0]
def k0_off3 (k0_t1 : Fin k0_t1_loop.trips) : Fin 4 → Nat :=
  let c0_i32_8 : BitVec 32 := 0#32
  let c1_i32 : BitVec 32 := 1#32
  let arg9 : BitVec 32 := Scf.iv c0_i32_8 c1_i32 k0_t1
  let v116 : Index := Scalar.indexCast arg9
  let c2 : Index := 2#32
  let c0_37 : Index := 0#32
  let c0_38 : Index := 0#32
  ![v116.toNat, 2, 0, 0]
@[reducible] def k0_t2_loop : Scf.Loop 32 :=
  let c0_i32_10 : BitVec 32 := 0#32
  let c16_i32_11 : BitVec 32 := 16#32
  let v19 : BitVec 32 := Scalar.addi c0_i32_10 c16_i32_11
  let c1_i32_12 : BitVec 32 := 1#32
  ⟨c0_i32_10, v19, c1_i32_12⟩
def k0_off4 (k0_t2 : Fin k0_t2_loop.trips) : Fin 4 → Nat :=
  let c0_i32_10 : BitVec 32 := 0#32
  let c1_i32_12 : BitVec 32 := 1#32
  let arg9 : BitVec 32 := Scf.iv c0_i32_10 c1_i32_12 k0_t2
  let v88 : Index := Scalar.indexCast arg9
  let c2 : Index := 2#32
  let c0 : Index := 0#32
  let c0_33 : Index := 0#32
  ![v88.toNat, 2, 0, 0]
@[reducible] def k0_t3_loop : Scf.Loop 32 :=
  let c0_i32_23 : BitVec 32 := 0#32
  let c20_i32_24 : BitVec 32 := 20#32
  let v65 : BitVec 32 := Scalar.addi c0_i32_23 c20_i32_24
  let c1_i32_25 : BitVec 32 := 1#32
  ⟨c0_i32_23, v65, c1_i32_25⟩
@[reducible] def k0_t4_loop : Scf.Loop 32 :=
  let c0_i32_73 : BitVec 32 := 0#32
  let c256_i32 : BitVec 32 := 256#32
  let v217 : BitVec 32 := Scalar.addi c0_i32_73 c256_i32
  let c1_i32_74 : BitVec 32 := 1#32
  ⟨c0_i32_73, v217, c1_i32_74⟩
@[reducible] def k0_t5_loop : Scf.Loop 32 :=
  let c0_i32_35 : BitVec 32 := 0#32
  let c20_i32_36 : BitVec 32 := 20#32
  let v89 : BitVec 32 := Scalar.addi c0_i32_35 c20_i32_36
  let c1_i32_37 : BitVec 32 := 1#32
  ⟨c0_i32_35, v89, c1_i32_37⟩
@[reducible] def k0_t6_loop : Scf.Loop 32 :=
  let c0_i32_71 : BitVec 32 := 0#32
  let c1536_i32_72 : BitVec 32 := 1536#32
  let v177 : BitVec 32 := Scalar.addi c0_i32_71 c1536_i32_72
  let c1_i32_73 : BitVec 32 := 1#32
  ⟨c0_i32_71, v177, c1_i32_73⟩
def k0_mult1 (k0_t6 : Fin k0_t6_loop.trips) : BitVec 32 :=
  let c0_i32_71 : BitVec 32 := 0#32
  let c1_i32_73 : BitVec 32 := 1#32
  let arg12 : BitVec 32 := Scf.iv c0_i32_71 c1_i32_73 k0_t6
  let c96_i32_84 : BitVec 32 := 96#32
  let c0_i32_85 : BitVec 32 := 0#32
  let v202 : BitVec 1 := Scalar.cmpi .eq c96_i32_84 c0_i32_85
  let c1_i32_86 : BitVec 32 := 1#32
  let v203 : BitVec 32 := Scalar.select v202 c1_i32_86 c96_i32_84
  let v204 : BitVec 32 := Scalar.remsi arg12 v203
  let c0_i32_88 : BitVec 32 := 0#32
  let v206 : BitVec 1 := Scalar.cmpi .slt v204 c0_i32_88
  let c0_i32_89 : BitVec 32 := 0#32
  let v207 : BitVec 1 := Scalar.cmpi .slt v203 c0_i32_89
  let v208 : BitVec 1 := Scalar.xori v206 v207
  let c0_i32_87 : BitVec 32 := 0#32
  let v205 : BitVec 1 := Scalar.cmpi .ne v204 c0_i32_87
  let v209 : BitVec 1 := Scalar.andi v208 v205
  let v210 : BitVec 32 := Scalar.addi v204 v203
  let v211 : BitVec 32 := Scalar.select v209 v210 v204
  let c128_i32 : BitVec 32 := 128#32
  let v212 : BitVec 32 := Scalar.muli v211 c128_i32
  v212
def k0_off5 (k0_t6 : Fin k0_t6_loop.trips) : Fin 3 → Nat :=
  let c0_i32_71 : BitVec 32 := 0#32
  let c1_i32_73 : BitVec 32 := 1#32
  let arg12 : BitVec 32 := Scf.iv c0_i32_71 c1_i32_73 k0_t6
  let c0_i32_78 : BitVec 32 := 0#32
  let v186 : BitVec 1 := Scalar.cmpi .sgt arg12 c0_i32_78
  let v187 : BitVec 32 := Scalar.extui v186
  let c0_i32_79 : BitVec 32 := 0#32
  let v188 : BitVec 1 := Scalar.cmpi .slt arg12 c0_i32_79
  let v189 : BitVec 32 := Scalar.extui v188
  let v190 : BitVec 32 := Scalar.subi v187 v189
  let c96_i32 : BitVec 32 := 96#32
  let c0_i32_80 : BitVec 32 := 0#32
  let v191 : BitVec 1 := Scalar.cmpi .sgt c96_i32 c0_i32_80
  let v192 : BitVec 32 := Scalar.extui v191
  let c0_i32_81 : BitVec 32 := 0#32
  let v193 : BitVec 1 := Scalar.cmpi .slt c96_i32 c0_i32_81
  let v194 : BitVec 32 := Scalar.extui v193
  let v195 : BitVec 32 := Scalar.subi v192 v194
  let v196 : BitVec 1 := Scalar.cmpi .ne v190 v195
  let v197 : BitVec 32 := Scalar.remsi arg12 c96_i32
  let c0_i32_82 : BitVec 32 := 0#32
  let v198 : BitVec 1 := Scalar.cmpi .ne v197 c0_i32_82
  let v199 : BitVec 1 := Scalar.andi v196 v198
  let v185 : BitVec 32 := Scalar.divsi arg12 c96_i32
  let c1_i32_83 : BitVec 32 := 1#32
  let v200 : BitVec 32 := Scalar.subi v185 c1_i32_83
  let v201 : BitVec 32 := Scalar.select v199 v200 v185
  let v214 : Index := Scalar.indexCast v201
  let c0_90 : Index := 0#32
  let c96_i32_84 : BitVec 32 := 96#32
  let c0_i32_85 : BitVec 32 := 0#32
  let v202 : BitVec 1 := Scalar.cmpi .eq c96_i32_84 c0_i32_85
  let c1_i32_86 : BitVec 32 := 1#32
  let v203 : BitVec 32 := Scalar.select v202 c1_i32_86 c96_i32_84
  let v204 : BitVec 32 := Scalar.remsi arg12 v203
  let c0_i32_88 : BitVec 32 := 0#32
  let v206 : BitVec 1 := Scalar.cmpi .slt v204 c0_i32_88
  let c0_i32_89 : BitVec 32 := 0#32
  let v207 : BitVec 1 := Scalar.cmpi .slt v203 c0_i32_89
  let v208 : BitVec 1 := Scalar.xori v206 v207
  let c0_i32_87 : BitVec 32 := 0#32
  let v205 : BitVec 1 := Scalar.cmpi .ne v204 c0_i32_87
  let v209 : BitVec 1 := Scalar.andi v208 v205
  let v210 : BitVec 32 := Scalar.addi v204 v203
  let v211 : BitVec 32 := Scalar.select v209 v210 v204
  let c128_i32 : BitVec 32 := 128#32
  let v212 : BitVec 32 := Scalar.muli v211 c128_i32
  let v213 : BitVec 32 := v212
  let v215 : Index := Scalar.indexCast v213
  ![v214.toNat, 0, v215.toNat]
@[reducible] def k0_t7_loop : Scf.Loop 32 :=
  let c0_i32_63 : BitVec 32 := 0#32
  let c1536_i32 : BitVec 32 := 1536#32
  let v167 : BitVec 32 := Scalar.addi c0_i32_63 c1536_i32
  let c1_i32_64 : BitVec 32 := 1#32
  ⟨c0_i32_63, v167, c1_i32_64⟩
def k0_mult2 (k0_t7 : Fin k0_t7_loop.trips) : BitVec 32 :=
  let c0_i32_63 : BitVec 32 := 0#32
  let c1_i32_64 : BitVec 32 := 1#32
  let arg9 : BitVec 32 := Scf.iv c0_i32_63 c1_i32_64 k0_t7
  let c96_i32_77 : BitVec 32 := 96#32
  let c0_i32_78 : BitVec 32 := 0#32
  let v192 : BitVec 1 := Scalar.cmpi .eq c96_i32_77 c0_i32_78
  let c1_i32_79 : BitVec 32 := 1#32
  let v193 : BitVec 32 := Scalar.select v192 c1_i32_79 c96_i32_77
  let v194 : BitVec 32 := Scalar.remsi arg9 v193
  let c0_i32_81 : BitVec 32 := 0#32
  let v196 : BitVec 1 := Scalar.cmpi .slt v194 c0_i32_81
  let c0_i32_82 : BitVec 32 := 0#32
  let v197 : BitVec 1 := Scalar.cmpi .slt v193 c0_i32_82
  let v198 : BitVec 1 := Scalar.xori v196 v197
  let c0_i32_80 : BitVec 32 := 0#32
  let v195 : BitVec 1 := Scalar.cmpi .ne v194 c0_i32_80
  let v199 : BitVec 1 := Scalar.andi v198 v195
  let v200 : BitVec 32 := Scalar.addi v194 v193
  let v201 : BitVec 32 := Scalar.select v199 v200 v194
  let c128_i32 : BitVec 32 := 128#32
  let v202 : BitVec 32 := Scalar.muli v201 c128_i32
  v202
def k0_off6 (k0_t7 : Fin k0_t7_loop.trips) : Fin 3 → Nat :=
  let c0_i32_63 : BitVec 32 := 0#32
  let c1_i32_64 : BitVec 32 := 1#32
  let arg9 : BitVec 32 := Scf.iv c0_i32_63 c1_i32_64 k0_t7
  let c0_i32_71 : BitVec 32 := 0#32
  let v176 : BitVec 1 := Scalar.cmpi .sgt arg9 c0_i32_71
  let v177 : BitVec 32 := Scalar.extui v176
  let c0_i32_72 : BitVec 32 := 0#32
  let v178 : BitVec 1 := Scalar.cmpi .slt arg9 c0_i32_72
  let v179 : BitVec 32 := Scalar.extui v178
  let v180 : BitVec 32 := Scalar.subi v177 v179
  let c96_i32 : BitVec 32 := 96#32
  let c0_i32_73 : BitVec 32 := 0#32
  let v181 : BitVec 1 := Scalar.cmpi .sgt c96_i32 c0_i32_73
  let v182 : BitVec 32 := Scalar.extui v181
  let c0_i32_74 : BitVec 32 := 0#32
  let v183 : BitVec 1 := Scalar.cmpi .slt c96_i32 c0_i32_74
  let v184 : BitVec 32 := Scalar.extui v183
  let v185 : BitVec 32 := Scalar.subi v182 v184
  let v186 : BitVec 1 := Scalar.cmpi .ne v180 v185
  let v187 : BitVec 32 := Scalar.remsi arg9 c96_i32
  let c0_i32_75 : BitVec 32 := 0#32
  let v188 : BitVec 1 := Scalar.cmpi .ne v187 c0_i32_75
  let v189 : BitVec 1 := Scalar.andi v186 v188
  let v175 : BitVec 32 := Scalar.divsi arg9 c96_i32
  let c1_i32_76 : BitVec 32 := 1#32
  let v190 : BitVec 32 := Scalar.subi v175 c1_i32_76
  let v191 : BitVec 32 := Scalar.select v189 v190 v175
  let v204 : Index := Scalar.indexCast v191
  let c0_83 : Index := 0#32
  let c96_i32_77 : BitVec 32 := 96#32
  let c0_i32_78 : BitVec 32 := 0#32
  let v192 : BitVec 1 := Scalar.cmpi .eq c96_i32_77 c0_i32_78
  let c1_i32_79 : BitVec 32 := 1#32
  let v193 : BitVec 32 := Scalar.select v192 c1_i32_79 c96_i32_77
  let v194 : BitVec 32 := Scalar.remsi arg9 v193
  let c0_i32_81 : BitVec 32 := 0#32
  let v196 : BitVec 1 := Scalar.cmpi .slt v194 c0_i32_81
  let c0_i32_82 : BitVec 32 := 0#32
  let v197 : BitVec 1 := Scalar.cmpi .slt v193 c0_i32_82
  let v198 : BitVec 1 := Scalar.xori v196 v197
  let c0_i32_80 : BitVec 32 := 0#32
  let v195 : BitVec 1 := Scalar.cmpi .ne v194 c0_i32_80
  let v199 : BitVec 1 := Scalar.andi v198 v195
  let v200 : BitVec 32 := Scalar.addi v194 v193
  let v201 : BitVec 32 := Scalar.select v199 v200 v194
  let c128_i32 : BitVec 32 := 128#32
  let v202 : BitVec 32 := Scalar.muli v201 c128_i32
  let v203 : BitVec 32 := v202
  let v205 : Index := Scalar.indexCast v203
  ![v204.toNat, 0, v205.toNat]
@[reducible] def k0_t8_loop : Scf.Loop 32 :=
  let c0_i32_67 : BitVec 32 := 0#32
  let c256_i32 : BitVec 32 := 256#32
  let v171 : BitVec 32 := Scalar.addi c0_i32_67 c256_i32
  let c1_i32_68 : BitVec 32 := 1#32
  ⟨c0_i32_67, v171, c1_i32_68⟩
@[reducible] def k0_t9_loop : Scf.Loop 32 :=
  let c0_i32_72 : BitVec 32 := 0#32
  let c1536_i32_73 : BitVec 32 := 1536#32
  let v177 : BitVec 32 := Scalar.addi c0_i32_72 c1536_i32_73
  let c1_i32_74 : BitVec 32 := 1#32
  ⟨c0_i32_72, v177, c1_i32_74⟩
def k0_mult3 (k0_t9 : Fin k0_t9_loop.trips) : BitVec 32 :=
  let c0_i32_72 : BitVec 32 := 0#32
  let c1_i32_74 : BitVec 32 := 1#32
  let arg13 : BitVec 32 := Scf.iv c0_i32_72 c1_i32_74 k0_t9
  let c96_i32_84 : BitVec 32 := 96#32
  let c0_i32_85 : BitVec 32 := 0#32
  let v208 : BitVec 1 := Scalar.cmpi .eq c96_i32_84 c0_i32_85
  let c1_i32_86 : BitVec 32 := 1#32
  let v209 : BitVec 32 := Scalar.select v208 c1_i32_86 c96_i32_84
  let v210 : BitVec 32 := Scalar.remsi arg13 v209
  let c0_i32_88 : BitVec 32 := 0#32
  let v212 : BitVec 1 := Scalar.cmpi .slt v210 c0_i32_88
  let c0_i32_89 : BitVec 32 := 0#32
  let v213 : BitVec 1 := Scalar.cmpi .slt v209 c0_i32_89
  let v214 : BitVec 1 := Scalar.xori v212 v213
  let c0_i32_87 : BitVec 32 := 0#32
  let v211 : BitVec 1 := Scalar.cmpi .ne v210 c0_i32_87
  let v215 : BitVec 1 := Scalar.andi v214 v211
  let v216 : BitVec 32 := Scalar.addi v210 v209
  let v217 : BitVec 32 := Scalar.select v215 v216 v210
  let c128_i32 : BitVec 32 := 128#32
  let v218 : BitVec 32 := Scalar.muli v217 c128_i32
  v218
def k0_off7 (k0_t9 : Fin k0_t9_loop.trips) : Fin 3 → Nat :=
  let c0_i32_72 : BitVec 32 := 0#32
  let c1_i32_74 : BitVec 32 := 1#32
  let arg13 : BitVec 32 := Scf.iv c0_i32_72 c1_i32_74 k0_t9
  let c0_i32_78 : BitVec 32 := 0#32
  let v192 : BitVec 1 := Scalar.cmpi .sgt arg13 c0_i32_78
  let v193 : BitVec 32 := Scalar.extui v192
  let c0_i32_79 : BitVec 32 := 0#32
  let v194 : BitVec 1 := Scalar.cmpi .slt arg13 c0_i32_79
  let v195 : BitVec 32 := Scalar.extui v194
  let v196 : BitVec 32 := Scalar.subi v193 v195
  let c96_i32 : BitVec 32 := 96#32
  let c0_i32_80 : BitVec 32 := 0#32
  let v197 : BitVec 1 := Scalar.cmpi .sgt c96_i32 c0_i32_80
  let v198 : BitVec 32 := Scalar.extui v197
  let c0_i32_81 : BitVec 32 := 0#32
  let v199 : BitVec 1 := Scalar.cmpi .slt c96_i32 c0_i32_81
  let v200 : BitVec 32 := Scalar.extui v199
  let v201 : BitVec 32 := Scalar.subi v198 v200
  let v202 : BitVec 1 := Scalar.cmpi .ne v196 v201
  let v203 : BitVec 32 := Scalar.remsi arg13 c96_i32
  let c0_i32_82 : BitVec 32 := 0#32
  let v204 : BitVec 1 := Scalar.cmpi .ne v203 c0_i32_82
  let v205 : BitVec 1 := Scalar.andi v202 v204
  let v191 : BitVec 32 := Scalar.divsi arg13 c96_i32
  let c1_i32_83 : BitVec 32 := 1#32
  let v206 : BitVec 32 := Scalar.subi v191 c1_i32_83
  let v207 : BitVec 32 := Scalar.select v205 v206 v191
  let v220 : Index := Scalar.indexCast v207
  let c0_90 : Index := 0#32
  let c96_i32_84 : BitVec 32 := 96#32
  let c0_i32_85 : BitVec 32 := 0#32
  let v208 : BitVec 1 := Scalar.cmpi .eq c96_i32_84 c0_i32_85
  let c1_i32_86 : BitVec 32 := 1#32
  let v209 : BitVec 32 := Scalar.select v208 c1_i32_86 c96_i32_84
  let v210 : BitVec 32 := Scalar.remsi arg13 v209
  let c0_i32_88 : BitVec 32 := 0#32
  let v212 : BitVec 1 := Scalar.cmpi .slt v210 c0_i32_88
  let c0_i32_89 : BitVec 32 := 0#32
  let v213 : BitVec 1 := Scalar.cmpi .slt v209 c0_i32_89
  let v214 : BitVec 1 := Scalar.xori v212 v213
  let c0_i32_87 : BitVec 32 := 0#32
  let v211 : BitVec 1 := Scalar.cmpi .ne v210 c0_i32_87
  let v215 : BitVec 1 := Scalar.andi v214 v211
  let v216 : BitVec 32 := Scalar.addi v210 v209
  let v217 : BitVec 32 := Scalar.select v215 v216 v210
  let c128_i32 : BitVec 32 := 128#32
  let v218 : BitVec 32 := Scalar.muli v217 c128_i32
  let v219 : BitVec 32 := v218
  let v221 : Index := Scalar.indexCast v219
  ![v220.toNat, 0, v221.toNat]
def k0_cond4 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

@[reducible] def k0_t10_loop : Scf.Loop 32 :=
  let c0_i32_8 : BitVec 32 := 0#32
  let c96_i32 : BitVec 32 := 96#32
  let v17 : BitVec 32 := Scalar.addi c0_i32_8 c96_i32
  let c1_i32 : BitVec 32 := 1#32
  ⟨c0_i32_8, v17, c1_i32⟩
def k0_mult4 (k0_t10 : Fin k0_t10_loop.trips) : BitVec 32 :=
  let c0_i32_8 : BitVec 32 := 0#32
  let c1_i32 : BitVec 32 := 1#32
  let arg9 : BitVec 32 := Scf.iv c0_i32_8 c1_i32 k0_t10
  let c128_i32 : BitVec 32 := 128#32
  let v31 : BitVec 32 := Scalar.muli arg9 c128_i32
  v31
def k0_off8 (k0_t10 : Fin k0_t10_loop.trips) : Fin 4 → Nat :=
  let c0_16 : Index := 0#32
  let c0_17 : Index := 0#32
  let c0_18 : Index := 0#32
  let c0_i32_8 : BitVec 32 := 0#32
  let c1_i32 : BitVec 32 := 1#32
  let arg9 : BitVec 32 := Scf.iv c0_i32_8 c1_i32 k0_t10
  let c128_i32 : BitVec 32 := 128#32
  let v31 : BitVec 32 := Scalar.muli arg9 c128_i32
  let v32 : BitVec 32 := v31
  let v33 : Index := Scalar.indexCast v32
  ![0, 0, 0, v33.toNat]
def k0_off9 (i : grid0.Coords) (k0_t10 : Fin k0_t10_loop.trips) : Fin 3 → Nat :=
  let arg1 : BitVec 32 := BitVec.ofNat 32 (i 1).val
  let v36 : Index := Scalar.indexCast arg1
  let c0_19 : Index := 0#32
  let c0_i32_8 : BitVec 32 := 0#32
  let c1_i32 : BitVec 32 := 1#32
  let arg9 : BitVec 32 := Scf.iv c0_i32_8 c1_i32 k0_t10
  let c128_i32 : BitVec 32 := 128#32
  let v31 : BitVec 32 := Scalar.muli arg9 c128_i32
  let v32 : BitVec 32 := v31
  let v37 : Index := Scalar.indexCast v32
  ![v36.toNat, 0, v37.toNat]
def k0_off10 (i : grid0.Coords) : Fin 4 → Nat :=
  let arg1 : BitVec 32 := BitVec.ofNat 32 (i 1).val
  let v19 : Index := Scalar.indexCast arg1
  let c0 : Index := 0#32
  let c0_10 : Index := 0#32
  let c0_11 : Index := 0#32
  ![v19.toNat, 0, 0, 0]
def k0_off11 (i : grid0.Coords) : Fin 4 → Nat :=
  let arg1 : BitVec 32 := BitVec.ofNat 32 (i 1).val
  let v23 : Index := Scalar.indexCast arg1
  let c1 : Index := 1#32
  let c0_12 : Index := 0#32
  let c0_13 : Index := 0#32
  ![v23.toNat, 1, 0, 0]
def k0_off12 (i : grid0.Coords) : Fin 4 → Nat :=
  let arg1 : BitVec 32 := BitVec.ofNat 32 (i 1).val
  let v27 : Index := Scalar.indexCast arg1
  let c2 : Index := 2#32
  let c0_14 : Index := 0#32
  let c0_15 : Index := 0#32
  ![v27.toNat, 2, 0, 0]
def k0_cond5 (i : grid0.Coords) : BitVec 1 :=
  let arg0 : BitVec 32 := BitVec.ofNat 32 (i 0).val
  let c0_i32_4 : BitVec 32 := 0#32
  let v9 : BitVec 1 := Scalar.cmpi .sgt arg0 c0_i32_4
  let c40_i32 : BitVec 32 := 40#32
  let v10 : BitVec 1 := Scalar.cmpi .slt arg0 c40_i32
  let v11 : BitVec 1 := Scalar.andi v9 v10
  let v12 : BitVec 32 := Scalar.extui v11
  let c0_i32_5 : BitVec 32 := 0#32
  let v13 : BitVec 1 := Scalar.cmpi .ne v12 c0_i32_5
  v13

@[reducible] def k0_t11_loop : Scf.Loop 32 :=
  let c0_i32_9 : BitVec 32 := 0#32
  let c96_i32 : BitVec 32 := 96#32
  let v18 : BitVec 32 := Scalar.addi c0_i32_9 c96_i32
  let c1_i32 : BitVec 32 := 1#32
  ⟨c0_i32_9, v18, c1_i32⟩
def k0_mult5 (k0_t11 : Fin k0_t11_loop.trips) : BitVec 32 :=
  let c0_i32_9 : BitVec 32 := 0#32
  let c1_i32 : BitVec 32 := 1#32
  let arg9 : BitVec 32 := Scf.iv c0_i32_9 c1_i32 k0_t11
  let c128_i32 : BitVec 32 := 128#32
  let v32 : BitVec 32 := Scalar.muli arg9 c128_i32
  v32
def k0_off13 (i : grid0.Coords) (k0_t11 : Fin k0_t11_loop.trips) : Fin 3 → Nat :=
  let arg1 : BitVec 32 := BitVec.ofNat 32 (i 1).val
  let v34 : Index := Scalar.indexCast arg1
  let c0_18 : Index := 0#32
  let c0_i32_9 : BitVec 32 := 0#32
  let c1_i32 : BitVec 32 := 1#32
  let arg9 : BitVec 32 := Scf.iv c0_i32_9 c1_i32 k0_t11
  let c128_i32 : BitVec 32 := 128#32
  let v32 : BitVec 32 := Scalar.muli arg9 c128_i32
  let v33 : BitVec 32 := v32
  let v35 : Index := Scalar.indexCast v33
  ![v34.toNat, 0, v35.toNat]
def k0_off14 (k0_t11 : Fin k0_t11_loop.trips) : Fin 4 → Nat :=
  let c0_19 : Index := 0#32
  let c0_20 : Index := 0#32
  let c0_21 : Index := 0#32
  let c0_i32_9 : BitVec 32 := 0#32
  let c1_i32 : BitVec 32 := 1#32
  let arg9 : BitVec 32 := Scf.iv c0_i32_9 c1_i32 k0_t11
  let c128_i32 : BitVec 32 := 128#32
  let v32 : BitVec 32 := Scalar.muli arg9 c128_i32
  let v33 : BitVec 32 := v32
  let v47 : Index := Scalar.indexCast v33
  ![0, 0, 0, v47.toNat]
def k0_off15 (i : grid0.Coords) : Fin 4 → Nat :=
  let arg1 : BitVec 32 := BitVec.ofNat 32 (i 1).val
  let v20 : Index := Scalar.indexCast arg1
  let c0_11 : Index := 0#32
  let c0_12 : Index := 0#32
  let c0_13 : Index := 0#32
  ![v20.toNat, 0, 0, 0]
def k0_off16 (i : grid0.Coords) : Fin 4 → Nat :=
  let arg1 : BitVec 32 := BitVec.ofNat 32 (i 1).val
  let v24 : Index := Scalar.indexCast arg1
  let c1 : Index := 1#32
  let c0_14 : Index := 0#32
  let c0_15 : Index := 0#32
  ![v24.toNat, 1, 0, 0]
def k0_off17 (i : grid0.Coords) : Fin 4 → Nat :=
  let arg1 : BitVec 32 := BitVec.ofNat 32 (i 1).val
  let v28 : Index := Scalar.indexCast arg1
  let c2 : Index := 2#32
  let c0_16 : Index := 0#32
  let c0_17 : Index := 0#32
  ![v28.toNat, 2, 0, 0]
def k0_cond6 (i : grid0.Coords) : BitVec 1 :=
  let arg0 : BitVec 32 := BitVec.ofNat 32 (i 0).val
  let c40_i32_6 : BitVec 32 := 40#32
  let v14 : BitVec 1 := Scalar.cmpi .eq arg0 c40_i32_6
  let v15 : BitVec 32 := Scalar.extui v14
  let c0_i32_7 : BitVec 32 := 0#32
  let v16 : BitVec 1 := Scalar.cmpi .ne v15 c0_i32_7
  v16

@[reducible] def k0_t12_loop : Scf.Loop 32 :=
  let c0_i32_9 : BitVec 32 := 0#32
  let c96_i32 : BitVec 32 := 96#32
  let v18 : BitVec 32 := Scalar.addi c0_i32_9 c96_i32
  let c1_i32 : BitVec 32 := 1#32
  ⟨c0_i32_9, v18, c1_i32⟩
def k0_mult6 (k0_t12 : Fin k0_t12_loop.trips) : BitVec 32 :=
  let c0_i32_9 : BitVec 32 := 0#32
  let c1_i32 : BitVec 32 := 1#32
  let arg9 : BitVec 32 := Scf.iv c0_i32_9 c1_i32 k0_t12
  let c128_i32 : BitVec 32 := 128#32
  let v19 : BitVec 32 := Scalar.muli arg9 c128_i32
  v19
def k0_off18 (i : grid0.Coords) (k0_t12 : Fin k0_t12_loop.trips) : Fin 3 → Nat :=
  let arg1 : BitVec 32 := BitVec.ofNat 32 (i 1).val
  let v21 : Index := Scalar.indexCast arg1
  let c0_11 : Index := 0#32
  let c0_i32_9 : BitVec 32 := 0#32
  let c1_i32 : BitVec 32 := 1#32
  let arg9 : BitVec 32 := Scf.iv c0_i32_9 c1_i32 k0_t12
  let c128_i32 : BitVec 32 := 128#32
  let v19 : BitVec 32 := Scalar.muli arg9 c128_i32
  let v20 : BitVec 32 := v19
  let v22 : Index := Scalar.indexCast v20
  ![v21.toNat, 0, v22.toNat]
def k0_off19 (k0_t12 : Fin k0_t12_loop.trips) : Fin 4 → Nat :=
  let c0_12 : Index := 0#32
  let c0_13 : Index := 0#32
  let c0_14 : Index := 0#32
  let c0_i32_9 : BitVec 32 := 0#32
  let c1_i32 : BitVec 32 := 1#32
  let arg9 : BitVec 32 := Scf.iv c0_i32_9 c1_i32 k0_t12
  let c128_i32 : BitVec 32 := 128#32
  let v19 : BitVec 32 := Scalar.muli arg9 c128_i32
  let v20 : BitVec 32 := v19
  let v34 : Index := Scalar.indexCast v20
  ![0, 0, 0, v34.toNat]
def cc0_transform_0 (i : grid0.Coords) : Fin 4 → Nat :=
  let arg0 : BitVec 32 := BitVec.ofNat 32 (i 0).val
  let arg1 : BitVec 32 := BitVec.ofNat 32 (i 1).val
  let c40_i32 : BitVec 32 := 40#32
  let v0 : BitVec 1 := Scalar.cmpi .eq arg0 c40_i32
  let c39_i32 : BitVec 32 := 39#32
  let v1 : BitVec 32 := Scalar.minsi arg0 c39_i32
  let c15_i32 : BitVec 32 := 15#32
  let v2 : BitVec 32 := Scalar.select v0 c15_i32 arg1
  let c5_i32 : BitVec 32 := 5#32
  let v3 : BitVec 32 := Scalar.divsi v1 c5_i32
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c0_i32_1 : BitVec 32 := 0#32
  let v9 : BitVec 1 := Scalar.cmpi .sgt c5_i32 c0_i32_1
  let v10 : BitVec 32 := Scalar.extui v9
  let c0_i32_2 : BitVec 32 := 0#32
  let v11 : BitVec 1 := Scalar.cmpi .slt c5_i32 c0_i32_2
  let v12 : BitVec 32 := Scalar.extui v11
  let v13 : BitVec 32 := Scalar.subi v10 v12
  let v14 : BitVec 1 := Scalar.cmpi .ne v8 v13
  let v15 : BitVec 32 := Scalar.remsi v1 c5_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c5_i32_4 : BitVec 32 := 5#32
  let c0_i32_5 : BitVec 32 := 0#32
  let v20 : BitVec 1 := Scalar.cmpi .eq c5_i32_4 c0_i32_5
  let c1_i32_6 : BitVec 32 := 1#32
  let v21 : BitVec 32 := Scalar.select v20 c1_i32_6 c5_i32_4
  let v22 : BitVec 32 := Scalar.remsi v1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v2.toNat, v19.toNat, v29.toNat, c0_i32_10.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c5_i32 : BitVec 32 := 5#32
  let v4 : BitVec 32 := Scalar.divsi v3 c5_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c5_i32 c0_i32_4
  let v11 : BitVec 32 := Scalar.extui v10
  let c0_i32_5 : BitVec 32 := 0#32
  let v12 : BitVec 1 := Scalar.cmpi .slt c5_i32 c0_i32_5
  let v13 : BitVec 32 := Scalar.extui v12
  let v14 : BitVec 32 := Scalar.subi v11 v13
  let v15 : BitVec 1 := Scalar.cmpi .ne v9 v14
  let v16 : BitVec 32 := Scalar.remsi v3 c5_i32
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c5_i32_8 : BitVec 32 := 5#32
  let c0_i32_9 : BitVec 32 := 0#32
  let v21 : BitVec 1 := Scalar.cmpi .eq c5_i32_8 c0_i32_9
  let c1_i32_10 : BitVec 32 := 1#32
  let v22 : BitVec 32 := Scalar.select v21 c1_i32_10 c5_i32_8
  let v23 : BitVec 32 := Scalar.remsi v3 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v1.toNat, v20.toNat, v30.toNat, c0_i32_14.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x1x32x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x12288 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S16x8x160x12288 : Shape := ⟨4, ![16, 8, 160, 12288]⟩
abbrev S_ : Shape := ⟨0, ![]⟩
abbrev S8x160 : Shape := ⟨2, ![8, 160]⟩
abbrev S277 : Shape := ⟨1, ![277]⟩
abbrev S8x160x1 : Shape := ⟨3, ![8, 160, 1]⟩
abbrev S1x1x277 : Shape := ⟨3, ![1, 1, 277]⟩
abbrev S8x160x277 : Shape := ⟨3, ![8, 160, 277]⟩
abbrev S1x8x160x1 : Shape := ⟨4, ![1, 8, 160, 1]⟩
abbrev S4096 : Shape := ⟨1, ![4096]⟩
abbrev S16x8x160x12288x1 : Shape := ⟨5, ![16, 8, 160, 12288, 1]⟩
abbrev S1x1x1x1x4096 : Shape := ⟨5, ![1, 1, 1, 1, 4096]⟩
abbrev S16x8x160x12288x4096 : Shape := ⟨5, ![16, 8, 160, 12288, 4096]⟩
abbrev S8x160x4096 : Shape := ⟨3, ![8, 160, 4096]⟩
abbrev S256 : Shape := ⟨1, ![256]⟩
abbrev S1x1x1x1x256 : Shape := ⟨5, ![1, 1, 1, 1, 256]⟩
abbrev S16x8x160x12288x256 : Shape := ⟨5, ![16, 8, 160, 12288, 256]⟩
abbrev S8x160x256 : Shape := ⟨3, ![8, 160, 256]⟩
abbrev S8x160x5 : Shape := ⟨3, ![8, 160, 5]⟩
abbrev S1280x5 : Shape := ⟨2, ![1280, 5]⟩
abbrev S1280x123 : Shape := ⟨2, ![1280, 123]⟩
abbrev S1280x128 : Shape := ⟨2, ![1280, 128]⟩
abbrev S1280x256 : Shape := ⟨2, ![1280, 256]⟩

abbrev nBuf : Space → Nat
  | .hbm => 160
  | .vmem => 0
  | .smem => 0
  | _ => 0

abbrev hbmTy0_0 (i : Nat) : BufTy := match i % 128 with
  | 0 => ⟨S16x8x160x12288, .f32⟩
  | 1 => ⟨S16x8x160x12288, .f32⟩
  | 2 => ⟨S_, .f32⟩
  | 3 => ⟨S8x160, .f32⟩
  | 4 => ⟨S277, .i32⟩
  | 5 => ⟨S_, .i32⟩
  | 6 => ⟨S277, .i32⟩
  | 7 => ⟨S277, .i32⟩
  | 8 => ⟨S8x160x1, .f32⟩
  | 9 => ⟨S277, .f32⟩
  | 10 => ⟨S_, .f32⟩
  | 11 => ⟨S277, .f32⟩
  | 12 => ⟨S277, .f32⟩
  | 13 => ⟨S1x1x277, .f32⟩
  | 14 => ⟨S8x160x277, .f32⟩
  | 15 => ⟨S8x160x277, .f32⟩
  | 16 => ⟨S8x160x277, .i1⟩
  | 17 => ⟨S_, .i32⟩
  | 18 => ⟨S_, .i32⟩
  | 19 => ⟨S8x160x277, .i32⟩
  | 20 => ⟨S8x160x277, .i32⟩
  | 21 => ⟨S8x160x277, .i32⟩
  | 22 => ⟨S_, .i32⟩
  | 23 => ⟨S8x160, .i32⟩
  | 24 => ⟨S_, .f32⟩
  | 25 => ⟨S8x160, .f32⟩
  | 26 => ⟨S8x160, .i1⟩
  | 27 => ⟨S_, .i32⟩
  | 28 => ⟨S_, .i32⟩
  | 29 => ⟨S8x160, .i32⟩
  | 30 => ⟨S8x160, .i32⟩
  | 31 => ⟨S_, .i32⟩
  | 32 => ⟨S8x160, .i32⟩
  | 33 => ⟨S8x160, .i32⟩
  | 34 => ⟨S8x160, .f32⟩
  | 35 => ⟨S_, .f32⟩
  | 36 => ⟨S8x160, .f32⟩
  | 37 => ⟨S8x160, .f32⟩
  | 38 => ⟨S1x8x160x1, .f32⟩
  | 39 => ⟨S16x8x160x12288, .f32⟩
  | 40 => ⟨S16x8x160x12288, .f32⟩
  | 41 => ⟨S16x8x160x12288, .f32⟩
  | 42 => ⟨S16x8x160x12288, .i32⟩
  | 43 => ⟨S_, .i32⟩
  | 44 => ⟨S16x8x160x12288, .i32⟩
  | 45 => ⟨S16x8x160x12288, .i32⟩
  | 46 => ⟨S_, .i32⟩
  | 47 => ⟨S16x8x160x12288, .i32⟩
  | 48 => ⟨S16x8x160x12288, .i32⟩
  | 49 => ⟨S4096, .i32⟩
  | 50 => ⟨S16x8x160x12288x1, .i32⟩
  | 51 => ⟨S1x1x1x1x4096, .i32⟩
  | 52 => ⟨S16x8x160x12288x4096, .i32⟩
  | 53 => ⟨S16x8x160x12288x4096, .i32⟩
  | 54 => ⟨S16x8x160x12288x4096, .i1⟩
  | 55 => ⟨S16x8x160x12288x4096, .i32⟩
  | 56 => ⟨S_, .i32⟩
  | 57 => ⟨S8x160x4096, .i32⟩
  | 58 => ⟨S_, .i32⟩
  | 59 => ⟨S8x160x4096, .i32⟩
  | 60 => ⟨S8x160x4096, .i1⟩
  | 61 => ⟨S8x160x4096, .i32⟩
  | 62 => ⟨S_, .i32⟩
  | 63 => ⟨S8x160, .i32⟩
  | 64 => ⟨S1x8x160x1, .i32⟩
  | 65 => ⟨S16x8x160x12288, .i32⟩
  | 66 => ⟨S16x8x160x12288, .i1⟩
  | 67 => ⟨S16x8x160x12288, .i32⟩
  | 68 => ⟨S_, .i32⟩
  | 69 => ⟨S8x160, .i32⟩
  | 70 => ⟨S1x8x160x1, .i32⟩
  | 71 => ⟨S16x8x160x12288, .i32⟩
  | 72 => ⟨S16x8x160x12288, .i1⟩
  | 73 => ⟨S256, .i32⟩
  | 74 => ⟨S16x8x160x12288x1, .i1⟩
  | 75 => ⟨S16x8x160x12288x1, .i32⟩
  | 76 => ⟨S1x1x1x1x256, .i32⟩
  | 77 => ⟨S16x8x160x12288x256, .i32⟩
  | 78 => ⟨S16x8x160x12288x256, .i32⟩
  | 79 => ⟨S16x8x160x12288x256, .i1⟩
  | 80 => ⟨S16x8x160x12288x256, .i1⟩
  | 81 => ⟨S16x8x160x12288x256, .i1⟩
  | 82 => ⟨S16x8x160x12288x256, .i32⟩
  | 83 => ⟨S_, .i32⟩
  | 84 => ⟨S8x160x256, .i32⟩
  | 85 => ⟨S8x160x1, .i32⟩
  | 86 => ⟨S16x8x160x12288x1, .i1⟩
  | 87 => ⟨S16x8x160x12288x1, .i32⟩
  | 88 => ⟨S1x1x1x1x256, .i32⟩
  | 89 => ⟨S16x8x160x12288x256, .i32⟩
  | 90 => ⟨S16x8x160x12288x256, .i32⟩
  | 91 => ⟨S16x8x160x12288x256, .i1⟩
  | 92 => ⟨S16x8x160x12288x256, .i1⟩
  | 93 => ⟨S16x8x160x12288x256, .i1⟩
  | 94 => ⟨S16x8x160x12288x256, .i32⟩
  | 95 => ⟨S_, .i32⟩
  | 96 => ⟨S8x160x256, .i32⟩
  | 97 => ⟨S8x160x256, .i32⟩
  | 98 => ⟨S8x160x256, .i32⟩
  | 99 => ⟨S_, .i32⟩
  | 100 => ⟨S8x160x256, .i32⟩
  | 101 => ⟨S8x160x256, .i1⟩
  | 102 => ⟨S8x160x256, .i32⟩
  | 103 => ⟨S_, .i32⟩
  | 104 => ⟨S8x160, .i32⟩
  | 105 => ⟨S_, .i32⟩
  | 106 => ⟨S8x160, .i32⟩
  | 107 => ⟨S8x160, .i32⟩
  | 108 => ⟨S8x160, .i32⟩
  | 109 => ⟨S_, .i32⟩
  | 110 => ⟨S8x160, .i32⟩
  | 111 => ⟨S8x160, .i32⟩
  | 112 => ⟨S8x160, .f32⟩
  | 113 => ⟨S_, .i32⟩
  | 114 => ⟨S8x160, .i32⟩
  | 115 => ⟨S8x160, .i32⟩
  | 116 => ⟨S8x160, .f32⟩
  | 117 => ⟨S_, .f32⟩
  | 118 => ⟨S8x160, .f32⟩
  | 119 => ⟨S8x160, .f32⟩
  | 120 => ⟨S8x160, .f32⟩
  | 121 => ⟨S_, .f32⟩
  | 122 => ⟨S8x160, .f32⟩
  | 123 => ⟨S8x160, .f32⟩
  | 124 => ⟨S_, .f32⟩
  | 125 => ⟨S8x160, .f32⟩
  | 126 => ⟨S8x160, .f32⟩
  | 127 => ⟨S1x8x160x1, .f32⟩
  | _ => ⟨S16x8x160x12288, .f32⟩

abbrev hbmTy0_1 (i : Nat) : BufTy := match i % 128 with
  | 0 => ⟨S16x8x160x12288, .f32⟩
  | 1 => ⟨S16x8x160x12288, .f32⟩
  | 2 => ⟨S16x8x160x12288, .f32⟩
  | 3 => ⟨S_, .i32⟩
  | 4 => ⟨S_, .i32⟩
  | 5 => ⟨S_, .f32⟩
  | 6 => ⟨S16x8x160x12288, .f32⟩
  | 7 => ⟨S16x8x160x12288, .f32⟩
  | 8 => ⟨S_, .f32⟩
  | 9 => ⟨S16x8x160x12288, .f32⟩
  | 10 => ⟨S16x8x160x12288, .f32⟩
  | 11 => ⟨S16x8x160x12288, .i32⟩
  | 12 => ⟨S16x8x160x12288, .i8⟩
  | 13 => ⟨S_, .i32⟩
  | 14 => ⟨S8x160, .i32⟩
  | 15 => ⟨S8x160, .i32⟩
  | 16 => ⟨S8x160, .f32⟩
  | 17 => ⟨S_, .f32⟩
  | 18 => ⟨S8x160, .f32⟩
  | 19 => ⟨S8x160, .f32⟩
  | 20 => ⟨S8x160, .f32⟩
  | 21 => ⟨S8x160x1, .f32⟩
  | 22 => ⟨S8x160x1, .f32⟩
  | 23 => ⟨S8x160x1, .f32⟩
  | 24 => ⟨S8x160x1, .f32⟩
  | 25 => ⟨S8x160x1, .f32⟩
  | 26 => ⟨S8x160x5, .f32⟩
  | 27 => ⟨S1280x5, .f32⟩
  | 28 => ⟨S_, .f32⟩
  | 29 => ⟨S1280x123, .f32⟩
  | 30 => ⟨S1280x128, .f32⟩
  | 31 => ⟨S1280x256, .i32⟩
  | _ => ⟨S16x8x160x12288, .f32⟩

abbrev hbmTy (i : Nat) : BufTy := match i / 128 with
  | 0 => hbmTy0_0 i
  | 1 => hbmTy0_1 i
  | _ => ⟨S16x8x160x12288, .f32⟩

abbrev bufTy : (tb : Table) → Fin (tcTables nBuf tb) → BufTy
  | .hbm, ⟨i, _⟩ => hbmTy i
  | _, _ => ⟨S16x8x160x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_16 : Ref sig .tc := ⟨.hbm, 103, rfl⟩
abbrev main_v79 : Ref sig .tc := ⟨.hbm, 104, rfl⟩
abbrev main_c_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_19 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_cst_22 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_23 : Ref sig .tc := ⟨.hbm, 131, rfl⟩
abbrev main_c_24 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_25 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_26 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_27 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]
-- ==== Proof.FrameBody.lean ====
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## The conditions on the group number -/

theorem cond4_of_cond1 (i : grid0.Coords) (h : k0_cond1 i = 1#1) : ¬ k0_cond4 i = 1#1 := by
  have key : ∀ (a : Fin 41) (b : Fin 16), Scalar.cmpi .ne (Scalar.extui (Scalar.andi (Scalar.cmpi .eq (BitVec.ofNat 32 b.val) 0#32) (Scalar.cmpi .sgt (BitVec.ofNat 32 a.val) 0#32)) : BitVec 32) 0#32 = 1#1 →
      ¬ Scalar.cmpi .ne (Scalar.extui (Scalar.cmpi .eq (BitVec.ofNat 32 a.val) 0#32) : BitVec 32) 0#32 = 1#1 := by decide
  exact key (i 0) (i 1) h

theorem cond5_of_cond4 (i : grid0.Coords) (h : k0_cond4 i = 1#1) : ¬ k0_cond5 i = 1#1 := by
  have key : ∀ (a : Fin 41), Scalar.cmpi .ne (Scalar.extui (Scalar.cmpi .eq (BitVec.ofNat 32 a.val) 0#32) : BitVec 32) 0#32 = 1#1 →
      ¬ Scalar.cmpi .ne (Scalar.extui (Scalar.andi (Scalar.cmpi .sgt (BitVec.ofNat 32 a.val) 0#32) (Scalar.cmpi .slt (BitVec.ofNat 32 a.val) 40#32)) : BitVec 32) 0#32 = 1#1 := by decide
  exact key (i 0) h

theorem cond6_of_cond4 (i : grid0.Coords) (h : k0_cond4 i = 1#1) : ¬ k0_cond6 i = 1#1 := by
  have key : ∀ (a : Fin 41), Scalar.cmpi .ne (Scalar.extui (Scalar.cmpi .eq (BitVec.ofNat 32 a.val) 0#32) : BitVec 32) 0#32 = 1#1 →
      ¬ Scalar.cmpi .ne (Scalar.extui (Scalar.cmpi .eq (BitVec.ofNat 32 a.val) 40#32) : BitVec 32) 0#32 = 1#1 := by decide
  exact key (i 0) h

theorem cond6_of_cond5 (i : grid0.Coords) (h : k0_cond5 i = 1#1) : ¬ k0_cond6 i = 1#1 := by
  have key : ∀ (a : Fin 41), Scalar.cmpi .ne (Scalar.extui (Scalar.andi (Scalar.cmpi .sgt (BitVec.ofNat 32 a.val) 0#32) (Scalar.cmpi .slt (BitVec.ofNat 32 a.val) 40#32)) : BitVec 32) 0#32 = 1#1 →
      ¬ Scalar.cmpi .ne (Scalar.extui (Scalar.cmpi .eq (BitVec.ofNat 32 a.val) 40#32) : BitVec 32) 0#32 = 1#1 := by decide
  exact key (i 0) h

theorem cond6_of_not (i : grid0.Coords) (h4 : ¬ k0_cond4 i = 1#1) (h5 : ¬ k0_cond5 i = 1#1) : k0_cond6 i = 1#1 := by
  have key : ∀ (a : Fin 41), ¬ Scalar.cmpi .ne (Scalar.extui (Scalar.cmpi .eq (BitVec.ofNat 32 a.val) 0#32) : BitVec 32) 0#32 = 1#1 →
      ¬ Scalar.cmpi .ne (Scalar.extui (Scalar.andi (Scalar.cmpi .sgt (BitVec.ofNat 32 a.val) 0#32) (Scalar.cmpi .slt (BitVec.ofNat 32 a.val) 40#32)) : BitVec 32) 0#32 = 1#1 →
      Scalar.cmpi .ne (Scalar.extui (Scalar.cmpi .eq (BitVec.ofNat 32 a.val) 40#32) : BitVec 32) 0#32 = 1#1 := by decide
  exact key (i 0) h4 h5

/-! ## The loop that empties the kept values: one trip and its invariant -/

/-- What the loop carries: the six arrays of kept sub-bins and the sub-bin counts so far. -/
abbrev DropSt (F : FTy → Type) [FloatOps F] := FVec F S32x128 .f32 × FVec F S32x128 .f32 × FVec F S32x128 .f32 × FVec F S32x128 .f32 × FVec F S32x128 .f32 × FVec F S32x128 .f32 × FVec F S32x256 .f32

/-- One trip: the largest sub-bin left is counted into its lane and taken out. -/
@[irreducible] def dropStep (v63 : IVec S32x256 32) (a : DropSt F) : DropSt F :=
  (k0_pay47 a.1 a.2.1 a.2.2.1 a.2.2.2.1 a.2.2.2.2.1 a.2.2.2.2.2.1,
   k0_pay48 a.1 a.2.1 a.2.2.1 a.2.2.2.1 a.2.2.2.2.1 a.2.2.2.2.2.1,
   k0_pay66 a.2.2.1 (k0_pay42 a.1 a.2.1 a.2.2.1 a.2.2.2.1 a.2.2.2.2.1 a.2.2.2.2.2.1) (Scalar.ofBits .f32 0xBF800000#32),
   k0_pay67 a.2.2.2.1 (k0_pay43 a.1 a.2.1 a.2.2.1 a.2.2.2.1 a.2.2.2.2.1 a.2.2.2.2.2.1),
   k0_pay68 a.2.2.2.2.1 (k0_pay44 a.1 a.2.1 a.2.2.1 a.2.2.2.1 a.2.2.2.2.1 a.2.2.2.2.2.1),
   k0_pay69 a.2.2.2.2.2.1 (k0_pay45 a.1 a.2.1 a.2.2.1 a.2.2.2.1 a.2.2.2.2.1 a.2.2.2.2.2.1),
   k0_pay46 v63 a.1 a.2.1 a.2.2.1 a.2.2.2.1 a.2.2.2.2.1 a.2.2.2.2.2.1 a.2.2.2.2.2.2)

/-- What the loop carries before trip `k`, from `init`. -/
def dropIter (v63 : IVec S32x256 32) (init : DropSt F) : ℕ → DropSt F
  | 0 => init
  | k + 1 => dropStep v63 (dropIter v63 init k)

theorem dropIter_succ (v63 : IVec S32x256 32) (init : DropSt F) (k : ℕ) : dropIter v63 init (k + 1) = dropStep v63 (dropIter v63 init k) := rfl

set_option warn.classDefReducibility false in
/-- The loop by its invariant: the carried value before trip `k` is `dropIter` at `k`. -/
@[sl_loop] def loopInv_k0_t4 (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole) (k0_h1 : k0_cond1 i = 1#1) (v56 : FVec F S32x128 .f32) (v58 : FVec F S32x128 .f32) (v60 : FVec F S32x128 .f32) (v62 : FVec F S32x128 .f32) (v63 : IVec S32x256 32) (v71 : FVec F S32x1 .f32) (v165 : FVec F S32x128 .f32) (v168 : FVec F S32x128 .f32) (v173 : IVec S32x128 1) (v174 : FVec F S32x128 .f32) (init : DropSt F) :
    LoopInvTy_k0_t4 (F := F) Unit ℕ (UR sig nD τ) ℕ Variants.none c none Set.univ i arg2 harg2 arg3 harg3 arg4 harg4 arg5 harg5 arg6 harg6 arg7 harg7 arg8 harg8 k0_h1 v56 v58 v60 v62 v63 v71 v165 v168 v173 v174 init where
  inv := fun k acc => iprop(⌜acc = dropIter v63 init k⌝)
  step := fun k acc => by
    obtain ⟨a0, a1, a2, a3, a4, a5, a6⟩ := acc
    iintro %h
    unfold k0_t4_body
    sl_exec
    sl_step
    ipureintro
    rw [dropIter_succ, ← h]
    unfold dropStep
    rfl

/-- What the body owns at a point: the input window at contents `X2`, every other buffer at some contents. -/
abbrev Held (c : Dev nD) (arg2 : Memref sig .tc .vmem S1x1x32x12288 .f32) (arg3 : Memref sig .tc .vmem S1x1x32x12288 .i8) (arg4 : Memref sig .tc .vmem S32x128 .f32) (arg5 : Memref sig .tc .vmem S32x256 .i32) (arg6 : Memref sig .tc .vmem S16x32x12288 .f32) (arg7 : Memref sig .tc .vmem S16x3x32x128 .f32) (arg8 : Memref sig .tc .vmem S32x128 .f32)
    (X2 : S1x1x32x12288.Idx → Elt F .f32) : sProp 𝕄 :=
  iprop(owns (c : Thread nD τ) arg2 fullShare X2 ∗ (∃ d, owns (c : Thread nD τ) arg3 fullShare d) ∗ (∃ d, owns (c : Thread nD τ) arg4 fullShare d)
    ∗ (∃ d, owns (c : Thread nD τ) arg5 fullShare d) ∗ (∃ d, owns (c : Thread nD τ) arg6 fullShare d) ∗ (∃ d, owns (c : Thread nD τ) arg7 fullShare d)
    ∗ (∃ d, owns (c : Thread nD τ) arg8 fullShare d))

set_option maxHeartbeats 4000000 in
theorem kernelRun (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
    (X2 : S1x1x32x12288.Idx → Elt F .f32) :
    Held c arg2 arg3 arg4 arg5 arg6 arg7 arg8 X2
      ⊢ wp frame (wpE (defs₀ (F := F)) Variants.none c none) Set.univ
          (cc0_chan_quant i arg2 harg2 arg3 harg3 arg4 harg4 arg5 harg5 arg6 harg6 arg7 harg7 arg8 harg8)
          (fun _ => Held c arg2 arg3 arg4 arg5 arg6 arg7 arg8 X2) := by
  simp only [cc0_chan_quant_eq_skeleton]; unfold cc0_chan_quant_skel
  unfold Held owns
  iintro ⟨⟨%f2, %h2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩⟩
  by_cases h1 : k0_cond1 i = 1#1
  · have h4 := cond4_of_cond1 i h1
    sl_exec
    by_cases hv : kernelRun.sl.v84 c i arg2 harg2 arg3 harg3 arg4 harg4 arg5 harg5 arg6 harg6 arg7 harg7 arg8 harg8 f7 h1 = 1#1
    · sl_exec
      by_cases hw : kernelRun.sl.v87 c i arg2 harg2 arg3 harg3 arg4 harg4 arg5 harg5 arg6 harg6 arg7 harg7 arg8 harg8 f7 h1 = 1#1
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
    · sl_exec
      by_cases hw : kernelRun.sl.v87 c i arg2 harg2 arg3 harg3 arg4 harg4 arg5 harg5 arg6 harg6 arg7 harg7 arg8 harg8 f7 h1 = 1#1
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
  · by_cases h4 : k0_cond4 i = 1#1
    · have h5 := cond5_of_cond4 i h4
      have h6 := cond6_of_cond4 i h4
      sl_exec
      sl_step
      isplitl [H2]
      · iexists _; isplitr
        · ipureintro; exact h2
        · iexact H2
      isplitl [H3]
      · iexists _; iexists _; isplitr; swap
        · iexact H3
        · ipureintro; rfl
      isplitl [H4]
      · iexists _; iexists _; isplitr; swap
        · iexact H4
        · ipureintro; rfl
      isplitl [H5]
      · iexists _; iexists _; isplitr; swap
        · iexact H5
        · ipureintro; rfl
      isplitl [H6]
      · iexists _; iexists _; isplitr; swap
        · iexact H6
        · ipureintro; rfl
      isplitl [H7]
      · iexists _; iexists _; isplitr; swap
        · iexact H7
        · ipureintro; rfl
      iexists _; iexists _; isplitr; swap
      · iexact H8
      · ipureintro; rfl
    · by_cases h5 : k0_cond5 i = 1#1
      · have h6 := cond6_of_cond5 i h5
        sl_exec
        sl_step
        isplitl [H2]
        · iexists _; isplitr
          · ipureintro; exact h2
          · iexact H2
        isplitl [H3]
        · iexists _; iexists _; isplitr; swap
          · iexact H3
          · ipureintro; rfl
        isplitl [H4]
        · iexists _; iexists _; isplitr; swap
          · iexact H4
          · ipureintro; rfl
        isplitl [H5]
        · iexists _; iexists _; isplitr; swap
          · iexact H5
          · ipureintro; rfl
        isplitl [H6]
        · iexists _; iexists _; isplitr; swap
          · iexact H6
          · ipureintro; rfl
        isplitl [H7]
        · iexists _; iexists _; isplitr; swap
          · iexact H7
          · ipureintro; rfl
        iexists _; iexists _; isplitr; swap
        · iexact H8
        · ipureintro; rfl
      · have h6 := cond6_of_not i h4 h5
        sl_exec
        sl_step
        isplitl [H2]
        · iexists _; isplitr
          · ipureintro; exact h2
          · iexact H2
        isplitl [H3]
        · iexists _; iexists _; isplitr; swap
          · iexact H3
          · ipureintro; rfl
        isplitl [H4]
        · iexists _; iexists _; isplitr; swap
          · iexact H4
          · ipureintro; rfl
        isplitl [H5]
        · iexists _; iexists _; isplitr; swap
          · iexact H5
          · ipureintro; rfl
        isplitl [H6]
        · iexists _; iexists _; isplitr; swap
          · iexact H6
          · ipureintro; rfl
        isplitl [H7]
        · iexists _; iexists _; isplitr; swap
          · iexact H7
          · ipureintro; rfl
        iexists _; iexists _; isplitr; swap
        · iexact H8
        · ipureintro; rfl

end Cert.Kernel.Hand

end
-- ==== Proof.FrameRun.lean ====
module

public import proofs.«01_k».proof.Proof.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data of the frame: the arrays as the region finds them, nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's row of the table at a point is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at a point: from the scratch at anything and each window's buffer at anything, back to the same. -/
theorem body_obligation (c : Dev nD) : (rdat (F := F) m c).BodyObligation (defs₀ (F := F)) Variants.none () Set.univ := fun t Y _ => by
  rw [bigSep_W0, bigSep_W0, defs₀_row]
  show iprop(Pipeline.ΦA spec0 c ∗ (rdat m c).owesAt () t.castSucc ∗ owns (c : Thread nD τ) (st0_0 t) fullShare (Y 0)
    ∗ owns (c : Thread nD τ) (st0_1 t) fullShare (Y 1) ∗ owns (c : Thread nD τ) (st0_2 t) fullShare (Y 2) ∗ owns (c : Thread nD τ) (st0_3 t) fullShare (Y 3)) ⊢
    wp frame (wpE (defs₀ (F := F)) Variants.none (c : Thread nD τ) none) Set.univ (bodyAt0 t) fun _ =>
      iprop(Pipeline.ΦA spec0 c ∗ (rdat m c).owesAt () t.castSucc ∗ (∃ X, ⌜True⌝ ∗ owns (c : Thread nD τ) (st0_0 t) fullShare X)
        ∗ (∃ X, ⌜True⌝ ∗ owns (c : Thread nD τ) (st0_1 t) fullShare X) ∗ (∃ X, ⌜True⌝ ∗ owns (c : Thread nD τ) (st0_2 t) fullShare X)
        ∗ (∃ X, ⌜True⌝ ∗ owns (c : Thread nD τ) (st0_3 t) fullShare X))
  unfold Pipeline.ΦA bodyAt0
  rw [scopedRest0_eq]
  iintro ⟨⟨⟨⟨%f6, H6⟩, ⟨%f7, H7⟩, ⟨%f8, H8⟩⟩, Hg⟩, HO, H0, H1, H2, H3⟩
  iapply (wp_wand_r Idealize.ShloMosaic.frame (wpE (defs₀ (F := F)) Variants.none (c : Thread nD τ) none) Set.univ)
  isplitl [H0 H1 H2 H3 H6 H7 H8]
  · iapply (kernelRun c (grid0.coords t) (st0_0 t) _ (st0_1 t) _ (st0_2 t) _ (st0_3 t) _ (Memref.whole cc0_scratch0) _ (Memref.whole cc0_scratch1) _ (Memref.whole cc0_scratch2) _ (Y 0))
    unfold Held
    simp only [owns_whole]
    isplitl [H0]; · iexact H0
    isplitl [H1]; · iexists _; iexact H1
    isplitl [H2]; · iexists _; iexact H2
    isplitl [H3]; · iexists _; iexact H3
    isplitl [H6]; · iexists _; iexact H6
    isplitl [H7]; · iexists _; iexact H7
    iexists _; iexact H8
  · iintro %_ H
    unfold Held
    simp only [owns_whole]
    icases H with ⟨H0, ⟨%d1, H1⟩, ⟨%d2, H2⟩, ⟨%d3, H3⟩, ⟨%g6, H6⟩, ⟨%g7, H7⟩, ⟨%g8, H8⟩⟩
    isplitl [H6 H7 H8 Hg]
    · isplitl [H6 H7 H8]
      · isplitl [H6]; · iexists _; iexact H6
        isplitl [H7]; · iexists _; iexact H7
        iexists _; iexact H8
      · iexact Hg
    isplitl [HO]; · iexact HO
    isplitl [H0]
    · iexists _; isplitr
      · ipureintro; trivial
      · iexact H0
    isplitl [H1]
    · iexists _; isplitr
      · ipureintro; trivial
      · iexact H1
    isplitl [H2]
    · iexists _; isplitr
      · ipureintro; trivial
      · iexact H2
    iexists _; isplitr
    · ipureintro; trivial
    · iexact H3

set_option backward.isDefEq.respectTransparency.types false in
/-- At any values, from any memory with zero counters: every fair execution of @main ends, with the argument array
    unchanged and every semaphore counter at zero. -/
theorem run_main :
    θ_run defs (onTc (τ := τ) (main (F := F))) (s₀ m ρ)
      (fun r => (∀ c : Dev nD, r.2.mem ((c.tc : Thread nD τ).loc main_arg0) = m ((c.tc : Thread nD τ).loc main_arg0)) ∧ r.2.sem = fun _ => 0) :=
  Pipeline.RDat.θ_run_frame cfgs (0 : Fin 1) launch0 defs₀ Variants.none (rdat m) m ρ main
    (body_obligation m) (fun c w => by unfold RDat.share; split <;> rfl) (fun _ _ => rfl) (V m) (hmain m Variants.none) (fun _ _ => rfl) (fun _ _ => rfl)
    _ (fun r h => ⟨fun c => (h.1.arr_in c 0 rfl).trans rfl, h.2⟩)

end Cert.Kernel.Hand

end
-- ==== Proof.FrameBodyIdeal.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## The conditions on the group number -/

theorem cond4_of_cond1 (i : grid0.Coords) (h : k0_cond1 i = 1#1) : ¬ k0_cond4 i = 1#1 := by
  have key : ∀ (a : Fin 41) (b : Fin 16), Scalar.cmpi .ne (Scalar.extui (Scalar.andi (Scalar.cmpi .eq (BitVec.ofNat 32 b.val) 0#32) (Scalar.cmpi .sgt (BitVec.ofNat 32 a.val) 0#32)) : BitVec 32) 0#32 = 1#1 →
      ¬ Scalar.cmpi .ne (Scalar.extui (Scalar.cmpi .eq (BitVec.ofNat 32 a.val) 0#32) : BitVec 32) 0#32 = 1#1 := by decide
  exact key (i 0) (i 1) h

theorem cond5_of_cond4 (i : grid0.Coords) (h : k0_cond4 i = 1#1) : ¬ k0_cond5 i = 1#1 := by
  have key : ∀ (a : Fin 41), Scalar.cmpi .ne (Scalar.extui (Scalar.cmpi .eq (BitVec.ofNat 32 a.val) 0#32) : BitVec 32) 0#32 = 1#1 →
      ¬ Scalar.cmpi .ne (Scalar.extui (Scalar.andi (Scalar.cmpi .sgt (BitVec.ofNat 32 a.val) 0#32) (Scalar.cmpi .slt (BitVec.ofNat 32 a.val) 40#32)) : BitVec 32) 0#32 = 1#1 := by decide
  exact key (i 0) h

theorem cond6_of_cond4 (i : grid0.Coords) (h : k0_cond4 i = 1#1) : ¬ k0_cond6 i = 1#1 := by
  have key : ∀ (a : Fin 41), Scalar.cmpi .ne (Scalar.extui (Scalar.cmpi .eq (BitVec.ofNat 32 a.val) 0#32) : BitVec 32) 0#32 = 1#1 →
      ¬ Scalar.cmpi .ne (Scalar.extui (Scalar.cmpi .eq (BitVec.ofNat 32 a.val) 40#32) : BitVec 32) 0#32 = 1#1 := by decide
  exact key (i 0) h

theorem cond6_of_cond5 (i : grid0.Coords) (h : k0_cond5 i = 1#1) : ¬ k0_cond6 i = 1#1 := by
  have key : ∀ (a : Fin 41), Scalar.cmpi .ne (Scalar.extui (Scalar.andi (Scalar.cmpi .sgt (BitVec.ofNat 32 a.val) 0#32) (Scalar.cmpi .slt (BitVec.ofNat 32 a.val) 40#32)) : BitVec 32) 0#32 = 1#1 →
      ¬ Scalar.cmpi .ne (Scalar.extui (Scalar.cmpi .eq (BitVec.ofNat 32 a.val) 40#32) : BitVec 32) 0#32 = 1#1 := by decide
  exact key (i 0) h

theorem cond6_of_not (i : grid0.Coords) (h4 : ¬ k0_cond4 i = 1#1) (h5 : ¬ k0_cond5 i = 1#1) : k0_cond6 i = 1#1 := by
  have key : ∀ (a : Fin 41), ¬ Scalar.cmpi .ne (Scalar.extui (Scalar.cmpi .eq (BitVec.ofNat 32 a.val) 0#32) : BitVec 32) 0#32 = 1#1 →
      ¬ Scalar.cmpi .ne (Scalar.extui (Scalar.andi (Scalar.cmpi .sgt (BitVec.ofNat 32 a.val) 0#32) (Scalar.cmpi .slt (BitVec.ofNat 32 a.val) 40#32)) : BitVec 32) 0#32 = 1#1 →
      Scalar.cmpi .ne (Scalar.extui (Scalar.cmpi .eq (BitVec.ofNat 32 a.val) 40#32) : BitVec 32) 0#32 = 1#1 := by decide
  exact key (i 0) h4 h5

/-! ## The loop that empties the kept values: one trip and its invariant -/

/-- What the loop carries: the six arrays of kept sub-bins and the sub-bin counts so far. -/
abbrev DropSt (F : FTy → Type) [FloatOps F] := FVec F S32x128 .f32 × FVec F S32x128 .f32 × FVec F S32x128 .f32 × FVec F S32x128 .f32 × FVec F S32x128 .f32 × FVec F S32x128 .f32 × FVec F S32x256 .f32

/-- One trip: the largest sub-bin left is counted into its lane and taken out. -/
@[irreducible] def dropStep (v63 : IVec S32x256 32) (a : DropSt F) : DropSt F :=
  (k0_pay47 a.1 a.2.1 a.2.2.1 a.2.2.2.1 a.2.2.2.2.1 a.2.2.2.2.2.1,
   k0_pay48 a.1 a.2.1 a.2.2.1 a.2.2.2.1 a.2.2.2.2.1 a.2.2.2.2.2.1,
   k0_pay66 a.2.2.1 (k0_pay42 a.1 a.2.1 a.2.2.1 a.2.2.2.1 a.2.2.2.2.1 a.2.2.2.2.2.1) (Scalar.ofBits .f32 0xBF800000#32),
   k0_pay67 a.2.2.2.1 (k0_pay43 a.1 a.2.1 a.2.2.1 a.2.2.2.1 a.2.2.2.2.1 a.2.2.2.2.2.1),
   k0_pay68 a.2.2.2.2.1 (k0_pay44 a.1 a.2.1 a.2.2.1 a.2.2.2.1 a.2.2.2.2.1 a.2.2.2.2.2.1),
   k0_pay69 a.2.2.2.2.2.1 (k0_pay45 a.1 a.2.1 a.2.2.1 a.2.2.2.1 a.2.2.2.2.1 a.2.2.2.2.2.1),
   k0_pay46 v63 a.1 a.2.1 a.2.2.1 a.2.2.2.1 a.2.2.2.2.1 a.2.2.2.2.2.1 a.2.2.2.2.2.2)

/-- What the loop carries before trip `k`, from `init`. -/
def dropIter (v63 : IVec S32x256 32) (init : DropSt F) : ℕ → DropSt F
  | 0 => init
  | k + 1 => dropStep v63 (dropIter v63 init k)

theorem dropIter_succ (v63 : IVec S32x256 32) (init : DropSt F) (k : ℕ) : dropIter v63 init (k + 1) = dropStep v63 (dropIter v63 init k) := rfl

set_option warn.classDefReducibility false in
/-- The loop by its invariant: the carried value before trip `k` is `dropIter` at `k`. -/
@[sl_loop] def loopInv_k0_t4 (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole) (k0_h1 : k0_cond1 i = 1#1) (v56 : FVec F S32x128 .f32) (v58 : FVec F S32x128 .f32) (v60 : FVec F S32x128 .f32) (v62 : FVec F S32x128 .f32) (v63 : IVec S32x256 32) (v71 : FVec F S32x1 .f32) (v165 : FVec F S32x128 .f32) (v168 : FVec F S32x128 .f32) (v173 : IVec S32x128 1) (v174 : FVec F S32x128 .f32) (init : DropSt F) :
    LoopInvTy_k0_t4 (F := F) Unit ℕ (UR sig nD τ) ℕ Variants.none c none Set.univ i arg2 harg2 arg3 harg3 arg4 harg4 arg5 harg5 arg6 harg6 arg7 harg7 arg8 harg8 k0_h1 v56 v58 v60 v62 v63 v71 v165 v168 v173 v174 init where
  inv := fun k acc => iprop(⌜acc = dropIter v63 init k⌝)
  step := fun k acc => by
    obtain ⟨a0, a1, a2, a3, a4, a5, a6⟩ := acc
    iintro %h
    unfold k0_t4_body
    sl_exec
    sl_step
    ipureintro
    rw [dropIter_succ, ← h]
    unfold dropStep
    rfl

/-- What the body owns at a point: the input window at contents `X2`, every other buffer at some contents. -/
abbrev Held (c : Dev nD) (arg2 : Memref sig .tc .vmem S1x1x32x12288 .f32) (arg3 : Memref sig .tc .vmem S1x1x32x12288 .i8) (arg4 : Memref sig .tc .vmem S32x128 .f32) (arg5 : Memref sig .tc .vmem S32x256 .i32) (arg6 : Memref sig .tc .vmem S16x32x12288 .f32) (arg7 : Memref sig .tc .vmem S16x3x32x128 .f32) (arg8 : Memref sig .tc .vmem S32x128 .f32)
    (X2 : S1x1x32x12288.Idx → Elt F .f32) : sProp 𝕄 :=
  iprop(owns (c : Thread nD τ) arg2 fullShare X2 ∗ (∃ d, owns (c : Thread nD τ) arg3 fullShare d) ∗ (∃ d, owns (c : Thread nD τ) arg4 fullShare d)
    ∗ (∃ d, owns (c : Thread nD τ) arg5 fullShare d) ∗ (∃ d, owns (c : Thread nD τ) arg6 fullShare d) ∗ (∃ d, owns (c : Thread nD τ) arg7 fullShare d)
    ∗ (∃ d, owns (c : Thread nD τ) arg8 fullShare d))

set_option maxHeartbeats 4000000 in
theorem kernelRun (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
    (X2 : S1x1x32x12288.Idx → Elt F .f32) :
    Held c arg2 arg3 arg4 arg5 arg6 arg7 arg8 X2
      ⊢ wp frame (wpE (defs₀ (F := F)) Variants.none c none) Set.univ
          (cc0_chan_quant i arg2 harg2 arg3 harg3 arg4 harg4 arg5 harg5 arg6 harg6 arg7 harg7 arg8 harg8)
          (fun _ => Held c arg2 arg3 arg4 arg5 arg6 arg7 arg8 X2) := by
  simp only [cc0_chan_quant_eq_skeleton]; unfold cc0_chan_quant_skel
  unfold Held owns
  iintro ⟨⟨%f2, %h2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩⟩
  by_cases h1 : k0_cond1 i = 1#1
  · have h4 := cond4_of_cond1 i h1
    sl_exec
    by_cases hv : kernelRun.sl.v84 c i arg2 harg2 arg3 harg3 arg4 harg4 arg5 harg5 arg6 harg6 arg7 harg7 arg8 harg8 f7 h1 = 1#1
    · sl_exec
      by_cases hw : kernelRun.sl.v87 c i arg2 harg2 arg3 harg3 arg4 harg4 arg5 harg5 arg6 harg6 arg7 harg7 arg8 harg8 f7 h1 = 1#1
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
    · sl_exec
      by_cases hw : kernelRun.sl.v87 c i arg2 harg2 arg3 harg3 arg4 harg4 arg5 harg5 arg6 harg6 arg7 harg7 arg8 harg8 f7 h1 = 1#1
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
      · sl_exec
        by_cases h5 : k0_cond5 i = 1#1
        · have h6 := cond6_of_cond5 i h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
        · have h6 := cond6_of_not i h4 h5
          sl_exec
          sl_step
          isplitl [H2]
          · iexists _; isplitr
            · ipureintro; exact h2
            · iexact H2
          isplitl [H3]
          · iexists _; iexists _; isplitr; swap
            · iexact H3
            · ipureintro; rfl
          isplitl [H4]
          · iexists _; iexists _; isplitr; swap
            · iexact H4
            · ipureintro; rfl
          isplitl [H5]
          · iexists _; iexists _; isplitr; swap
            · iexact H5
            · ipureintro; rfl
          isplitl [H6]
          · iexists _; iexists _; isplitr; swap
            · iexact H6
            · ipureintro; rfl
          isplitl [H7]
          · iexists _; iexists _; isplitr; swap
            · iexact H7
            · ipureintro; rfl
          iexists _; iexists _; isplitr; swap
          · iexact H8
          · ipureintro; rfl
  · by_cases h4 : k0_cond4 i = 1#1
    · have h5 := cond5_of_cond4 i h4
      have h6 := cond6_of_cond4 i h4
      sl_exec
      sl_step
      isplitl [H2]
      · iexists _; isplitr
        · ipureintro; exact h2
        · iexact H2
      isplitl [H3]
      · iexists _; iexists _; isplitr; swap
        · iexact H3
        · ipureintro; rfl
      isplitl [H4]
      · iexists _; iexists _; isplitr; swap
        · iexact H4
        · ipureintro; rfl
      isplitl [H5]
      · iexists _; iexists _; isplitr; swap
        · iexact H5
        · ipureintro; rfl
      isplitl [H6]
      · iexists _; iexists _; isplitr; swap
        · iexact H6
        · ipureintro; rfl
      isplitl [H7]
      · iexists _; iexists _; isplitr; swap
        · iexact H7
        · ipureintro; rfl
      iexists _; iexists _; isplitr; swap
      · iexact H8
      · ipureintro; rfl
    · by_cases h5 : k0_cond5 i = 1#1
      · have h6 := cond6_of_cond5 i h5
        sl_exec
        sl_step
        isplitl [H2]
        · iexists _; isplitr
          · ipureintro; exact h2
          · iexact H2
        isplitl [H3]
        · iexists _; iexists _; isplitr; swap
          · iexact H3
          · ipureintro; rfl
        isplitl [H4]
        · iexists _; iexists _; isplitr; swap
          · iexact H4
          · ipureintro; rfl
        isplitl [H5]
        · iexists _; iexists _; isplitr; swap
          · iexact H5
          · ipureintro; rfl
        isplitl [H6]
        · iexists _; iexists _; isplitr; swap
          · iexact H6
          · ipureintro; rfl
        isplitl [H7]
        · iexists _; iexists _; isplitr; swap
          · iexact H7
          · ipureintro; rfl
        iexists _; iexists _; isplitr; swap
        · iexact H8
        · ipureintro; rfl
      · have h6 := cond6_of_not i h4 h5
        sl_exec
        sl_step
        isplitl [H2]
        · iexists _; isplitr
          · ipureintro; exact h2
          · iexact H2
        isplitl [H3]
        · iexists _; iexists _; isplitr; swap
          · iexact H3
          · ipureintro; rfl
        isplitl [H4]
        · iexists _; iexists _; isplitr; swap
          · iexact H4
          · ipureintro; rfl
        isplitl [H5]
        · iexists _; iexists _; isplitr; swap
          · iexact H5
          · ipureintro; rfl
        isplitl [H6]
        · iexists _; iexists _; isplitr; swap
          · iexact H6
          · ipureintro; rfl
        isplitl [H7]
        · iexists _; iexists _; isplitr; swap
          · iexact H7
          · ipureintro; rfl
        iexists _; iexists _; isplitr; swap
        · iexact H8
        · ipureintro; rfl

end Cert.KernelIdeal.Hand

end
-- ==== Proof.FrameRunIdeal.lean ====
module

public import proofs.«01_k».proof.Proof.FrameBodyIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The proof data of the frame: the arrays as the region finds them, nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's row of the table at a point is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at a point: from the scratch at anything and each window's buffer at anything, back to the same. -/
theorem body_obligation (c : Dev nD) : (rdat (F := F) m c).BodyObligation (defs₀ (F := F)) Variants.none () Set.univ := fun t Y _ => by
  rw [bigSep_W0, bigSep_W0, defs₀_row]
  show iprop(Pipeline.ΦA spec0 c ∗ (rdat m c).owesAt () t.castSucc ∗ owns (c : Thread nD τ) (st0_0 t) fullShare (Y 0)
    ∗ owns (c : Thread nD τ) (st0_1 t) fullShare (Y 1) ∗ owns (c : Thread nD τ) (st0_2 t) fullShare (Y 2) ∗ owns (c : Thread nD τ) (st0_3 t) fullShare (Y 3)) ⊢
    wp frame (wpE (defs₀ (F := F)) Variants.none (c : Thread nD τ) none) Set.univ (bodyAt0 t) fun _ =>
      iprop(Pipeline.ΦA spec0 c ∗ (rdat m c).owesAt () t.castSucc ∗ (∃ X, ⌜True⌝ ∗ owns (c : Thread nD τ) (st0_0 t) fullShare X)
        ∗ (∃ X, ⌜True⌝ ∗ owns (c : Thread nD τ) (st0_1 t) fullShare X) ∗ (∃ X, ⌜True⌝ ∗ owns (c : Thread nD τ) (st0_2 t) fullShare X)
        ∗ (∃ X, ⌜True⌝ ∗ owns (c : Thread nD τ) (st0_3 t) fullShare X))
  unfold Pipeline.ΦA bodyAt0
  rw [scopedRest0_eq]
  iintro ⟨⟨⟨⟨%f6, H6⟩, ⟨%f7, H7⟩, ⟨%f8, H8⟩⟩, Hg⟩, HO, H0, H1, H2, H3⟩
  iapply (wp_wand_r Idealize.ShloMosaic.frame (wpE (defs₀ (F := F)) Variants.none (c : Thread nD τ) none) Set.univ)
  isplitl [H0 H1 H2 H3 H6 H7 H8]
  · iapply (kernelRun c (grid0.coords t) (st0_0 t) _ (st0_1 t) _ (st0_2 t) _ (st0_3 t) _ (Memref.whole cc0_scratch0) _ (Memref.whole cc0_scratch1) _ (Memref.whole cc0_scratch2) _ (Y 0))
    unfold Held
    simp only [owns_whole]
    isplitl [H0]; · iexact H0
    isplitl [H1]; · iexists _; iexact H1
    isplitl [H2]; · iexists _; iexact H2
    isplitl [H3]; · iexists _; iexact H3
    isplitl [H6]; · iexists _; iexact H6
    isplitl [H7]; · iexists _; iexact H7
    iexists _; iexact H8
  · iintro %_ H
    unfold Held
    simp only [owns_whole]
    icases H with ⟨H0, ⟨%d1, H1⟩, ⟨%d2, H2⟩, ⟨%d3, H3⟩, ⟨%g6, H6⟩, ⟨%g7, H7⟩, ⟨%g8, H8⟩⟩
    isplitl [H6 H7 H8 Hg]
    · isplitl [H6 H7 H8]
      · isplitl [H6]; · iexists _; iexact H6
        isplitl [H7]; · iexists _; iexact H7
        iexists _; iexact H8
      · iexact Hg
    isplitl [HO]; · iexact HO
    isplitl [H0]
    · iexists _; isplitr
      · ipureintro; trivial
      · iexact H0
    isplitl [H1]
    · iexists _; isplitr
      · ipureintro; trivial
      · iexact H1
    isplitl [H2]
    · iexists _; isplitr
      · ipureintro; trivial
      · iexact H2
    iexists _; isplitr
    · ipureintro; trivial
    · iexact H3

set_option backward.isDefEq.respectTransparency.types false in
/-- At any values, from any memory with zero counters: every fair execution of @main ends, with the argument array
    unchanged and every semaphore counter at zero. -/
theorem run_main :
    θ_run defs (onTc (τ := τ) (main (F := F))) (s₀ m ρ)
      (fun r => (∀ c : Dev nD, r.2.mem ((c.tc : Thread nD τ).loc main_arg0) = m ((c.tc : Thread nD τ).loc main_arg0)) ∧ r.2.sem = fun _ => 0) :=
  Pipeline.RDat.θ_run_frame cfgs (0 : Fin 1) launch0 defs₀ Variants.none (rdat m) m ρ main
    (body_obligation m) (fun c w => by unfold RDat.share; split <;> rfl) (fun _ _ => rfl) (V m) (hmain m Variants.none) (fun _ _ => rfl) (fun _ _ => rfl)
    _ (fun r h => ⟨fun c => (h.1.arr_in c 0 rfl).trans rfl, h.2⟩)

end Cert.KernelIdeal.Hand

end
-- ==== Proof.Offsets.lean ====
module

public import proofs.«01_k».proof.Proof.Gen.KernelIdeal.Skeleton
public import proofs.«01_k».proof.Proof.Gen.KernelIdeal.Loops

@[expose] public section

namespace Cert.KernelIdeal.Hand

open Cert.KernelIdeal Cert.KernelIdeal.Gen
open Idealize.ShloMosaic

/-! The places the loads and stores of the kernel name, in closed form. -/

theorem off1_eq (k : Fin 16) : k0_off1 k = ![k.val, 0, 0, 0] := by
  have h : ∀ k : Fin 16, k0_off1 k 0 = k.val ∧ k0_off1 k 1 = 0 ∧ k0_off1 k 2 = 0 ∧ k0_off1 k 3 = 0 := by decide +kernel
  obtain ⟨h0, h1, h2, h3⟩ := h k
  funext a; fin_cases a
  · exact h0
  · exact h1
  · exact h2
  · exact h3
theorem off2_eq (k : Fin 16) : k0_off2 k = ![k.val, 1, 0, 0] := by
  have h : ∀ k : Fin 16, k0_off2 k 0 = k.val ∧ k0_off2 k 1 = 1 ∧ k0_off2 k 2 = 0 ∧ k0_off2 k 3 = 0 := by decide +kernel
  obtain ⟨h0, h1, h2, h3⟩ := h k
  funext a; fin_cases a
  · exact h0
  · exact h1
  · exact h2
  · exact h3
theorem off3_eq (k : Fin 16) : k0_off3 k = ![k.val, 2, 0, 0] := by
  have h : ∀ k : Fin 16, k0_off3 k 0 = k.val ∧ k0_off3 k 1 = 2 ∧ k0_off3 k 2 = 0 ∧ k0_off3 k 3 = 0 := by decide +kernel
  obtain ⟨h0, h1, h2, h3⟩ := h k
  funext a; fin_cases a
  · exact h0
  · exact h1
  · exact h2
  · exact h3
theorem off4_eq (k : Fin 16) : k0_off4 k = ![k.val, 2, 0, 0] := by
  have h : ∀ k : Fin 16, k0_off4 k 0 = k.val ∧ k0_off4 k 1 = 2 ∧ k0_off4 k 2 = 0 ∧ k0_off4 k 3 = 0 := by decide +kernel
  obtain ⟨h0, h1, h2, h3⟩ := h k
  funext a; fin_cases a
  · exact h0
  · exact h1
  · exact h2
  · exact h3
theorem off5_eq (k : Fin 1536) : k0_off5 k = ![k.val / 96, 0, k.val % 96 * 128] := by
  have h : ∀ k : Fin 1536, k0_off5 k 0 = k.val / 96 ∧ k0_off5 k 1 = 0 ∧ k0_off5 k 2 = k.val % 96 * 128 := by decide +kernel
  obtain ⟨h0, h1, h2⟩ := h k
  funext a; fin_cases a
  · exact h0
  · exact h1
  · exact h2
theorem off6_eq (k : Fin 1536) : k0_off6 k = ![k.val / 96, 0, k.val % 96 * 128] := by
  have h : ∀ k : Fin 1536, k0_off6 k 0 = k.val / 96 ∧ k0_off6 k 1 = 0 ∧ k0_off6 k 2 = k.val % 96 * 128 := by decide +kernel
  obtain ⟨h0, h1, h2⟩ := h k
  funext a; fin_cases a
  · exact h0
  · exact h1
  · exact h2
theorem off7_eq (k : Fin 1536) : k0_off7 k = ![k.val / 96, 0, k.val % 96 * 128] := by
  have h : ∀ k : Fin 1536, k0_off7 k 0 = k.val / 96 ∧ k0_off7 k 1 = 0 ∧ k0_off7 k 2 = k.val % 96 * 128 := by decide +kernel
  obtain ⟨h0, h1, h2⟩ := h k
  funext a; fin_cases a
  · exact h0
  · exact h1
  · exact h2
theorem off8_eq (k : Fin 96) : k0_off8 k = ![0, 0, 0, k.val * 128] := by
  have h : ∀ k : Fin 96, k0_off8 k 0 = 0 ∧ k0_off8 k 1 = 0 ∧ k0_off8 k 2 = 0 ∧ k0_off8 k 3 = k.val * 128 := by decide +kernel
  obtain ⟨h0, h1, h2, h3⟩ := h k
  funext a; fin_cases a
  · exact h0
  · exact h1
  · exact h2
  · exact h3
theorem off14_eq (k : Fin 96) : k0_off14 k = ![0, 0, 0, k.val * 128] := by
  have h : ∀ k : Fin 96, k0_off14 k 0 = 0 ∧ k0_off14 k 1 = 0 ∧ k0_off14 k 2 = 0 ∧ k0_off14 k 3 = k.val * 128 := by decide +kernel
  obtain ⟨h0, h1, h2, h3⟩ := h k
  funext a; fin_cases a
  · exact h0
  · exact h1
  · exact h2
  · exact h3
theorem off19_eq (k : Fin 96) : k0_off19 k = ![0, 0, 0, k.val * 128] := by
  have h : ∀ k : Fin 96, k0_off19 k 0 = 0 ∧ k0_off19 k 1 = 0 ∧ k0_off19 k 2 = 0 ∧ k0_off19 k 3 = k.val * 128 := by decide +kernel
  obtain ⟨h0, h1, h2, h3⟩ := h k
  funext a; fin_cases a
  · exact h0
  · exact h1
  · exact h2
  · exact h3

theorem row_eq : ∀ b : Fin 16, (Scalar.indexCast (BitVec.ofNat 32 b.val) : Index).toNat = b.val := by decide +kernel

theorem off9_eq (i : grid0.Coords) (k : Fin 96) : k0_off9 i k = ![(i 1).val, 0, k.val * 128] := by
  have h : ∀ k : Fin 96, (Scalar.indexCast (Scalar.muli (Scf.iv 0#32 1#32 k) 128#32) : Index).toNat = k.val * 128 := by decide +kernel
  show ![(Scalar.indexCast (BitVec.ofNat 32 (i 1).val) : Index).toNat, 0, (Scalar.indexCast (Scalar.muli (Scf.iv 0#32 1#32 k) 128#32) : Index).toNat] = _
  rw [row_eq (i 1), h k]
theorem off13_eq (i : grid0.Coords) (k : Fin 96) : k0_off13 i k = ![(i 1).val, 0, k.val * 128] := off9_eq i k
theorem off18_eq (i : grid0.Coords) (k : Fin 96) : k0_off18 i k = ![(i 1).val, 0, k.val * 128] := off9_eq i k
theorem off10_eq (i : grid0.Coords) : k0_off10 i = ![(i 1).val, 0, 0, 0] := by
  show ![(Scalar.indexCast (BitVec.ofNat 32 (i 1).val) : Index).toNat, 0, 0, 0] = _
  rw [row_eq (i 1)]
theorem off11_eq (i : grid0.Coords) : k0_off11 i = ![(i 1).val, 1, 0, 0] := by
  show ![(Scalar.indexCast (BitVec.ofNat 32 (i 1).val) : Index).toNat, 1, 0, 0] = _
  rw [row_eq (i 1)]
theorem off12_eq (i : grid0.Coords) : k0_off12 i = ![(i 1).val, 2, 0, 0] := by
  show ![(Scalar.indexCast (BitVec.ofNat 32 (i 1).val) : Index).toNat, 2, 0, 0] = _
  rw [row_eq (i 1)]
theorem off15_eq (i : grid0.Coords) : k0_off15 i = ![(i 1).val, 0, 0, 0] := off10_eq i
theorem off16_eq (i : grid0.Coords) : k0_off16 i = ![(i 1).val, 1, 0, 0] := off11_eq i
theorem off17_eq (i : grid0.Coords) : k0_off17 i = ![(i 1).val, 2, 0, 0] := off12_eq i

end Cert.KernelIdeal.Hand

end
-- ==== Proof.Sel.lean ====
module

public import proofs.«01_k».proof.Proof.Offsets
public import proofs.«01_k».proof.Proof.FrameBodyIdeal
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F] [∀ e, Nonempty (Elt F e)]

/-! ## What the loops read -/

/-- The array of kept values of batch row `b`, rank `j`. -/
def cellsOf (d7 : S16x3x32x128.Idx → Elt F .f32) (b : Fin 16) (j : Fin 3) : FVec F S1x1x32x128 .f32 :=
  VecWindow.window (s := S16x3x32x128) d7 ![b.val, j.val, 0, 0] S1x1x32x128.size
    (fun a => by have := b.isLt; have := j.isLt; fin_cases a <;> simp [Matrix.cons_val_zero] <;> omega)

/-- Tile `k` of the slab of batch rows: 128 tokens of row `k / 96`. -/
def tilesOf (d6 : S16x32x12288.Idx → Elt F .f32) (k : Fin 1536) : FVec F S1x32x128 .f32 :=
  VecWindow.window (s := S16x32x12288) d6 ![k.val / 96, 0, k.val % 96 * 128] S1x32x128.size
    (fun a => by have := k.isLt; fin_cases a <;> simp <;> omega)

/-- Tile `k` of the input block. -/
def xTile (X2 : S1x1x32x12288.Idx → Elt F .f32) (k : Fin 96) : FVec F S1x1x32x128 .f32 :=
  VecWindow.window (s := S1x1x32x12288) X2 ![0, 0, 0, k.val * 128] S1x1x32x128.size
    (fun a => by have := k.isLt; fin_cases a <;> simp <;> omega)

/-- Tile `k` of row `b` of the slab. -/
def rowTile (d6 : S16x32x12288.Idx → Elt F .f32) (b : Fin 16) (k : Fin 96) : FVec F S1x32x128 .f32 :=
  VecWindow.window (s := S16x32x12288) d6 ![b.val, 0, k.val * 128] S1x32x128.size
    (fun a => by have := b.isLt; have := k.isLt; fin_cases a <;> simp <;> omega)

/-! ## The loops as recursions on what they read -/

/-- Six kept arrays. -/
abbrev Kept (F : FTy → Type) [FloatOps F] := FVec F S32x128 .f32 × FVec F S32x128 .f32 × FVec F S32x128 .f32 × FVec F S32x128 .f32 × FVec F S32x128 .f32 × FVec F S32x128 .f32

/-- The kept arrays after the first `n` batch rows. -/
def mergeIter (cells : Fin 16 → Fin 3 → FVec F S1x1x32x128 .f32) (init : Kept F) : ℕ → Kept F
  | 0 => init
  | n + 1 =>
    let acc := mergeIter cells init n
    if h : n < 16 then
      let a := cells ⟨n, h⟩ 0
      let b := cells ⟨n, h⟩ 1
      let d := cells ⟨n, h⟩ 2
      (k0_pay107 acc.1 a b d, k0_pay109 acc.1 acc.2.1 a b d, k0_pay111 acc.1 acc.2.1 acc.2.2.1 a b d,
        k0_pay113 acc.1 acc.2.1 acc.2.2.1 acc.2.2.2.1 a b d, k0_pay115 acc.1 acc.2.1 acc.2.2.1 acc.2.2.2.1 acc.2.2.2.2.1 a b d,
        k0_pay116 acc.1 acc.2.1 acc.2.2.1 acc.2.2.2.1 acc.2.2.2.2.1 acc.2.2.2.2.2 a b d)
    else acc

/-- The bound on what is not kept, after the first `n` batch rows. -/
def hidIter (cells : Fin 16 → Fin 3 → FVec F S1x1x32x128 .f32) (init : FVec F S32x128 .f32) : ℕ → FVec F S32x128 .f32
  | 0 => init
  | n + 1 => if h : n < 16 then k0_pay117 (hidIter cells init n) (cells ⟨n, h⟩ 2) else hidIter cells init n

/-- A loop over the tiles of the slab: `f` at each. -/
def tileIter (tiles : Fin 1536 → FVec F S1x32x128 .f32) (f : FVec F S32x128 .f32 → FVec F S1x32x128 .f32 → FVec F S32x128 .f32) (init : FVec F S32x128 .f32) : ℕ → FVec F S32x128 .f32
  | 0 => init
  | n + 1 => if h : n < 1536 then f (tileIter tiles f init n) (tiles ⟨n, h⟩) else tileIter tiles f init n

/-- The search over all values. -/
def searchIter (tiles : Fin 1536 → FVec F S1x32x128 .f32) (v50 : FVec F S32x1 .f32) (init : FVec F S32x1 .f32 × F .f32) : ℕ → FVec F S32x1 .f32 × F .f32
  | 0 => init
  | n + 1 =>
    let acc := searchIter tiles v50 init n
    if n < 20 then (k0_pay73 acc.1 acc.2 (tileIter tiles (k0_pay72 v50 acc.1 acc.2) k0_pay1 1536), k0_pay74 acc.2) else acc

/-- The count of each sub-bin over all values, from the last. -/
def subIter (tiles : Fin 1536 → FVec F S1x32x128 .f32) (v50 v163 : FVec F S32x1 .f32) (init : FVec F S32x256 .f32 × FVec F S32x1 .f32 × FVec F S32x1 .f32) : ℕ → FVec F S32x256 .f32 × FVec F S32x1 .f32 × FVec F S32x1 .f32
  | 0 => init
  | n + 1 =>
    let acc := subIter tiles v50 v163 init n
    if n < 256 then
      let T := tileIter tiles (k0_pay13 v50 acc.2.2) k0_pay1 1536
      (k0_pay15 v163 acc.1 acc.2.1 acc.2.2 T, k0_pay14 T, k0_pay12 acc.2.2)
    else acc

/-- The three kept arrays of one batch row after its first `n` tiles. -/
def insIter (xs : Fin 96 → FVec F S1x1x32x128 .f32) (init : FVec F S32x128 .f32 × FVec F S32x128 .f32 × FVec F S32x128 .f32) : ℕ → FVec F S32x128 .f32 × FVec F S32x128 .f32 × FVec F S32x128 .f32
  | 0 => init
  | n + 1 =>
    let acc := insIter xs init n
    if h : n < 96 then (k0_pay20 acc.1 (xs ⟨n, h⟩), k0_pay22 acc.1 acc.2.1 (xs ⟨n, h⟩), k0_pay23 acc.1 acc.2.1 acc.2.2 (xs ⟨n, h⟩)) else acc

theorem rd1 {S : Space} (M : Memref sig .tc S S16x3x32x128 .f32) (X : BufTy.Contents (Elt F) M.view.ty) (k : Fin k0_t1_loop.trips) (inb : ∀ a, k0_off1 k a + S1x1x32x128.size a ≤ S16x3x32x128.size a) :
    M.view.readAt (Elt F) (Rect.unit (s := S16x3x32x128) (k0_off1 k) S1x1x32x128.size inb).toLoadRect X = cellsOf (M.view.read (Elt F) X) ⟨k.val, k.isLt⟩ 0 :=
  View.readAt_unit _ _ inb (off1_eq k) _

theorem rd2 {S : Space} (M : Memref sig .tc S S16x3x32x128 .f32) (X : BufTy.Contents (Elt F) M.view.ty) (k : Fin k0_t1_loop.trips) (inb : ∀ a, k0_off2 k a + S1x1x32x128.size a ≤ S16x3x32x128.size a) :
    M.view.readAt (Elt F) (Rect.unit (s := S16x3x32x128) (k0_off2 k) S1x1x32x128.size inb).toLoadRect X = cellsOf (M.view.read (Elt F) X) ⟨k.val, k.isLt⟩ 1 :=
  View.readAt_unit _ _ inb (off2_eq k) _

theorem rd3 {S : Space} (M : Memref sig .tc S S16x3x32x128 .f32) (X : BufTy.Contents (Elt F) M.view.ty) (k : Fin k0_t1_loop.trips) (inb : ∀ a, k0_off3 k a + S1x1x32x128.size a ≤ S16x3x32x128.size a) :
    M.view.readAt (Elt F) (Rect.unit (s := S16x3x32x128) (k0_off3 k) S1x1x32x128.size inb).toLoadRect X = cellsOf (M.view.read (Elt F) X) ⟨k.val, k.isLt⟩ 2 :=
  View.readAt_unit _ _ inb (off3_eq k) _

theorem rd4 {S : Space} (M : Memref sig .tc S S16x3x32x128 .f32) (X : BufTy.Contents (Elt F) M.view.ty) (k : Fin k0_t2_loop.trips) (inb : ∀ a, k0_off4 k a + S1x1x32x128.size a ≤ S16x3x32x128.size a) :
    M.view.readAt (Elt F) (Rect.unit (s := S16x3x32x128) (k0_off4 k) S1x1x32x128.size inb).toLoadRect X = cellsOf (M.view.read (Elt F) X) ⟨k.val, k.isLt⟩ 2 :=
  View.readAt_unit _ _ inb (off4_eq k) _

theorem rd5 {S : Space} (M : Memref sig .tc S S16x32x12288 .f32) (X : BufTy.Contents (Elt F) M.view.ty) (k : Fin k0_t6_loop.trips) (inb : ∀ a, k0_off5 k a + S1x32x128.size a ≤ S16x32x12288.size a) :
    M.view.readAt (Elt F) (Rect.unit (s := S16x32x12288) (k0_off5 k) S1x32x128.size inb).toLoadRect X = tilesOf (M.view.read (Elt F) X) ⟨k.val, k.isLt⟩ :=
  View.readAt_unit _ _ inb (off5_eq k) _

theorem rd6 {S : Space} (M : Memref sig .tc S S16x32x12288 .f32) (X : BufTy.Contents (Elt F) M.view.ty) (k : Fin k0_t7_loop.trips) (inb : ∀ a, k0_off6 k a + S1x32x128.size a ≤ S16x32x12288.size a) :
    M.view.readAt (Elt F) (Rect.unit (s := S16x32x12288) (k0_off6 k) S1x32x128.size inb).toLoadRect X = tilesOf (M.view.read (Elt F) X) ⟨k.val, k.isLt⟩ :=
  View.readAt_unit _ _ inb (off6_eq k) _

theorem rd7 {S : Space} (M : Memref sig .tc S S16x32x12288 .f32) (X : BufTy.Contents (Elt F) M.view.ty) (k : Fin k0_t9_loop.trips) (inb : ∀ a, k0_off7 k a + S1x32x128.size a ≤ S16x32x12288.size a) :
    M.view.readAt (Elt F) (Rect.unit (s := S16x32x12288) (k0_off7 k) S1x32x128.size inb).toLoadRect X = tilesOf (M.view.read (Elt F) X) ⟨k.val, k.isLt⟩ :=
  View.readAt_unit _ _ inb (off7_eq k) _

theorem rd8 {S : Space} (M : Memref sig .tc S S1x1x32x12288 .f32) (X : BufTy.Contents (Elt F) M.view.ty) (k : Fin k0_t10_loop.trips) (inb : ∀ a, k0_off8 k a + S1x1x32x128.size a ≤ S1x1x32x12288.size a) :
    M.view.readAt (Elt F) (Rect.unit (s := S1x1x32x12288) (k0_off8 k) S1x1x32x128.size inb).toLoadRect X = xTile (M.view.read (Elt F) X) ⟨k.val, k.isLt⟩ :=
  View.readAt_unit _ _ inb (off8_eq k) _

theorem rd14 {S : Space} (M : Memref sig .tc S S1x1x32x12288 .f32) (X : BufTy.Contents (Elt F) M.view.ty) (k : Fin k0_t11_loop.trips) (inb : ∀ a, k0_off14 k a + S1x1x32x128.size a ≤ S1x1x32x12288.size a) :
    M.view.readAt (Elt F) (Rect.unit (s := S1x1x32x12288) (k0_off14 k) S1x1x32x128.size inb).toLoadRect X = xTile (M.view.read (Elt F) X) ⟨k.val, k.isLt⟩ :=
  View.readAt_unit _ _ inb (off14_eq k) _

section
variable (𝒱 : Variants) (bd : Option 𝒱.V) (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
include 𝒱 c bd i arg2 harg2 arg3 harg3 arg4 harg4 arg5 harg5 arg6 harg6 arg7 harg7 arg8 harg8

theorem tripR1 (v0 : FVec F S32x128 .f32) (h1 : k0_cond1 i = 1#1) (X : BufTy.Contents (Elt F) arg7.view.ty) (k : Fin k0_t1_loop.trips) (acc : Kept F) :
    tripR_k0_t1 𝒱 c bd i arg2 harg2 arg3 harg3 arg4 harg4 arg5 harg5 arg6 harg6 arg7 harg7 arg8 harg8 v0 h1 X k acc = (fun a b d => (k0_pay107 acc.1 a b d, k0_pay109 acc.1 acc.2.1 a b d, k0_pay111 acc.1 acc.2.1 acc.2.2.1 a b d, k0_pay113 acc.1 acc.2.1 acc.2.2.1 acc.2.2.2.1 a b d, k0_pay115 acc.1 acc.2.1 acc.2.2.1 acc.2.2.2.1 acc.2.2.2.2.1 a b d, k0_pay116 acc.1 acc.2.1 acc.2.2.1 acc.2.2.2.1 acc.2.2.2.2.1 acc.2.2.2.2.2 a b d)) (cellsOf (arg7.view.read (Elt F) X) ⟨k.val, k.isLt⟩ 0) (cellsOf (arg7.view.read (Elt F) X) ⟨k.val, k.isLt⟩ 1) (cellsOf (arg7.view.read (Elt F) X) ⟨k.val, k.isLt⟩ 2) := by
  unfold tripR_k0_t1 trip_k0_t1
  exact congr (congr (congrArg (fun a b d => (k0_pay107 acc.1 a b d, k0_pay109 acc.1 acc.2.1 a b d, k0_pay111 acc.1 acc.2.1 acc.2.2.1 a b d, k0_pay113 acc.1 acc.2.1 acc.2.2.1 acc.2.2.2.1 a b d, k0_pay115 acc.1 acc.2.1 acc.2.2.1 acc.2.2.2.1 acc.2.2.2.2.1 a b d, k0_pay116 acc.1 acc.2.1 acc.2.2.1 acc.2.2.2.1 acc.2.2.2.2.1 acc.2.2.2.2.2 a b d)) (rd1 arg7 X k _)) (rd2 arg7 X k _)) (rd3 arg7 X k _)

theorem st1_eq (v0 : FVec F S32x128 .f32) (h1 : k0_cond1 i = 1#1) (X : BufTy.Contents (Elt F) arg7.view.ty) (init : Kept F) (n : ℕ) :
    st_k0_t1 𝒱 c bd i arg2 harg2 arg3 harg3 arg4 harg4 arg5 harg5 arg6 harg6 arg7 harg7 arg8 harg8 v0 h1 X init n = mergeIter (cellsOf (arg7.view.read (Elt F) X)) init n := by
  induction n with
  | zero => rfl
  | succ n ih =>
    rw [st_k0_t1.eq_2]; unfold st_k0_t1Step mergeIter
    by_cases h : n < 16
    · rw [dif_pos (show n < k0_t1_loop.trips from h)]
      rw [dif_pos h]
      rw [tripR1, ih]
    · rw [dif_neg (show ¬ n < k0_t1_loop.trips from h)]
      rw [dif_neg h]
      exact ih

theorem tripR2 (v0 : FVec F S32x128 .f32) (h1 : k0_cond1 i = 1#1) (X : BufTy.Contents (Elt F) arg7.view.ty) (k : Fin k0_t2_loop.trips) (acc : FVec F S32x128 .f32) :
    tripR_k0_t2 𝒱 c bd i arg2 harg2 arg3 harg3 arg4 harg4 arg5 harg5 arg6 harg6 arg7 harg7 arg8 harg8 v0 h1 X k acc = k0_pay117 acc (cellsOf (arg7.view.read (Elt F) X) ⟨k.val, k.isLt⟩ 2) := by
  unfold tripR_k0_t2 trip_k0_t2
  exact congrArg (fun v => k0_pay117 acc v) (rd4 arg7 X k _)

theorem st2_eq (v0 : FVec F S32x128 .f32) (h1 : k0_cond1 i = 1#1) (X : BufTy.Contents (Elt F) arg7.view.ty) (init : FVec F S32x128 .f32) (n : ℕ) :
    st_k0_t2 𝒱 c bd i arg2 harg2 arg3 harg3 arg4 harg4 arg5 harg5 arg6 harg6 arg7 harg7 arg8 harg8 v0 h1 X init n = hidIter (cellsOf (arg7.view.read (Elt F) X)) init n := by
  induction n with
  | zero => rfl
  | succ n ih =>
    rw [st_k0_t2.eq_2]; unfold st_k0_t2Step hidIter
    by_cases h : n < 16
    · rw [dif_pos (show n < k0_t2_loop.trips from h)]
      rw [dif_pos h]
      rw [tripR2, ih]
    · rw [dif_neg (show ¬ n < k0_t2_loop.trips from h)]
      rw [dif_neg h]
      exact ih

theorem tripR6 (v0 : FVec F S32x128 .f32) (h1 : k0_cond1 i = 1#1) (v39 : IVec S32x1 32) (v50 : FVec F S32x1 .f32) (arg10 : FVec F S32x1 .f32) (arg11 : F .f32) (X : BufTy.Contents (Elt F) arg6.view.ty) (k : Fin k0_t6_loop.trips) (acc : FVec F S32x128 .f32) :
    tripR_k0_t6 𝒱 c bd i arg2 harg2 arg3 harg3 arg4 harg4 arg5 harg5 arg6 harg6 arg7 harg7 arg8 harg8 v0 h1 v39 v50 arg10 arg11 X k acc = (k0_pay72 v50 arg10 arg11) acc (tilesOf (arg6.view.read (Elt F) X) ⟨k.val, k.isLt⟩) := by
  unfold tripR_k0_t6 trip_k0_t6
  exact congrArg (fun v => (k0_pay72 v50 arg10 arg11) acc v) (rd5 arg6 X k _)

theorem st6_eq (v0 : FVec F S32x128 .f32) (h1 : k0_cond1 i = 1#1) (v39 : IVec S32x1 32) (v50 : FVec F S32x1 .f32) (arg10 : FVec F S32x1 .f32) (arg11 : F .f32) (X : BufTy.Contents (Elt F) arg6.view.ty) (init : FVec F S32x128 .f32) (n : ℕ) :
    st_k0_t6 𝒱 c bd i arg2 harg2 arg3 harg3 arg4 harg4 arg5 harg5 arg6 harg6 arg7 harg7 arg8 harg8 v0 h1 v39 v50 arg10 arg11 X init n = tileIter (tilesOf (arg6.view.read (Elt F) X)) (k0_pay72 v50 arg10 arg11) init n := by
  induction n with
  | zero => rfl
  | succ n ih =>
    rw [st_k0_t6.eq_2]; unfold st_k0_t6Step tileIter
    by_cases h : n < 1536
    · rw [dif_pos (show n < k0_t6_loop.trips from h)]
      rw [dif_pos h]
      rw [tripR6, ih]
    · rw [dif_neg (show ¬ n < k0_t6_loop.trips from h)]
      rw [dif_neg h]
      exact ih

theorem tripR7 (v0 : FVec F S32x128 .f32) (h1 : k0_cond1 i = 1#1) (v39 : IVec S32x1 32) (v50 : FVec F S32x1 .f32) (v90_0 : FVec F S32x1 .f32) (v112 : IVec S32x128 32) (v123 : FVec F S32x128 .f32) (v125 : IVec S32x128 1) (v127 : FVec F S32x1 .f32) (X : BufTy.Contents (Elt F) arg6.view.ty) (k : Fin k0_t7_loop.trips) (acc : FVec F S32x128 .f32) :
    tripR_k0_t7 𝒱 c bd i arg2 harg2 arg3 harg3 arg4 harg4 arg5 harg5 arg6 harg6 arg7 harg7 arg8 harg8 v0 h1 v39 v50 v90_0 v112 v123 v125 v127 X k acc = (k0_pay85 v50 v90_0) acc (tilesOf (arg6.view.read (Elt F) X) ⟨k.val, k.isLt⟩) := by
  unfold tripR_k0_t7 trip_k0_t7
  exact congrArg (fun v => (k0_pay85 v50 v90_0) acc v) (rd6 arg6 X k _)

theorem st7_eq (v0 : FVec F S32x128 .f32) (h1 : k0_cond1 i = 1#1) (v39 : IVec S32x1 32) (v50 : FVec F S32x1 .f32) (v90_0 : FVec F S32x1 .f32) (v112 : IVec S32x128 32) (v123 : FVec F S32x128 .f32) (v125 : IVec S32x128 1) (v127 : FVec F S32x1 .f32) (X : BufTy.Contents (Elt F) arg6.view.ty) (init : FVec F S32x128 .f32) (n : ℕ) :
    st_k0_t7 𝒱 c bd i arg2 harg2 arg3 harg3 arg4 harg4 arg5 harg5 arg6 harg6 arg7 harg7 arg8 harg8 v0 h1 v39 v50 v90_0 v112 v123 v125 v127 X init n = tileIter (tilesOf (arg6.view.read (Elt F) X)) (k0_pay85 v50 v90_0) init n := by
  induction n with
  | zero => rfl
  | succ n ih =>
    rw [st_k0_t7.eq_2]; unfold st_k0_t7Step tileIter
    by_cases h : n < 1536
    · rw [dif_pos (show n < k0_t7_loop.trips from h)]
      rw [dif_pos h]
      rw [tripR7, ih]
    · rw [dif_neg (show ¬ n < k0_t7_loop.trips from h)]
      rw [dif_neg h]
      exact ih

theorem tripR9 (h1 : k0_cond1 i = 1#1) (v50 : FVec F S32x1 .f32) (arg12 : FVec F S32x1 .f32) (X : BufTy.Contents (Elt F) arg6.view.ty) (k : Fin k0_t9_loop.trips) (acc : FVec F S32x128 .f32) :
    tripR_k0_t9 𝒱 c bd i arg2 harg2 arg3 harg3 arg4 harg4 arg5 harg5 arg6 harg6 arg7 harg7 arg8 harg8 h1 v50 arg12 X k acc = (k0_pay13 v50 arg12) acc (tilesOf (arg6.view.read (Elt F) X) ⟨k.val, k.isLt⟩) := by
  unfold tripR_k0_t9 trip_k0_t9
  exact congrArg (fun v => (k0_pay13 v50 arg12) acc v) (rd7 arg6 X k _)

theorem st9_eq (h1 : k0_cond1 i = 1#1) (v50 : FVec F S32x1 .f32) (arg12 : FVec F S32x1 .f32) (X : BufTy.Contents (Elt F) arg6.view.ty) (init : FVec F S32x128 .f32) (n : ℕ) :
    st_k0_t9 𝒱 c bd i arg2 harg2 arg3 harg3 arg4 harg4 arg5 harg5 arg6 harg6 arg7 harg7 arg8 harg8 h1 v50 arg12 X init n = tileIter (tilesOf (arg6.view.read (Elt F) X)) (k0_pay13 v50 arg12) init n := by
  induction n with
  | zero => rfl
  | succ n ih =>
    rw [st_k0_t9.eq_2]; unfold st_k0_t9Step tileIter
    by_cases h : n < 1536
    · rw [dif_pos (show n < k0_t9_loop.trips from h)]
      rw [dif_pos h]
      rw [tripR9, ih]
    · rw [dif_neg (show ¬ n < k0_t9_loop.trips from h)]
      rw [dif_neg h]
      exact ih

theorem tripR5 (h1 : k0_cond1 i = 1#1) (v39 : IVec S32x1 32) (v50 : FVec F S32x1 .f32) (X : BufTy.Contents (Elt F) arg6.view.ty) (k : Fin k0_t5_loop.trips) (acc : FVec F S32x1 .f32 × F .f32) :
    tripR_k0_t5 𝒱 c bd i arg2 harg2 arg3 harg3 arg4 harg4 arg5 harg5 arg6 harg6 arg7 harg7 arg8 harg8 k0_pay1 h1 v39 v50 X k acc = (k0_pay73 acc.1 acc.2 (tileIter (tilesOf (arg6.view.read (Elt F) X)) (k0_pay72 v50 acc.1 acc.2) k0_pay1 1536), k0_pay74 acc.2) := by
  unfold tripR_k0_t5 trip_k0_t5
  exact congrArg (fun T => (k0_pay73 acc.1 acc.2 T, k0_pay74 acc.2)) (st6_eq 𝒱 bd c i arg2 harg2 arg3 harg3 arg4 harg4 arg5 harg5 arg6 harg6 arg7 harg7 arg8 harg8 k0_pay1 h1 v39 v50 acc.1 acc.2 X k0_pay1 1536)

theorem st5_eq (h1 : k0_cond1 i = 1#1) (v39 : IVec S32x1 32) (v50 : FVec F S32x1 .f32) (X : BufTy.Contents (Elt F) arg6.view.ty) (init : FVec F S32x1 .f32 × F .f32) (n : ℕ) :
    st_k0_t5 𝒱 c bd i arg2 harg2 arg3 harg3 arg4 harg4 arg5 harg5 arg6 harg6 arg7 harg7 arg8 harg8 k0_pay1 h1 v39 v50 X init n = searchIter (tilesOf (arg6.view.read (Elt F) X)) v50 init n := by
  induction n with
  | zero => rfl
  | succ n ih =>
    rw [st_k0_t5.eq_2]; unfold st_k0_t5Step searchIter
    by_cases h : n < 20
    · rw [dif_pos (show n < k0_t5_loop.trips from h)]
      rw [if_pos h]
      rw [tripR5, ih]
    · rw [dif_neg (show ¬ n < k0_t5_loop.trips from h)]
      rw [if_neg h]
      exact ih

theorem tripR8 (h1 : k0_cond1 i = 1#1) (v50 v163 : FVec F S32x1 .f32) (X : BufTy.Contents (Elt F) arg6.view.ty) (k : Fin k0_t8_loop.trips) (acc : FVec F S32x256 .f32 × FVec F S32x1 .f32 × FVec F S32x1 .f32) :
    tripR_k0_t8 𝒱 c bd i arg2 harg2 arg3 harg3 arg4 harg4 arg5 harg5 arg6 harg6 arg7 harg7 arg8 harg8 h1 v50 v163 X k acc = (k0_pay15 v163 acc.1 acc.2.1 acc.2.2 (tileIter (tilesOf (arg6.view.read (Elt F) X)) (k0_pay13 v50 acc.2.2) k0_pay1 1536), k0_pay14 (tileIter (tilesOf (arg6.view.read (Elt F) X)) (k0_pay13 v50 acc.2.2) k0_pay1 1536), k0_pay12 acc.2.2) := by
  unfold tripR_k0_t8 trip_k0_t8
  exact congrArg (fun T => (k0_pay15 v163 acc.1 acc.2.1 acc.2.2 T, k0_pay14 T, k0_pay12 acc.2.2)) (st9_eq 𝒱 bd c i arg2 harg2 arg3 harg3 arg4 harg4 arg5 harg5 arg6 harg6 arg7 harg7 arg8 harg8 h1 v50 acc.2.2 X k0_pay1 1536)

theorem st8_eq (h1 : k0_cond1 i = 1#1) (v50 v163 : FVec F S32x1 .f32) (X : BufTy.Contents (Elt F) arg6.view.ty) (init : FVec F S32x256 .f32 × FVec F S32x1 .f32 × FVec F S32x1 .f32) (n : ℕ) :
    st_k0_t8 𝒱 c bd i arg2 harg2 arg3 harg3 arg4 harg4 arg5 harg5 arg6 harg6 arg7 harg7 arg8 harg8 h1 v50 v163 X init n = subIter (tilesOf (arg6.view.read (Elt F) X)) v50 v163 init n := by
  induction n with
  | zero => rfl
  | succ n ih =>
    rw [st_k0_t8.eq_2]; unfold st_k0_t8Step subIter
    by_cases h : n < 256
    · rw [dif_pos (show n < k0_t8_loop.trips from h)]
      rw [if_pos h]
      rw [tripR8, ih]
    · rw [dif_neg (show ¬ n < k0_t8_loop.trips from h)]
      rw [if_neg h]
      exact ih

end

end Cert.KernelIdeal.Hand

end
-- ==== Proof.Streams.lean ====
module

public import proofs.«01_k».proof.Proof.Sel
public import Idealize.ShloMosaic.Lib.ValueIdxCore
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [∀ e, Nonempty (Elt F e)]

/-! ## Reshapes that only add or drop axes of one entry -/

theorem sc42 {α : Type} (v : S1x1x32x128.Idx → α) (h : S1x1x32x128.ShapeCasts S32x128) (j : S32x128.Idx) :
    shapeCast S32x128 v h j = v (ix4 0 0 (j 0) (j 1)) :=
  shapeCast_apply v h j _ (by rw [Shape.rowMajor_val_four, Shape.rowMajor_val_two]; simp [S32x128, S1x32x128, S1x1x32x128]; try omega)

theorem sc32 {α : Type} (v : S1x32x128.Idx → α) (h : S1x32x128.ShapeCasts S32x128) (j : S32x128.Idx) :
    shapeCast S32x128 v h j = v (ix3 0 (j 0) (j 1)) :=
  shapeCast_apply v h j _ (by rw [Shape.rowMajor_val_three, Shape.rowMajor_val_two]; simp [S32x128, S1x32x128, S1x1x32x128]; try omega)

theorem sc23 {α : Type} (v : S32x128.Idx → α) (h : S32x128.ShapeCasts S1x32x128) (j : S1x32x128.Idx) :
    shapeCast S1x32x128 v h j = v (ix2 (j 1) (j 2)) :=
  shapeCast_apply v h j _ (by rw [Shape.rowMajor_val_two, Shape.rowMajor_val_three]; simp [S32x128, S1x32x128, S1x1x32x128]; try omega)

theorem sc24 {α : Type} (v : S32x128.Idx → α) (h : S32x128.ShapeCasts S1x1x32x128) (j : S1x1x32x128.Idx) :
    shapeCast S1x1x32x128 v h j = v (ix2 (j 2) (j 3)) :=
  shapeCast_apply v h j _ (by rw [Shape.rowMajor_val_two, Shape.rowMajor_val_four]; simp [S32x128, S1x32x128, S1x1x32x128]; try omega)

theorem pay18_apply (v : Vec F S1x1x32x128 .f32) (j : S1x32x128.Idx) : k0_pay18 v j = v (ix4 0 0 (j 1) (j 2)) := by
  unfold k0_pay18 k0_pay17; simp only []; rw [sc23, sc42]

/-- The slab after the first `n` tiles of the input block are stored in row `b`. -/
def slabAfter (X2 : S1x1x32x12288.Idx → Elt F .f32) (b : Fin 16) (n : ℕ) (g : S16x32x12288.Idx → Elt F .f32) : S16x32x12288.Idx → Elt F .f32 :=
  fun y => if (y 0).val = b.val ∧ (y 2).val < n * 128 then X2 (ix4 0 0 (y 1) (y 2)) else g y

/-- The codes after the first `n` tiles of row `b`. -/
def codesAfter (v17 : Vec F S32x128 .f32) (d6 : S16x32x12288.Idx → Elt F .f32) (b : Fin 16) (n : ℕ) (g : S1x1x32x12288.Idx → Elt F .i8) : S1x1x32x12288.Idx → Elt F .i8 :=
  fun y => if (y 3).val < n * 128 then
      k0_pay27 v17 (rowTile d6 b ⟨(y 3).val / 128, by have : (y 3).val < 12288 := (y 3).isLt; omega⟩) (ix4 0 0 (y 2) ⟨(y 3).val % 128, Nat.mod_lt _ (by norm_num)⟩)
    else g y

theorem slab_step (X2 : S1x1x32x12288.Idx → Elt F .f32) (b : Fin 16) (n : ℕ) (hn : n < 96) (M : Memref sig .tc .vmem S16x32x12288 .f32) (f : BufTy.Contents (Elt F) M.view.ty) (L : List (View.Piece (Elt F) S16x32x12288 .f32))
    (off : Fin 3 → ℕ) (inb : ∀ a, off a + S1x32x128.size a ≤ S16x32x12288.size a) (ho : off = ![b.val, 0, n * 128]) (g : S16x32x12288.Idx → Elt F .f32)
    (ih : M.view.read (Elt F) (M.view.writes (Elt F) f L) = slabAfter X2 b n g) :
    M.view.read (Elt F) (M.view.writes (Elt F) f ((⟨Rect.unit (s := S16x32x12288) off S1x32x128.size inb, k0_pay18 (xTile X2 ⟨n, hn⟩)⟩ : View.Piece (Elt F) S16x32x12288 .f32) :: L))
      = slabAfter X2 b (n + 1) g := by
  funext y
  have hy1 : (y 1).val < 32 := (y 1).isLt
  by_cases hy : (y 0).val = b.val ∧ n * 128 ≤ (y 2).val ∧ (y 2).val < n * 128 + 128
  · obtain ⟨h0, h1, h2⟩ := hy
    refine (View.read_writes_cons_unit_of_mem M.view f inb _ L y (ix3 (n0 := 1) (n1 := 32) (n2 := 128) 0 ⟨(y 1).val, hy1⟩ ⟨(y 2).val - n * 128, by omega⟩) ho ?_).trans ?_
    · intro a; fin_cases a
      · show (y 0).val = b.val + 0; omega
      · show (y 1).val = 0 + (y 1).val; omega
      · show (y 2).val = n * 128 + ((y 2).val - n * 128); omega
    · rw [pay18_apply]
      unfold slabAfter
      rw [if_pos ⟨h0, by omega⟩]
      unfold xTile VecWindow.window
      refine congrArg X2 (funext fun a => Fin.ext ?_)
      fin_cases a
      · rfl
      · rfl
      · show 0 + 1 * (y 1).val = (y 1).val; omega
      · show n * 128 + 1 * ((y 2).val - n * 128) = (y 2).val; omega
  · have hne : M.view.read (Elt F) (M.view.writes (Elt F) f ((⟨Rect.unit (s := S16x32x12288) off S1x32x128.size inb, k0_pay18 (xTile X2 ⟨n, hn⟩)⟩ : View.Piece (Elt F) S16x32x12288 .f32) :: L)) y
        = M.view.read (Elt F) (M.view.writes (Elt F) f L) y := by
      by_cases h0 : (y 0).val = b.val
      · refine View.read_writes_cons_unit_of_not_mem M.view f inb _ L y ho 2 ?_
        show (y 2).val < n * 128 ∨ n * 128 + 128 ≤ (y 2).val
        omega
      · refine View.read_writes_cons_unit_of_not_mem M.view f inb _ L y ho 0 ?_
        show (y 0).val < b.val ∨ b.val + 1 ≤ (y 0).val
        omega
    rw [hne, ih]
    unfold slabAfter
    by_cases h : (y 0).val = b.val ∧ (y 2).val < n * 128
    · rw [if_pos h, if_pos ⟨h.1, by omega⟩]
    · rw [if_neg h, if_neg (by omega)]

theorem codes_step (v17 : Vec F S32x128 .f32) (d6 : S16x32x12288.Idx → Elt F .f32) (b : Fin 16) (n : ℕ) (hn : n < 96) (M : Memref sig .tc .vmem S1x1x32x12288 .i8) (f : BufTy.Contents (Elt F) M.view.ty) (L : List (View.Piece (Elt F) S1x1x32x12288 .i8))
    (off : Fin 4 → ℕ) (inb : ∀ a, off a + S1x1x32x128.size a ≤ S1x1x32x12288.size a) (ho : off = ![0, 0, 0, n * 128]) (g : S1x1x32x12288.Idx → Elt F .i8)
    (ih : M.view.read (Elt F) (M.view.writes (Elt F) f L) = codesAfter v17 d6 b n g) :
    M.view.read (Elt F) (M.view.writes (Elt F) f ((⟨Rect.unit (s := S1x1x32x12288) off S1x1x32x128.size inb, k0_pay27 v17 (rowTile d6 b ⟨n, hn⟩)⟩ : View.Piece (Elt F) S1x1x32x12288 .i8) :: L))
      = codesAfter v17 d6 b (n + 1) g := by
  funext y
  have hy0 : (y 0).val < 1 := (y 0).isLt
  have hy1 : (y 1).val < 1 := (y 1).isLt
  have hy2 : (y 2).val < 32 := (y 2).isLt
  by_cases hy : n * 128 ≤ (y 3).val ∧ (y 3).val < n * 128 + 128
  · obtain ⟨h1, h2⟩ := hy
    have hd : (y 3).val / 128 = n := by omega
    have hm : (y 3).val % 128 = (y 3).val - n * 128 := by omega
    refine (View.read_writes_cons_unit_of_mem M.view f inb _ L y (ix4 (n0 := 1) (n1 := 1) (n2 := 32) (n3 := 128) 0 0 ⟨(y 2).val, hy2⟩ ⟨(y 3).val % 128, Nat.mod_lt _ (by norm_num)⟩) ho ?_).trans ?_
    · intro a; fin_cases a
      · show (y 0).val = 0 + 0; omega
      · show (y 1).val = 0 + 0; omega
      · show (y 2).val = 0 + (y 2).val; omega
      · show (y 3).val = n * 128 + (y 3).val % 128; omega
    · unfold codesAfter
      rw [if_pos (by omega)]
      congr 2
      exact Fin.ext hd.symm
  · have hne : M.view.read (Elt F) (M.view.writes (Elt F) f ((⟨Rect.unit (s := S1x1x32x12288) off S1x1x32x128.size inb, k0_pay27 v17 (rowTile d6 b ⟨n, hn⟩)⟩ : View.Piece (Elt F) S1x1x32x12288 .i8) :: L)) y
        = M.view.read (Elt F) (M.view.writes (Elt F) f L) y := by
      refine View.read_writes_cons_unit_of_not_mem M.view f inb _ L y ho 3 ?_
      show (y 3).val < n * 128 ∨ n * 128 + 128 ≤ (y 3).val
      omega
    rw [hne, ih]
    unfold codesAfter
    by_cases h : (y 3).val < n * 128
    · rw [if_pos h, if_pos (by omega)]
    · rw [if_neg h, if_neg (by omega)]

theorem rowTile_inb (b : Fin 16) (k : Fin 96) (a : Fin 3) : (![b.val, 0, k.val * 128] : Fin 3 → ℕ) a + S1x32x128.size a ≤ S16x32x12288.size a := by
  have := b.isLt; have := k.isLt; fin_cases a <;> simp <;> omega

/-- A tile of the row not yet overwritten is the old one. -/
theorem rowTile_slabAfter (X2 : S1x1x32x12288.Idx → Elt F .f32) (b : Fin 16) (n : ℕ) (hn : n < 96) (g : S16x32x12288.Idx → Elt F .f32) :
    rowTile (slabAfter X2 b n g) b ⟨n, hn⟩ = rowTile g b ⟨n, hn⟩ := by
  funext x
  unfold rowTile VecWindow.window slabAfter
  refine if_neg fun h => ?_
  have h2 : n * 128 + 1 * (x 2).val < n * 128 := h.2
  omega

section
variable (𝒱 : Variants) (bd : Option 𝒱.V) (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
include 𝒱 c bd i arg2 harg2 arg3 harg3 arg4 harg4 arg5 harg5 arg6 harg6 arg7 harg7 arg8 harg8

theorem st10_eq (h4 : k0_cond4 i = 1#1) (X : BufTy.Contents (Elt F) arg2.view.ty) (init : FVec F S32x128 .f32 × FVec F S32x128 .f32 × FVec F S32x128 .f32) (f6 : BufTy.Contents (Elt F) arg6.view.ty) (n : ℕ) (hn : n ≤ 96) :
    (st_k0_t10 𝒱 c bd i arg2 harg2 arg3 harg3 arg4 harg4 arg5 harg5 arg6 harg6 arg7 harg7 arg8 harg8 h4 X init n).1 = insIter (xTile (arg2.view.read (Elt F) X)) init n
      ∧ arg6.view.read (Elt F) (arg6.view.writes (Elt F) f6 (st_k0_t10 𝒱 c bd i arg2 harg2 arg3 harg3 arg4 harg4 arg5 harg5 arg6 harg6 arg7 harg7 arg8 harg8 h4 X init n).2) = slabAfter (arg2.view.read (Elt F) X) (i 1) n (arg6.view.read (Elt F) f6) := by
  induction n with
  | zero => exact ⟨rfl, by funext y; unfold slabAfter; rw [if_neg (by omega)]; rfl⟩
  | succ n ih =>
    have h : n < 96 := by omega
    obtain ⟨ih1, ih2⟩ := ih (by omega)
    rw [st_k0_t10.eq_2]; unfold st_k0_t10Step
    rw [dif_pos (show n < k0_t10_loop.trips from h)]
    have e : arg2.view.readAt (Elt F) (Rect.unit (s := S1x1x32x12288) (k0_off8 ⟨n, h⟩) S1x1x32x128.size (k0_off8_inb i ⟨n, h⟩ h4)).toLoadRect X = xTile (arg2.view.read (Elt F) X) ⟨n, h⟩ := rd8 arg2 X ⟨n, h⟩ _
    constructor
    · unfold tripR_k0_t10 trip_k0_t10 insIter
      rw [dif_pos h, ← ih1]
      exact congrArg (fun v => (k0_pay20 (st_k0_t10 𝒱 c bd i arg2 harg2 arg3 harg3 arg4 harg4 arg5 harg5 arg6 harg6 arg7 harg7 arg8 harg8 h4 X init n).1.1 v, k0_pay22 (st_k0_t10 𝒱 c bd i arg2 harg2 arg3 harg3 arg4 harg4 arg5 harg5 arg6 harg6 arg7 harg7 arg8 harg8 h4 X init n).1.1 (st_k0_t10 𝒱 c bd i arg2 harg2 arg3 harg3 arg4 harg4 arg5 harg5 arg6 harg6 arg7 harg7 arg8 harg8 h4 X init n).1.2.1 v, k0_pay23 (st_k0_t10 𝒱 c bd i arg2 harg2 arg3 harg3 arg4 harg4 arg5 harg5 arg6 harg6 arg7 harg7 arg8 harg8 h4 X init n).1.1 (st_k0_t10 𝒱 c bd i arg2 harg2 arg3 harg3 arg4 harg4 arg5 harg5 arg6 harg6 arg7 harg7 arg8 harg8 h4 X init n).1.2.1 (st_k0_t10 𝒱 c bd i arg2 harg2 arg3 harg3 arg4 harg4 arg5 harg5 arg6 harg6 arg7 harg7 arg8 harg8 h4 X init n).1.2.2 v)) e
    · unfold tripL_k0_t10 trip_k0_t10
      have hs := slab_step (arg2.view.read (Elt F) X) (i 1) n h arg6 f6 (st_k0_t10 𝒱 c bd i arg2 harg2 arg3 harg3 arg4 harg4 arg5 harg5 arg6 harg6 arg7 harg7 arg8 harg8 h4 X init n).2 (k0_off9 i ⟨n, h⟩) (k0_off9_inb i ⟨n, h⟩ h4) (off9_eq i ⟨n, h⟩) _ ih2
      rw [← e] at hs
      exact hs

theorem st11_eq (h5 : k0_cond5 i = 1#1) (v17 : Vec F S32x128 .f32) (X : BufTy.Contents (Elt F) arg2.view.ty) (g3 : BufTy.Contents (Elt F) arg3.view.ty) (f6 : BufTy.Contents (Elt F) arg6.view.ty) (init : FVec F S32x128 .f32 × FVec F S32x128 .f32 × FVec F S32x128 .f32) (n : ℕ) (hn : n ≤ 96) :
    (st_k0_t11 𝒱 c bd i arg2 harg2 arg3 harg3 arg4 harg4 arg5 harg5 arg6 harg6 arg7 harg7 arg8 harg8 h5 v17 X g3 f6 init n).1 = insIter (xTile (arg2.view.read (Elt F) X)) init n
      ∧ arg3.view.read (Elt F) (arg3.view.writes (Elt F) g3 (st_k0_t11 𝒱 c bd i arg2 harg2 arg3 harg3 arg4 harg4 arg5 harg5 arg6 harg6 arg7 harg7 arg8 harg8 h5 v17 X g3 f6 init n).2.1) = codesAfter v17 (arg6.view.read (Elt F) f6) (i 1) n (arg3.view.read (Elt F) g3)
      ∧ arg6.view.read (Elt F) (arg6.view.writes (Elt F) f6 (st_k0_t11 𝒱 c bd i arg2 harg2 arg3 harg3 arg4 harg4 arg5 harg5 arg6 harg6 arg7 harg7 arg8 harg8 h5 v17 X g3 f6 init n).2.2) = slabAfter (arg2.view.read (Elt F) X) (i 1) n (arg6.view.read (Elt F) f6) := by
  induction n with
  | zero => exact ⟨rfl, by funext y; unfold codesAfter; rw [if_neg (by omega)]; rfl, by funext y; unfold slabAfter; rw [if_neg (by omega)]; rfl⟩
  | succ n ih =>
    have h : n < 96 := by omega
    obtain ⟨ih1, ih2, ih3⟩ := ih (by omega)
    rw [st_k0_t11.eq_2]; unfold st_k0_t11Step
    rw [dif_pos (show n < k0_t11_loop.trips from h)]
    have e : arg2.view.readAt (Elt F) (Rect.unit (s := S1x1x32x12288) (k0_off14 ⟨n, h⟩) S1x1x32x128.size (k0_off14_inb i ⟨n, h⟩ h5)).toLoadRect X = xTile (arg2.view.read (Elt F) X) ⟨n, h⟩ := rd14 arg2 X ⟨n, h⟩ _
    refine ⟨?_, ?_, ?_⟩
    · unfold tripR_k0_t11 trip_k0_t11 insIter
      rw [dif_pos h, ← ih1]
      exact congrArg (fun v => (k0_pay20 (st_k0_t11 𝒱 c bd i arg2 harg2 arg3 harg3 arg4 harg4 arg5 harg5 arg6 harg6 arg7 harg7 arg8 harg8 h5 v17 X g3 f6 init n).1.1 v, k0_pay22 (st_k0_t11 𝒱 c bd i arg2 harg2 arg3 harg3 arg4 harg4 arg5 harg5 arg6 harg6 arg7 harg7 arg8 harg8 h5 v17 X g3 f6 init n).1.1 (st_k0_t11 𝒱 c bd i arg2 harg2 arg3 harg3 arg4 harg4 arg5 harg5 arg6 harg6 arg7 harg7 arg8 harg8 h5 v17 X g3 f6 init n).1.2.1 v, k0_pay23 (st_k0_t11 𝒱 c bd i arg2 harg2 arg3 harg3 arg4 harg4 arg5 harg5 arg6 harg6 arg7 harg7 arg8 harg8 h5 v17 X g3 f6 init n).1.1 (st_k0_t11 𝒱 c bd i arg2 harg2 arg3 harg3 arg4 harg4 arg5 harg5 arg6 harg6 arg7 harg7 arg8 harg8 h5 v17 X g3 f6 init n).1.2.1 (st_k0_t11 𝒱 c bd i arg2 harg2 arg3 harg3 arg4 harg4 arg5 harg5 arg6 harg6 arg7 harg7 arg8 harg8 h5 v17 X g3 f6 init n).1.2.2 v)) e
    · have e6 : arg6.view.readAt (Elt F) (Rect.unit (s := S16x32x12288) (k0_off13 i ⟨n, h⟩) S1x32x128.size (k0_off13_inb i ⟨n, h⟩ h5)).toLoadRect (arg6.view.writes (Elt F) f6 (st_k0_t11 𝒱 c bd i arg2 harg2 arg3 harg3 arg4 harg4 arg5 harg5 arg6 harg6 arg7 harg7 arg8 harg8 h5 v17 X g3 f6 init n).2.2) = rowTile (arg6.view.read (Elt F) f6) (i 1) ⟨n, h⟩ := by
        have e7 : arg6.view.readAt (Elt F) (Rect.unit (s := S16x32x12288) (k0_off13 i ⟨n, h⟩) S1x32x128.size (k0_off13_inb i ⟨n, h⟩ h5)).toLoadRect (arg6.view.writes (Elt F) f6 (st_k0_t11 𝒱 c bd i arg2 harg2 arg3 harg3 arg4 harg4 arg5 harg5 arg6 harg6 arg7 harg7 arg8 harg8 h5 v17 X g3 f6 init n).2.2) = rowTile (arg6.view.read (Elt F) (arg6.view.writes (Elt F) f6 (st_k0_t11 𝒱 c bd i arg2 harg2 arg3 harg3 arg4 harg4 arg5 harg5 arg6 harg6 arg7 harg7 arg8 harg8 h5 v17 X g3 f6 init n).2.2)) (i 1) ⟨n, h⟩ :=
          View.readAt_unit _ _ _ (off13_eq i ⟨n, h⟩) (rowTile_inb (i 1) ⟨n, h⟩)
        rw [e7, ih3]; exact rowTile_slabAfter _ (i 1) n h _
      have hs := codes_step v17 (arg6.view.read (Elt F) f6) (i 1) n h arg3 g3 (st_k0_t11 𝒱 c bd i arg2 harg2 arg3 harg3 arg4 harg4 arg5 harg5 arg6 harg6 arg7 harg7 arg8 harg8 h5 v17 X g3 f6 init n).2.1 (k0_off14 ⟨n, h⟩) (k0_off14_inb i ⟨n, h⟩ h5) (off14_eq ⟨n, h⟩) _ ih2
      rw [← e6] at hs
      unfold tripL_k0_t11 trip_k0_t11
      exact hs
    · unfold tripL_k0_t11 trip_k0_t11
      have hs := slab_step (arg2.view.read (Elt F) X) (i 1) n h arg6 f6 (st_k0_t11 𝒱 c bd i arg2 harg2 arg3 harg3 arg4 harg4 arg5 harg5 arg6 harg6 arg7 harg7 arg8 harg8 h5 v17 X g3 f6 init n).2.2 (k0_off13 i ⟨n, h⟩) (k0_off13_inb i ⟨n, h⟩ h5) (off13_eq i ⟨n, h⟩) _ ih3
      rw [← e] at hs
      exact hs

theorem pb12_eq (h6 : k0_cond6 i = 1#1) (v17 : Vec F S32x128 .f32) (X : BufTy.Contents (Elt F) arg6.view.ty) (g3 : BufTy.Contents (Elt F) arg3.view.ty) (n : ℕ) (hn : n ≤ 96) :
    arg3.view.read (Elt F) (arg3.view.writes (Elt F) g3 (pb_k0_t12 𝒱 c bd i arg2 harg2 arg3 harg3 arg4 harg4 arg5 harg5 arg6 harg6 arg7 harg7 arg8 harg8 h6 v17 X n)) = codesAfter v17 (arg6.view.read (Elt F) X) (i 1) n (arg3.view.read (Elt F) g3) := by
  induction n with
  | zero => funext y; unfold codesAfter; rw [if_neg (by omega)]; rfl
  | succ n ih =>
    have h : n < 96 := by omega
    have ih2 := ih (by omega)
    rw [pb_k0_t12.eq_2]; unfold pb_k0_t12Step
    rw [dif_pos (show n < k0_t12_loop.trips from h)]
    have e6 : arg6.view.readAt (Elt F) (Rect.unit (s := S16x32x12288) (k0_off18 i ⟨n, h⟩) S1x32x128.size (k0_off18_inb i ⟨n, h⟩ h6)).toLoadRect X = rowTile (arg6.view.read (Elt F) X) (i 1) ⟨n, h⟩ :=
      View.readAt_unit _ _ _ (off18_eq i ⟨n, h⟩) (rowTile_inb (i 1) ⟨n, h⟩)
    have hs := codes_step v17 (arg6.view.read (Elt F) X) (i 1) n h arg3 g3 (pb_k0_t12 𝒱 c bd i arg2 harg2 arg3 harg3 arg4 harg4 arg5 harg5 arg6 harg6 arg7 harg7 arg8 harg8 h6 v17 X n) (k0_off19 ⟨n, h⟩) (k0_off19_inb i ⟨n, h⟩ h6) (off19_eq ⟨n, h⟩) _ ih2
    rw [← e6] at hs
    unfold tripL_k0_t12 trip_k0_t12
    exact hs

end

end Cert.KernelIdeal.Hand

end
-- ==== Proof.SelTerms.lean ====
module

public import proofs.«01_k».proof.Proof.Streams
public import proofs.«01_k».proof.Proof.FrameBodyIdeal

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [∀ e, Nonempty (Elt F e)]

/-! ## The selection as a function of what the two scratch buffers hold -/

/-- The six largest values kept per lane, over the sixteen rows. -/
def selK (d7 : S16x3x32x128.Idx → Elt F .f32) : Kept F :=
  mergeIter (cellsOf d7) (k0_pay1, k0_pay1, k0_pay1, k0_pay1, k0_pay1, k0_pay1) 16

/-- The largest value that may be hidden, per lane. -/
def selHid (d7 : S16x3x32x128.Idx → Elt F .f32) : FVec F S32x128 .f32 := hidIter (cellsOf d7) (selK d7).2.2.2.2.2 16

/-- The exponent of a channel's largest magnitude. -/
def selE (d7 : S16x3x32x128.Idx → Elt F .f32) : IVec S32x1 32 := k0_pay118 (selK d7).1

/-- The power of two that scales a channel to the grid. -/
def selM (d7 : S16x3x32x128.Idx → Elt F .f32) : FVec F S32x1 .f32 := k0_pay119 (selK d7).1

/-- The search over the kept values: the largest grid value that enough of them reach, bit by bit. -/
def selFold (d7 : S16x3x32x128.Idx → Elt F .f32) :=
  Scf.fold (fun (_ : Fin k0_t3_loop.trips) (st : FVec F S32x1 .f32 × F .f32) =>
      (k0_pay6 (selK d7).2.2.2.1 (selK d7).2.2.2.2.1 (selK d7).2.2.2.2.2 (selM d7) (k0_pay120 (selK d7).1) (k0_pay121 (selK d7).1 (selK d7).2.1)
        (k0_pay122 (selK d7).1 (selK d7).2.2.1) st.1 st.2, k0_pay7 st.2))
    (k0_pay5, FloatOps.ofBits FTy.f32 1224736768#32)

/-- The grid value found among the kept values. -/
def selFK (d7 : S16x3x32x128.Idx → Elt F .f32) : FVec F S32x1 .f32 := (selFold d7).1

/-- One if some hidden value may reach the bin found, else zero. -/
def selFlag (d7 : S16x3x32x128.Idx → Elt F .f32) : F .f32 := k0_pay9 (selHid d7) (selM d7) (selFK d7)

/-- The condition of the branch on kept values. -/
def selC0 (d7 : S16x3x32x128.Idx → Elt F .f32) : BitVec 1 :=
  Scalar.cmpi .ne (Scalar.extui (Scalar.cmpf .oeq (selFlag d7) (FloatOps.ofBits FTy.f32 0#32)) : BitVec 32) 0#32

/-- The condition of the branch that reads the whole slab. -/
def selC1 (d7 : S16x3x32x128.Idx → Elt F .f32) : BitVec 1 :=
  Scalar.cmpi .ne (Scalar.extui (Scalar.cmpf .ogt (selFlag d7) (FloatOps.ofBits FTy.f32 0#32)) : BitVec 32) 0#32

/-- The lane numbers along the second axis. -/
abbrev lanes128 : IVec S32x128 32 := iota Kind.tc S32x128 32 [1] iota_S32x128_d1_w32

/-- The lane numbers along the second axis. -/
abbrev lanes256 : IVec S32x256 32 := iota Kind.tc S32x256 32 [1] iota_S32x256_d1_w32

/-- The statistics written in the branch on kept values. -/
def statsK (d7 : S16x3x32x128.Idx → Elt F .f32) : FVec F S32x128 .f32 :=
  k0_pay55 (selE d7) (selFK d7) lanes128 (k0_pay52 (selE d7) (selFK d7)) k0_pay53 k0_pay54

/-- The scale kept for the next pass in the branch on kept values. -/
def scaleK (d7 : S16x3x32x128.Idx → Elt F .f32) : FVec F S32x128 .f32 := k0_pay51 (selE d7) (selFK d7)

/-- The state before the kept values are counted into sub-bins. -/
def dropInit (d7 : S16x3x32x128.Idx → Elt F .f32) : DropSt F :=
  (k0_pay56 (k0_pay120 (selK d7).1) (k0_pay8 (selFK d7)),
   k0_pay60 (k0_pay57 (k0_pay121 (selK d7).1 (selK d7).2.1) (k0_pay8 (selFK d7))) (k0_pay58 (k0_pay121 (selK d7).1 (selK d7).2.1) (k0_pay8 (selFK d7))) k0_pay59,
   k0_pay61 (k0_pay122 (selK d7).1 (selK d7).2.2.1) (k0_pay8 (selFK d7)),
   k0_pay62 (k0_pay2 (selK d7).2.2.2.1 (selM d7)) (k0_pay8 (selFK d7)),
   k0_pay63 (k0_pay3 (selK d7).2.2.2.2.1 (selM d7)) (k0_pay8 (selFK d7)),
   k0_pay64 (k0_pay4 (selK d7).2.2.2.2.2 (selM d7)) (k0_pay8 (selFK d7)),
   k0_pay65)

/-- The sub-bin counts written in the branch on kept values. -/
def subK (d7 : S16x3x32x128.Idx → Elt F .f32) : IVec S32x256 32 :=
  k0_pay10 (dropIter lanes256 (dropInit d7) 256).2.2.2.2.2.2

/-- The grid value found over the whole slab. -/
def selFA (d6 : S16x32x12288.Idx → Elt F .f32) (d7 : S16x3x32x128.Idx → Elt F .f32) : FVec F S32x1 .f32 :=
  (searchIter (tilesOf d6) (selM d7) (k0_pay70, FloatOps.ofBits FTy.f32 1224736768#32) 20).1

/-- The statistics written in the branch that reads the whole slab. -/
def statsA (d6 : S16x32x12288.Idx → Elt F .f32) (d7 : S16x3x32x128.Idx → Elt F .f32) : FVec F S32x128 .f32 :=
  k0_pay81 (selE d7) (selFA d6 d7) lanes128 (k0_pay78 (selE d7) (selFA d6 d7)) k0_pay79 (k0_pay80 (selE d7) (selFA d6 d7))

/-- The scale kept for the next pass in the branch that reads the whole slab. -/
def scaleA (d6 : S16x32x12288.Idx → Elt F .f32) (d7 : S16x3x32x128.Idx → Elt F .f32) : FVec F S32x128 .f32 := k0_pay77 (selE d7) (selFA d6 d7)

/-- The sub-bin counts written in the branch that reads the whole slab. -/
def subA (d6 : S16x32x12288.Idx → Elt F .f32) (d7 : S16x3x32x128.Idx → Elt F .f32) : IVec S32x256 32 :=
  k0_pay16 (subIter (tilesOf d6) (selM d7) (k0_pay82 (selFA d6 d7))
    (k0_pay84, k0_pay11 (tileIter (tilesOf d6) (k0_pay85 (selM d7) (selFA d6 d7)) k0_pay1 1536), k0_pay83 (selFA d6 d7)) 256).1

/-- The statistics the selection writes. -/
def selStats (d6 : S16x32x12288.Idx → Elt F .f32) (d7 : S16x3x32x128.Idx → Elt F .f32) := if selC0 d7 = 1#1 then statsK d7 else statsA d6 d7

/-- The scale the selection keeps. -/
def selScale (d6 : S16x32x12288.Idx → Elt F .f32) (d7 : S16x3x32x128.Idx → Elt F .f32) := if selC0 d7 = 1#1 then scaleK d7 else scaleA d6 d7

/-- The sub-bin counts the selection writes. -/
def selSub (d6 : S16x32x12288.Idx → Elt F .f32) (d7 : S16x3x32x128.Idx → Elt F .f32) := if selC0 d7 = 1#1 then subK d7 else subA d6 d7

/-! ## The terms the run leaves are these -/

section run
variable (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
  (f6 : BufTy.Contents (Elt F) arg6.view.ty) (f7 : BufTy.Contents (Elt F) arg7.view.ty) (h1 : k0_cond1 i = 1#1)

theorem sl_K : st_k0_t1 Variants.none c none i arg2 harg2 arg3 harg3 arg4 harg4 arg5 harg5 arg6 harg6 arg7 harg7 arg8 harg8 k0_pay1 h1 f7 (k0_pay1, k0_pay1, k0_pay1, k0_pay1, k0_pay1, k0_pay1) (Scf.trips k0_t1_loop.lb k0_t1_loop.ub k0_t1_loop.st)
    = selK (arg7.view.read (Elt F) f7) := st1_eq ..

theorem sl_r : kernelRun.sl.r c i arg2 harg2 arg3 harg3 arg4 harg4 arg5 harg5 arg6 harg6 arg7 harg7 arg8 harg8 f7 h1 = (selK (arg7.view.read (Elt F) f7)).2.2.2.1 := by
  unfold kernelRun.sl.r; rw [sl_K]

theorem sl_r_1 : kernelRun.sl.r_1 c i arg2 harg2 arg3 harg3 arg4 harg4 arg5 harg5 arg6 harg6 arg7 harg7 arg8 harg8 f7 h1 = (selK (arg7.view.read (Elt F) f7)).2.2.2.2.1 := by
  unfold kernelRun.sl.r_1; rw [sl_K]

theorem sl_r_2 : kernelRun.sl.r_2 c i arg2 harg2 arg3 harg3 arg4 harg4 arg5 harg5 arg6 harg6 arg7 harg7 arg8 harg8 f7 h1 = (selK (arg7.view.read (Elt F) f7)).2.2.2.2.2 := by
  unfold kernelRun.sl.r_2; rw [sl_K]

theorem sl_r_3 : kernelRun.sl.r_3 c i arg2 harg2 arg3 harg3 arg4 harg4 arg5 harg5 arg6 harg6 arg7 harg7 arg8 harg8 f7 h1 = selHid (arg7.view.read (Elt F) f7) := by
  unfold kernelRun.sl.r_3; rw [sl_K]; exact st2_eq ..

theorem sl_r_4 : kernelRun.sl.r_4 c i arg2 harg2 arg3 harg3 arg4 harg4 arg5 harg5 arg6 harg6 arg7 harg7 arg8 harg8 f7 h1 = selE (arg7.view.read (Elt F) f7) := by
  unfold kernelRun.sl.r_4; rw [sl_K]; try rfl

theorem sl_r_5 : kernelRun.sl.r_5 c i arg2 harg2 arg3 harg3 arg4 harg4 arg5 harg5 arg6 harg6 arg7 harg7 arg8 harg8 f7 h1 = selM (arg7.view.read (Elt F) f7) := by
  unfold kernelRun.sl.r_5; rw [sl_K]; try rfl

theorem sl_r_6 : kernelRun.sl.r_6 c i arg2 harg2 arg3 harg3 arg4 harg4 arg5 harg5 arg6 harg6 arg7 harg7 arg8 harg8 f7 h1 = k0_pay120 (selK (arg7.view.read (Elt F) f7)).1 := by
  unfold kernelRun.sl.r_6; rw [sl_K]; try rfl

theorem sl_r_7 : kernelRun.sl.r_7 c i arg2 harg2 arg3 harg3 arg4 harg4 arg5 harg5 arg6 harg6 arg7 harg7 arg8 harg8 f7 h1 = k0_pay121 (selK (arg7.view.read (Elt F) f7)).1 (selK (arg7.view.read (Elt F) f7)).2.1 := by
  unfold kernelRun.sl.r_7; rw [sl_K]; try rfl

theorem sl_r_8 : kernelRun.sl.r_8 c i arg2 harg2 arg3 harg3 arg4 harg4 arg5 harg5 arg6 harg6 arg7 harg7 arg8 harg8 f7 h1 = k0_pay122 (selK (arg7.view.read (Elt F) f7)).1 (selK (arg7.view.read (Elt F) f7)).2.2.1 := by
  unfold kernelRun.sl.r_8; rw [sl_K]; try rfl

theorem sl_r_9 : kernelRun.sl.r_9 c i arg2 harg2 arg3 harg3 arg4 harg4 arg5 harg5 arg6 harg6 arg7 harg7 arg8 harg8 f7 h1 = selFold (arg7.view.read (Elt F) f7) := by
  unfold kernelRun.sl.r_9; rw [sl_r, sl_r_1, sl_r_2, sl_r_5, sl_r_6, sl_r_7, sl_r_8]; rfl

theorem sl_v84 : kernelRun.sl.v84 c i arg2 harg2 arg3 harg3 arg4 harg4 arg5 harg5 arg6 harg6 arg7 harg7 arg8 harg8 f7 h1 = selC0 (arg7.view.read (Elt F) f7) := by
  unfold kernelRun.sl.v84 kernelRun.sl.v83 kernelRun.sl.v82; rw [sl_r_3, sl_r_5, sl_r_9]; rfl

theorem sl_v87 : kernelRun.sl.v87 c i arg2 harg2 arg3 harg3 arg4 harg4 arg5 harg5 arg6 harg6 arg7 harg7 arg8 harg8 f7 h1 = selC1 (arg7.view.read (Elt F) f7) := by
  unfold kernelRun.sl.v87 kernelRun.sl.v86 kernelRun.sl.v85; rw [sl_r_3, sl_r_5, sl_r_9]; rfl

theorem sl_v87_1 : kernelRun.sl.v87_1 c i arg2 harg2 arg3 harg3 arg4 harg4 arg5 harg5 arg6 harg6 arg7 harg7 arg8 harg8 f7 h1 = selC1 (arg7.view.read (Elt F) f7) := by
  unfold kernelRun.sl.v87_1 kernelRun.sl.v86_1 kernelRun.sl.v85_1; rw [sl_r_3, sl_r_5, sl_r_9]; rfl

theorem sl_H4_K : kernelRun.sl.H4_1 c i arg2 harg2 arg3 harg3 arg4 harg4 arg5 harg5 arg6 harg6 arg7 harg7 arg8 harg8 f7 h1 = [⟨Rect.unit ![0, 0] S32x128.size inb_S32x128_S32x128_0_0, statsK (arg7.view.read (Elt F) f7)⟩] := by
  unfold kernelRun.sl.H4_1 kernelRun.sl.r_14; rw [sl_r_4, sl_r_9]; rfl

theorem sl_H8_K : kernelRun.sl.H8_1 c i arg2 harg2 arg3 harg3 arg4 harg4 arg5 harg5 arg6 harg6 arg7 harg7 arg8 harg8 f7 h1 = [⟨Rect.unit ![0, 0] S32x128.size inb_S32x128_S32x128_0_0, scaleK (arg7.view.read (Elt F) f7)⟩] := by
  unfold kernelRun.sl.H8_1; rw [sl_r_4, sl_r_9]; rfl

theorem sl_H5_K : kernelRun.sl.H5_1 c i arg2 harg2 arg3 harg3 arg4 harg4 arg5 harg5 arg6 harg6 arg7 harg7 arg8 harg8 f7 h1 = [⟨Rect.unit ![0, 0] S32x256.size inb_S32x256_S32x256_0_0, subK (arg7.view.read (Elt F) f7)⟩] := by
  unfold kernelRun.sl.H5_1 kernelRun.sl.r_18 kernelRun.sl.r_15 kernelRun.sl.r_16 kernelRun.sl.r_17; rw [sl_r, sl_r_1, sl_r_2, sl_r_5, sl_r_6, sl_r_7, sl_r_8, sl_r_9]; rfl

theorem sl_r_25 : kernelRun.sl.r_25 c i arg2 harg2 arg3 harg3 arg4 harg4 arg5 harg5 arg6 harg6 arg7 harg7 arg8 harg8 f6 f7 h1 = selFA (arg6.view.read (Elt F) f6) (arg7.view.read (Elt F) f7) := by
  unfold kernelRun.sl.r_25; rw [st5_eq, sl_r_5]; rfl

theorem sl_H4_A : kernelRun.sl.H4_1_1 c i arg2 harg2 arg3 harg3 arg4 harg4 arg5 harg5 arg6 harg6 arg7 harg7 arg8 harg8 f6 f7 h1 = [⟨Rect.unit ![0, 0] S32x128.size inb_S32x128_S32x128_0_0, statsA (arg6.view.read (Elt F) f6) (arg7.view.read (Elt F) f7)⟩] := by
  unfold kernelRun.sl.H4_1_1 kernelRun.sl.r_26 kernelRun.sl.r_27; rw [sl_r_25, st5_eq, sl_r_4, sl_r_5]; rfl

theorem sl_H8_A : kernelRun.sl.H8_1_1 c i arg2 harg2 arg3 harg3 arg4 harg4 arg5 harg5 arg6 harg6 arg7 harg7 arg8 harg8 f6 f7 h1 = [⟨Rect.unit ![0, 0] S32x128.size inb_S32x128_S32x128_0_0, scaleA (arg6.view.read (Elt F) f6) (arg7.view.read (Elt F) f7)⟩] := by
  unfold kernelRun.sl.H8_1_1; rw [st5_eq, sl_r_4, sl_r_5]; rfl

theorem sl_r_30 : kernelRun.sl.r_30 c i arg2 harg2 arg3 harg3 arg4 harg4 arg5 harg5 arg6 harg6 arg7 harg7 arg8 harg8 f6 f7 h1 = tileIter (tilesOf (arg6.view.read (Elt F) f6)) (k0_pay85 (selM (arg7.view.read (Elt F) f7)) (selFA (arg6.view.read (Elt F) f6) (arg7.view.read (Elt F) f7))) k0_pay1 1536 := by
  unfold kernelRun.sl.r_30; rw [st7_eq, sl_r_25, sl_r_5]; rfl

theorem sl_H5_A : kernelRun.sl.H5_1_1 c i arg2 harg2 arg3 harg3 arg4 harg4 arg5 harg5 arg6 harg6 arg7 harg7 arg8 harg8 f6 f7 h1 = [⟨Rect.unit ![0, 0] S32x256.size inb_S32x256_S32x256_0_0, subA (arg6.view.read (Elt F) f6) (arg7.view.read (Elt F) f7)⟩] := by
  unfold kernelRun.sl.H5_1_1 kernelRun.sl.r_28 kernelRun.sl.r_29; rw [st8_eq, sl_r_25, sl_r_30, sl_r_5]; rfl

end run

end Cert.KernelIdeal.Hand
-- ==== Proof.BodyVal.lean ====
module

public import proofs.«01_k».proof.Proof.SelTerms
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## What one point leaves in each buffer -/

/-- The kept values of one row, after its ninety-six tiles. -/
def ins3 (X2 : S1x1x32x12288.Idx → Elt F .f32) : FVec F S32x128 .f32 × FVec F S32x128 .f32 × FVec F S32x128 .f32 :=
  insIter (xTile X2) (k0_pay1, k0_pay1, k0_pay1) 96

/-- The kept values with row `b` replaced by `xs`. -/
def cellsAfter (b : Fin 16) (xs : FVec F S32x128 .f32 × FVec F S32x128 .f32 × FVec F S32x128 .f32) (g : S16x3x32x128.Idx → Elt F .f32) : S16x3x32x128.Idx → Elt F .f32 :=
  fun y => if (y 0).val = b.val then
      (if (y 1).val = 0 then xs.1 (ix2 (y 2) (y 3)) else if (y 1).val = 1 then xs.2.1 (ix2 (y 2) (y 3)) else xs.2.2 (ix2 (y 2) (y 3)))
    else g y

/-- The scale after the point. -/
def out8 (i : grid0.Coords) (Y6 : S16x32x12288.Idx → Elt F .f32) (Y7 : S16x3x32x128.Idx → Elt F .f32) (Y8 : S32x128.Idx → Elt F .f32) : S32x128.Idx → Elt F .f32 :=
  if k0_cond1 i = 1#1 then selScale Y6 Y7 else Y8

/-- The statistics after the point. -/
def out4 (i : grid0.Coords) (Y6 : S16x32x12288.Idx → Elt F .f32) (Y7 : S16x3x32x128.Idx → Elt F .f32) (Y4 : S32x128.Idx → Elt F .f32) : S32x128.Idx → Elt F .f32 :=
  if k0_cond1 i = 1#1 then selStats Y6 Y7 else Y4

/-- The sub-bin counts after the point. -/
def out5 (i : grid0.Coords) (Y6 : S16x32x12288.Idx → Elt F .f32) (Y7 : S16x3x32x128.Idx → Elt F .f32) (Y5 : S32x256.Idx → Elt F .i32) : S32x256.Idx → Elt F .i32 :=
  if k0_cond1 i = 1#1 then selSub Y6 Y7 else Y5

/-- The codes after the point, from the scale it codes with. -/
def out3 (i : grid0.Coords) (Y3 : S1x1x32x12288.Idx → Elt F .i8) (Y6 : S16x32x12288.Idx → Elt F .f32) (v17 : S32x128.Idx → Elt F .f32) : S1x1x32x12288.Idx → Elt F .i8 :=
  if k0_cond4 i = 1#1 then Y3 else codesAfter v17 Y6 (i 1) 96 Y3

/-- The slab after the point. -/
def out6 (i : grid0.Coords) (X2 : S1x1x32x12288.Idx → Elt F .f32) (Y6 : S16x32x12288.Idx → Elt F .f32) : S16x32x12288.Idx → Elt F .f32 :=
  if k0_cond6 i = 1#1 then Y6 else slabAfter X2 (i 1) 96 Y6

/-- The kept values after the point. -/
def out7 (i : grid0.Coords) (X2 : S1x1x32x12288.Idx → Elt F .f32) (Y7 : S16x3x32x128.Idx → Elt F .f32) : S16x3x32x128.Idx → Elt F .f32 :=
  if k0_cond6 i = 1#1 then Y7 else cellsAfter (i 1) (ins3 X2) Y7

/-- What the body owns at a point: each buffer at given contents. -/
abbrev HeldAt (c : Dev nD) (arg2 : Memref sig .tc .vmem S1x1x32x12288 .f32) (arg3 : Memref sig .tc .vmem S1x1x32x12288 .i8) (arg4 : Memref sig .tc .vmem S32x128 .f32) (arg5 : Memref sig .tc .vmem S32x256 .i32) (arg6 : Memref sig .tc .vmem S16x32x12288 .f32) (arg7 : Memref sig .tc .vmem S16x3x32x128 .f32) (arg8 : Memref sig .tc .vmem S32x128 .f32)
    (X2 : S1x1x32x12288.Idx → Elt F .f32) (Y3 : S1x1x32x12288.Idx → Elt F .i8) (Y4 : S32x128.Idx → Elt F .f32) (Y5 : S32x256.Idx → Elt F .i32)
    (Y6 : S16x32x12288.Idx → Elt F .f32) (Y7 : S16x3x32x128.Idx → Elt F .f32) (Y8 : S32x128.Idx → Elt F .f32) : sProp 𝕄 :=
  iprop(owns (c : Thread nD τ) arg2 fullShare X2 ∗ owns (c : Thread nD τ) arg3 fullShare Y3 ∗ owns (c : Thread nD τ) arg4 fullShare Y4
    ∗ owns (c : Thread nD τ) arg5 fullShare Y5 ∗ owns (c : Thread nD τ) arg6 fullShare Y6 ∗ owns (c : Thread nD τ) arg7 fullShare Y7 ∗ owns (c : Thread nD τ) arg8 fullShare Y8)

/-- Three stores of one row each, read back. -/
theorem cells_put (b : Fin 16) (M : Memref sig .tc .vmem S16x3x32x128 .f32) (f : BufTy.Contents (Elt F) M.view.ty)
    (o0 o1 o2 : Fin 4 → ℕ) (i0 : ∀ a, o0 a + S1x1x32x128.size a ≤ S16x3x32x128.size a) (i1 : ∀ a, o1 a + S1x1x32x128.size a ≤ S16x3x32x128.size a)
    (i2 : ∀ a, o2 a + S1x1x32x128.size a ≤ S16x3x32x128.size a) (ho0 : o0 = ![b.val, 0, 0, 0]) (ho1 : o1 = ![b.val, 1, 0, 0]) (ho2 : o2 = ![b.val, 2, 0, 0])
    (xs : FVec F S32x128 .f32 × FVec F S32x128 .f32 × FVec F S32x128 .f32) :
    M.view.read (Elt F) (M.view.writes (Elt F) f [⟨Rect.unit (s := S16x3x32x128) o2 S1x1x32x128.size i2, k0_pay26 xs.2.2⟩,
        ⟨Rect.unit (s := S16x3x32x128) o1 S1x1x32x128.size i1, k0_pay25 xs.2.1⟩, ⟨Rect.unit (s := S16x3x32x128) o0 S1x1x32x128.size i0, k0_pay24 xs.1⟩])
      = cellsAfter b xs (M.view.read (Elt F) f) := by
  funext y
  have hy2 : (y 2).val < 32 := (y 2).isLt
  have hy3 : (y 3).val < 128 := (y 3).isLt
  have hy1 : (y 1).val < 3 := (y 1).isLt
  have mem : ∀ (j : ℕ), (y 0).val = b.val → (y 1).val = j → ∀ a : Fin 4, (y a).val = (![b.val, j, 0, 0] : Fin 4 → ℕ) a + ((ix4 (n0 := 1) (n1 := 1) (n2 := 32) (n3 := 128) 0 0 ⟨(y 2).val, hy2⟩ ⟨(y 3).val, hy3⟩ : S1x1x32x128.Idx) a).val := by
    intro j h0 h1 a; fin_cases a
    · show (y 0).val = b.val + 0; omega
    · show (y 1).val = j + 0; omega
    · show (y 2).val = 0 + (y 2).val; omega
    · show (y 3).val = 0 + (y 3).val; omega
  unfold cellsAfter
  by_cases h0 : (y 0).val = b.val
  · rw [if_pos h0]
    by_cases h2 : (y 1).val = 2
    · rw [if_neg (by omega), if_neg (by omega)]
      refine (View.read_writes_cons_unit_of_mem M.view f i2 _ _ y _ ho2 (mem 2 h0 h2)).trans ?_
      unfold k0_pay26; simp only []; rw [sc24]; rfl
    · refine (View.read_writes_cons_unit_of_not_mem M.view f i2 _ _ y ho2 1 (by show (y 1).val < 2 ∨ 2 + 1 ≤ (y 1).val; omega)).trans ?_
      by_cases h1 : (y 1).val = 1
      · rw [if_neg (by omega), if_pos h1]
        refine (View.read_writes_cons_unit_of_mem M.view f i1 _ _ y _ ho1 (mem 1 h0 h1)).trans ?_
        unfold k0_pay25; simp only []; rw [sc24]; rfl
      · refine (View.read_writes_cons_unit_of_not_mem M.view f i1 _ _ y ho1 1 (by show (y 1).val < 1 ∨ 1 + 1 ≤ (y 1).val; omega)).trans ?_
        rw [if_pos (by omega)]
        refine (View.read_writes_cons_unit_of_mem M.view f i0 _ _ y _ ho0 (mem 0 h0 (by omega))).trans ?_
        unfold k0_pay24; simp only []; rw [sc24]; rfl
  · rw [if_neg h0]
    refine (View.read_writes_cons_unit_of_not_mem M.view f i2 _ _ y ho2 0 (by show (y 0).val < b.val ∨ b.val + 1 ≤ (y 0).val; omega)).trans ?_
    refine (View.read_writes_cons_unit_of_not_mem M.view f i1 _ _ y ho1 0 (by show (y 0).val < b.val ∨ b.val + 1 ≤ (y 0).val; omega)).trans ?_
    refine (View.read_writes_cons_unit_of_not_mem M.view f i0 _ _ y ho0 0 (by show (y 0).val < b.val ∨ b.val + 1 ≤ (y 0).val; omega)).trans ?_
    rfl

section run
variable (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
  (f2 : BufTy.Contents (Elt F) arg2.view.ty) (f3 : BufTy.Contents (Elt F) arg3.view.ty) (f6 : BufTy.Contents (Elt F) arg6.view.ty) (f7 : BufTy.Contents (Elt F) arg7.view.ty)

theorem lf_4K (h1 : k0_cond1 i = 1#1) : arg4.view.read (Elt F) (arg4.view.writes (Elt F) arg4.view.junk (kernelRun.sl.H4_1 c i arg2 harg2 arg3 harg3 arg4 harg4 arg5 harg5 arg6 harg6 arg7 harg7 arg8 harg8 f7 h1)) = statsK (arg7.view.read (Elt F) f7) := by
  rw [sl_H4_K]; exact View.read_writes_full ..
theorem lf_4A (h1 : k0_cond1 i = 1#1) : arg4.view.read (Elt F) (arg4.view.writes (Elt F) arg4.view.junk (kernelRun.sl.H4_1_1 c i arg2 harg2 arg3 harg3 arg4 harg4 arg5 harg5 arg6 harg6 arg7 harg7 arg8 harg8 f6 f7 h1)) = statsA (arg6.view.read (Elt F) f6) (arg7.view.read (Elt F) f7) := by
  rw [sl_H4_A]; exact View.read_writes_full ..
theorem lf_5K (h1 : k0_cond1 i = 1#1) : arg5.view.read (Elt F) (arg5.view.writes (Elt F) arg5.view.junk (kernelRun.sl.H5_1 c i arg2 harg2 arg3 harg3 arg4 harg4 arg5 harg5 arg6 harg6 arg7 harg7 arg8 harg8 f7 h1)) = subK (arg7.view.read (Elt F) f7) := by
  rw [sl_H5_K]; exact View.read_writes_full ..
theorem lf_5A (h1 : k0_cond1 i = 1#1) : arg5.view.read (Elt F) (arg5.view.writes (Elt F) arg5.view.junk (kernelRun.sl.H5_1_1 c i arg2 harg2 arg3 harg3 arg4 harg4 arg5 harg5 arg6 harg6 arg7 harg7 arg8 harg8 f6 f7 h1)) = subA (arg6.view.read (Elt F) f6) (arg7.view.read (Elt F) f7) := by
  rw [sl_H5_A]; exact View.read_writes_full ..
theorem lf_8K (h1 : k0_cond1 i = 1#1) : arg8.view.read (Elt F) (arg8.view.writes (Elt F) arg8.view.junk (kernelRun.sl.H8_1 c i arg2 harg2 arg3 harg3 arg4 harg4 arg5 harg5 arg6 harg6 arg7 harg7 arg8 harg8 f7 h1)) = scaleK (arg7.view.read (Elt F) f7) := by
  rw [sl_H8_K]; exact View.read_writes_full ..
theorem lf_8A (h1 : k0_cond1 i = 1#1) : arg8.view.read (Elt F) (arg8.view.writes (Elt F) arg8.view.junk (kernelRun.sl.H8_1_1 c i arg2 harg2 arg3 harg3 arg4 harg4 arg5 harg5 arg6 harg6 arg7 harg7 arg8 harg8 f6 f7 h1)) = scaleA (arg6.view.read (Elt F) f6) (arg7.view.read (Elt F) f7) := by
  rw [sl_H8_A]; exact View.read_writes_full ..
theorem lf_vK (h1 : k0_cond1 i = 1#1) : arg8.view.readCov (kernelRun.sl.H8_1 c i arg2 harg2 arg3 harg3 arg4 harg4 arg5 harg5 arg6 harg6 arg7 harg7 arg8 harg8 f7 h1) (Rect.unit (s := S32x128) ![0, 0] S32x128.size inb_S32x128_S32x128_0_0).toLoadRect = scaleK (arg7.view.read (Elt F) f7) := by
  rw [sl_H8_K]; exact View.readCov_full ..
theorem lf_vA (h1 : k0_cond1 i = 1#1) : arg8.view.readCov (kernelRun.sl.H8_1_1 c i arg2 harg2 arg3 harg3 arg4 harg4 arg5 harg5 arg6 harg6 arg7 harg7 arg8 harg8 f6 f7 h1) (Rect.unit (s := S32x128) ![0, 0] S32x128.size inb_S32x128_S32x128_0_0).toLoadRect = scaleA (arg6.view.read (Elt F) f6) (arg7.view.read (Elt F) f7) := by
  rw [sl_H8_A]; exact View.readCov_full ..

include f6 in
theorem lf_7 (h4 : k0_cond4 i = 1#1) : arg7.view.read (Elt F) (arg7.view.writes (Elt F) f7 [⟨Rect.unit (s := S16x3x32x128) (k0_off12 i) S1x1x32x128.size (k0_off12_inb i h4), k0_pay26 (st_k0_t10 Variants.none c none i arg2 harg2 arg3 harg3 arg4 harg4 arg5 harg5 arg6 harg6 arg7 harg7 arg8 harg8 h4 f2 (k0_pay1, k0_pay1, k0_pay1) (Scf.trips k0_t10_loop.lb k0_t10_loop.ub k0_t10_loop.st)).1.2.2⟩,
      ⟨Rect.unit (s := S16x3x32x128) (k0_off11 i) S1x1x32x128.size (k0_off11_inb i h4), k0_pay25 (st_k0_t10 Variants.none c none i arg2 harg2 arg3 harg3 arg4 harg4 arg5 harg5 arg6 harg6 arg7 harg7 arg8 harg8 h4 f2 (k0_pay1, k0_pay1, k0_pay1) (Scf.trips k0_t10_loop.lb k0_t10_loop.ub k0_t10_loop.st)).1.2.1⟩,
      ⟨Rect.unit (s := S16x3x32x128) (k0_off10 i) S1x1x32x128.size (k0_off10_inb i h4), k0_pay24 (st_k0_t10 Variants.none c none i arg2 harg2 arg3 harg3 arg4 harg4 arg5 harg5 arg6 harg6 arg7 harg7 arg8 harg8 h4 f2 (k0_pay1, k0_pay1, k0_pay1) (Scf.trips k0_t10_loop.lb k0_t10_loop.ub k0_t10_loop.st)).1.1⟩])
    = cellsAfter (i 1) (ins3 (arg2.view.read (Elt F) f2)) (arg7.view.read (Elt F) f7) :=
  (cells_put (i 1) arg7 f7 _ _ _ _ _ _ (off10_eq i) (off11_eq i) (off12_eq i) _).trans
    (congrArg (fun xs => cellsAfter (i 1) xs (arg7.view.read (Elt F) f7)) (st10_eq Variants.none none c i arg2 harg2 arg3 harg3 arg4 harg4 arg5 harg5 arg6 harg6 arg7 harg7 arg8 harg8 h4 f2 _ f6 96 le_rfl).1)

theorem lf_7' (h5 : k0_cond5 i = 1#1) (v17 : Vec F S32x128 .f32) : arg7.view.read (Elt F) (arg7.view.writes (Elt F) f7 [⟨Rect.unit (s := S16x3x32x128) (k0_off17 i) S1x1x32x128.size (k0_off17_inb i h5), k0_pay37 (st_k0_t11 Variants.none c none i arg2 harg2 arg3 harg3 arg4 harg4 arg5 harg5 arg6 harg6 arg7 harg7 arg8 harg8 h5 v17 f2 f3 f6 (k0_pay1, k0_pay1, k0_pay1) (Scf.trips k0_t11_loop.lb k0_t11_loop.ub k0_t11_loop.st)).1.2.2⟩,
      ⟨Rect.unit (s := S16x3x32x128) (k0_off16 i) S1x1x32x128.size (k0_off16_inb i h5), k0_pay36 (st_k0_t11 Variants.none c none i arg2 harg2 arg3 harg3 arg4 harg4 arg5 harg5 arg6 harg6 arg7 harg7 arg8 harg8 h5 v17 f2 f3 f6 (k0_pay1, k0_pay1, k0_pay1) (Scf.trips k0_t11_loop.lb k0_t11_loop.ub k0_t11_loop.st)).1.2.1⟩,
      ⟨Rect.unit (s := S16x3x32x128) (k0_off15 i) S1x1x32x128.size (k0_off15_inb i h5), k0_pay35 (st_k0_t11 Variants.none c none i arg2 harg2 arg3 harg3 arg4 harg4 arg5 harg5 arg6 harg6 arg7 harg7 arg8 harg8 h5 v17 f2 f3 f6 (k0_pay1, k0_pay1, k0_pay1) (Scf.trips k0_t11_loop.lb k0_t11_loop.ub k0_t11_loop.st)).1.1⟩])
    = cellsAfter (i 1) (ins3 (arg2.view.read (Elt F) f2)) (arg7.view.read (Elt F) f7) :=
  (cells_put (i 1) arg7 f7 _ _ _ _ _ _ (off15_eq i) (off16_eq i) (off17_eq i) _).trans
    (congrArg (fun xs => cellsAfter (i 1) xs (arg7.view.read (Elt F) f7)) (st11_eq Variants.none none c i arg2 harg2 arg3 harg3 arg4 harg4 arg5 harg5 arg6 harg6 arg7 harg7 arg8 harg8 h5 v17 f2 f3 f6 _ 96 le_rfl).1)
end run

set_option maxHeartbeats 8000000 in
/-- What one point leaves: each buffer at the contents named above. -/
theorem kernelVal (c : Dev nD) (i : grid0.Coords) (arg2 : Memref sig .tc .vmem S1x1x32x12288 .f32) (harg2 : arg2.IsWhole) (arg3 : Memref sig .tc .vmem S1x1x32x12288 .i8) (harg3 : arg3.IsWhole) (arg4 : Memref sig .tc .vmem S32x128 .f32) (harg4 : arg4.IsWhole) (arg5 : Memref sig .tc .vmem S32x256 .i32) (harg5 : arg5.IsWhole) (arg6 : Memref sig .tc .vmem S16x32x12288 .f32) (harg6 : arg6.IsWhole) (arg7 : Memref sig .tc .vmem S16x3x32x128 .f32) (harg7 : arg7.IsWhole) (arg8 : Memref sig .tc .vmem S32x128 .f32) (harg8 : arg8.IsWhole)
    (X2 : S1x1x32x12288.Idx → Elt F .f32) (Y3 : S1x1x32x12288.Idx → Elt F .i8) (Y4 : S32x128.Idx → Elt F .f32) (Y5 : S32x256.Idx → Elt F .i32)
    (Y6 : S16x32x12288.Idx → Elt F .f32) (Y7 : S16x3x32x128.Idx → Elt F .f32) (Y8 : S32x128.Idx → Elt F .f32)
    (hok : (selC0 Y7 = 1#1 ∧ ¬ selC1 Y7 = 1#1) ∨ (¬ selC0 Y7 = 1#1 ∧ selC1 Y7 = 1#1)) :
    HeldAt c arg2 arg3 arg4 arg5 arg6 arg7 arg8 X2 Y3 Y4 Y5 Y6 Y7 Y8
      ⊢ wp frame (wpE (defs₀ (F := F)) Variants.none c none) Set.univ
          (cc0_chan_quant i arg2 harg2 arg3 harg3 arg4 harg4 arg5 harg5 arg6 harg6 arg7 harg7 arg8 harg8)
          (fun _ => HeldAt c arg2 arg3 arg4 arg5 arg6 arg7 arg8 X2 (out3 i Y3 Y6 (out8 i Y6 Y7 Y8)) (out4 i Y6 Y7 Y4) (out5 i Y6 Y7 Y5) (out6 i X2 Y6) (out7 i X2 Y7) (out8 i Y6 Y7 Y8)) := by
  simp only [cc0_chan_quant_eq_skeleton]; unfold cc0_chan_quant_skel
  unfold HeldAt owns
  iintro ⟨⟨%f2, %h2, H2⟩, ⟨%f3, %h3, H3⟩, ⟨%f4, %h4', H4⟩, ⟨%f5, %h5', H5⟩, ⟨%f6, %h6', H6⟩, ⟨%f7, %h7, H7⟩, ⟨%f8, %h8, H8⟩⟩
  by_cases h1 : k0_cond1 i = 1#1
  · have h4 := cond4_of_cond1 i h1
    rcases hok with ⟨hk0, hk1⟩ | ⟨hk0, hk1⟩
    · have hv : kernelRun.sl.v84 c i arg2 harg2 arg3 harg3 arg4 harg4 arg5 harg5 arg6 harg6 arg7 harg7 arg8 harg8 f7 h1 = 1#1 := by rw [sl_v84, h7]; exact hk0
      have hw : ¬ kernelRun.sl.v87 c i arg2 harg2 arg3 harg3 arg4 harg4 arg5 harg5 arg6 harg6 arg7 harg7 arg8 harg8 f7 h1 = 1#1 := by rw [sl_v87, h7]; exact hk1
      sl_exec
      by_cases h5 : k0_cond5 i = 1#1
      · have h6 := cond6_of_cond5 i h5
        sl_exec
        sl_step
        isplitl [H2]
        · iexists _; isplitr; swap
          · iexact H2
          · ipureintro; exact h2
        isplitl [H3]
        · iexists _; isplitr; swap
          · iexact H3
          · ipureintro; rw [out3, if_neg h4]; rw [out8, if_pos h1, selScale, if_pos hk0]; subst h2 h3 h6' h7; exact ((st11_eq Variants.none none c i arg2 harg2 arg3 harg3 arg4 harg4 arg5 harg5 arg6 harg6 arg7 harg7 arg8 harg8 h5 _ f2 f3 f6 _ 96 le_rfl).2.1).trans (congrArg (fun v => codesAfter v _ (i 1) 96 _) (lf_vK c i arg2 harg2 arg3 harg3 arg4 harg4 arg5 harg5 arg6 harg6 arg7 harg7 arg8 harg8 f7 h1))
        isplitl [H4]
        · iexists _; isplitr; swap
          · iexact H4
          · ipureintro; rw [out4, if_pos h1, selStats, if_pos hk0]; subst h7; exact lf_4K c i arg2 harg2 arg3 harg3 arg4 harg4 arg5 harg5 arg6 harg6 arg7 harg7 arg8 harg8 f7 h1
        isplitl [H5]
        · iexists _; isplitr; swap
          · iexact H5
          · ipureintro; rw [out5, if_pos h1, selSub, if_pos hk0]; subst h7; exact lf_5K c i arg2 harg2 arg3 harg3 arg4 harg4 arg5 harg5 arg6 harg6 arg7 harg7 arg8 harg8 f7 h1
        isplitl [H6]
        · iexists _; isplitr; swap
          · iexact H6
          · ipureintro; rw [out6, if_neg h6]; subst h2 h6'; exact (st11_eq Variants.none none c i arg2 harg2 arg3 harg3 arg4 harg4 arg5 harg5 arg6 harg6 arg7 harg7 arg8 harg8 h5 _ f2 f3 f6 _ 96 le_rfl).2.2
        isplitl [H7]
        · iexists _; isplitr; swap
          · iexact H7
          · ipureintro; rw [out7, if_neg h6]; subst h2 h7; exact lf_7' c i arg2 harg2 arg3 harg3 arg4 harg4 arg5 harg5 arg6 harg6 arg7 harg7 arg8 harg8 f2 f3 f6 f7 h5 _
        iexists _; isplitr; swap
        · iexact H8
        · ipureintro; rw [out8, if_pos h1, selScale, if_pos hk0]; subst h7; exact lf_8K c i arg2 harg2 arg3 harg3 arg4 harg4 arg5 harg5 arg6 harg6 arg7 harg7 arg8 harg8 f7 h1
      · have h6 := cond6_of_not i h4 h5
        sl_exec
        sl_step
        isplitl [H2]
        · iexists _; isplitr; swap
          · iexact H2
          · ipureintro; exact h2
        isplitl [H3]
        · iexists _; isplitr; swap
          · iexact H3
          · ipureintro; rw [out3, if_neg h4]; rw [out8, if_pos h1, selScale, if_pos hk0]; subst h3 h6' h7; exact (pb12_eq Variants.none none c i arg2 harg2 arg3 harg3 arg4 harg4 arg5 harg5 arg6 harg6 arg7 harg7 arg8 harg8 h6 _ f6 f3 96 le_rfl).trans (congrArg (fun v => codesAfter v _ (i 1) 96 _) (lf_vK c i arg2 harg2 arg3 harg3 arg4 harg4 arg5 harg5 arg6 harg6 arg7 harg7 arg8 harg8 f7 h1))
        isplitl [H4]
        · iexists _; isplitr; swap
          · iexact H4
          · ipureintro; rw [out4, if_pos h1, selStats, if_pos hk0]; subst h7; exact lf_4K c i arg2 harg2 arg3 harg3 arg4 harg4 arg5 harg5 arg6 harg6 arg7 harg7 arg8 harg8 f7 h1
        isplitl [H5]
        · iexists _; isplitr; swap
          · iexact H5
          · ipureintro; rw [out5, if_pos h1, selSub, if_pos hk0]; subst h7; exact lf_5K c i arg2 harg2 arg3 harg3 arg4 harg4 arg5 harg5 arg6 harg6 arg7 harg7 arg8 harg8 f7 h1
        isplitl [H6]
        · iexists _; isplitr; swap
          · iexact H6
          · ipureintro; rw [out6, if_pos h6]; exact h6'
        isplitl [H7]
        · iexists _; isplitr; swap
          · iexact H7
          · ipureintro; rw [out7, if_pos h6]; exact h7
        iexists _; isplitr; swap
        · iexact H8
        · ipureintro; rw [out8, if_pos h1, selScale, if_pos hk0]; subst h7; exact lf_8K c i arg2 harg2 arg3 harg3 arg4 harg4 arg5 harg5 arg6 harg6 arg7 harg7 arg8 harg8 f7 h1
    · have hv : ¬ kernelRun.sl.v84 c i arg2 harg2 arg3 harg3 arg4 harg4 arg5 harg5 arg6 harg6 arg7 harg7 arg8 harg8 f7 h1 = 1#1 := by rw [sl_v84, h7]; exact hk0
      have hw : kernelRun.sl.v87_1 c i arg2 harg2 arg3 harg3 arg4 harg4 arg5 harg5 arg6 harg6 arg7 harg7 arg8 harg8 f7 h1 = 1#1 := by rw [sl_v87_1, h7]; exact hk1
      sl_exec
      by_cases h5 : k0_cond5 i = 1#1
      · have h6 := cond6_of_cond5 i h5
        sl_exec
        sl_step
        isplitl [H2]
        · iexists _; isplitr; swap
          · iexact H2
          · ipureintro; exact h2
        isplitl [H3]
        · iexists _; isplitr; swap
          · iexact H3
          · ipureintro; rw [out3, if_neg h4]; rw [out8, if_pos h1, selScale, if_neg hk0]; subst h2 h3 h6' h7; exact ((st11_eq Variants.none none c i arg2 harg2 arg3 harg3 arg4 harg4 arg5 harg5 arg6 harg6 arg7 harg7 arg8 harg8 h5 _ f2 f3 f6 _ 96 le_rfl).2.1).trans (congrArg (fun v => codesAfter v _ (i 1) 96 _) (lf_vA c i arg2 harg2 arg3 harg3 arg4 harg4 arg5 harg5 arg6 harg6 arg7 harg7 arg8 harg8 f6 f7 h1))
        isplitl [H4]
        · iexists _; isplitr; swap
          · iexact H4
          · ipureintro; rw [out4, if_pos h1, selStats, if_neg hk0]; subst h6' h7; exact lf_4A c i arg2 harg2 arg3 harg3 arg4 harg4 arg5 harg5 arg6 harg6 arg7 harg7 arg8 harg8 f6 f7 h1
        isplitl [H5]
        · iexists _; isplitr; swap
          · iexact H5
          · ipureintro; rw [out5, if_pos h1, selSub, if_neg hk0]; subst h6' h7; exact lf_5A c i arg2 harg2 arg3 harg3 arg4 harg4 arg5 harg5 arg6 harg6 arg7 harg7 arg8 harg8 f6 f7 h1
        isplitl [H6]
        · iexists _; isplitr; swap
          · iexact H6
          · ipureintro; rw [out6, if_neg h6]; subst h2 h6'; exact (st11_eq Variants.none none c i arg2 harg2 arg3 harg3 arg4 harg4 arg5 harg5 arg6 harg6 arg7 harg7 arg8 harg8 h5 _ f2 f3 f6 _ 96 le_rfl).2.2
        isplitl [H7]
        · iexists _; isplitr; swap
          · iexact H7
          · ipureintro; rw [out7, if_neg h6]; subst h2 h7; exact lf_7' c i arg2 harg2 arg3 harg3 arg4 harg4 arg5 harg5 arg6 harg6 arg7 harg7 arg8 harg8 f2 f3 f6 f7 h5 _
        iexists _; isplitr; swap
        · iexact H8
        · ipureintro; rw [out8, if_pos h1, selScale, if_neg hk0]; subst h6' h7; exact lf_8A c i arg2 harg2 arg3 harg3 arg4 harg4 arg5 harg5 arg6 harg6 arg7 harg7 arg8 harg8 f6 f7 h1
      · have h6 := cond6_of_not i h4 h5
        sl_exec
        sl_step
        isplitl [H2]
        · iexists _; isplitr; swap
          · iexact H2
          · ipureintro; exact h2
        isplitl [H3]
        · iexists _; isplitr; swap
          · iexact H3
          · ipureintro; rw [out3, if_neg h4]; rw [out8, if_pos h1, selScale, if_neg hk0]; subst h3 h6' h7; exact (pb12_eq Variants.none none c i arg2 harg2 arg3 harg3 arg4 harg4 arg5 harg5 arg6 harg6 arg7 harg7 arg8 harg8 h6 _ f6 f3 96 le_rfl).trans (congrArg (fun v => codesAfter v _ (i 1) 96 _) (lf_vA c i arg2 harg2 arg3 harg3 arg4 harg4 arg5 harg5 arg6 harg6 arg7 harg7 arg8 harg8 f6 f7 h1))
        isplitl [H4]
        · iexists _; isplitr; swap
          · iexact H4
          · ipureintro; rw [out4, if_pos h1, selStats, if_neg hk0]; subst h6' h7; exact lf_4A c i arg2 harg2 arg3 harg3 arg4 harg4 arg5 harg5 arg6 harg6 arg7 harg7 arg8 harg8 f6 f7 h1
        isplitl [H5]
        · iexists _; isplitr; swap
          · iexact H5
          · ipureintro; rw [out5, if_pos h1, selSub, if_neg hk0]; subst h6' h7; exact lf_5A c i arg2 harg2 arg3 harg3 arg4 harg4 arg5 harg5 arg6 harg6 arg7 harg7 arg8 harg8 f6 f7 h1
        isplitl [H6]
        · iexists _; isplitr; swap
          · iexact H6
          · ipureintro; rw [out6, if_pos h6]; exact h6'
        isplitl [H7]
        · iexists _; isplitr; swap
          · iexact H7
          · ipureintro; rw [out7, if_pos h6]; exact h7
        iexists _; isplitr; swap
        · iexact H8
        · ipureintro; rw [out8, if_pos h1, selScale, if_neg hk0]; subst h6' h7; exact lf_8A c i arg2 harg2 arg3 harg3 arg4 harg4 arg5 harg5 arg6 harg6 arg7 harg7 arg8 harg8 f6 f7 h1
  · by_cases h4 : k0_cond4 i = 1#1
    · have h5 := cond5_of_cond4 i h4
      have h6 := cond6_of_cond4 i h4
      sl_exec
      sl_step
      isplitl [H2]
      · iexists _; isplitr; swap
        · iexact H2
        · ipureintro; exact h2
      isplitl [H3]
      · iexists _; isplitr; swap
        · iexact H3
        · ipureintro; rw [out3, if_pos h4]; exact h3
      isplitl [H4]
      · iexists _; isplitr; swap
        · iexact H4
        · ipureintro; rw [out4, if_neg h1]; exact h4'
      isplitl [H5]
      · iexists _; isplitr; swap
        · iexact H5
        · ipureintro; rw [out5, if_neg h1]; exact h5'
      isplitl [H6]
      · iexists _; isplitr; swap
        · iexact H6
        · ipureintro; rw [out6, if_neg h6]; subst h2 h6'; exact (st10_eq Variants.none none c i arg2 harg2 arg3 harg3 arg4 harg4 arg5 harg5 arg6 harg6 arg7 harg7 arg8 harg8 h4 f2 _ f6 96 le_rfl).2
      isplitl [H7]
      · iexists _; isplitr; swap
        · iexact H7
        · ipureintro; rw [out7, if_neg h6]; subst h2 h7; exact lf_7 c i arg2 harg2 arg3 harg3 arg4 harg4 arg5 harg5 arg6 harg6 arg7 harg7 arg8 harg8 f2 f6 f7 h4
      iexists _; isplitr; swap
      · iexact H8
      · ipureintro; rw [out8, if_neg h1]; exact h8
    · by_cases h5 : k0_cond5 i = 1#1
      · have h6 := cond6_of_cond5 i h5
        sl_exec
        sl_step
        isplitl [H2]
        · iexists _; isplitr; swap
          · iexact H2
          · ipureintro; exact h2
        isplitl [H3]
        · iexists _; isplitr; swap
          · iexact H3
          · ipureintro; rw [out3, if_neg h4, out8, if_neg h1]; subst h2 h3 h6' h8; exact ((st11_eq Variants.none none c i arg2 harg2 arg3 harg3 arg4 harg4 arg5 harg5 arg6 harg6 arg7 harg7 arg8 harg8 h5 _ f2 f3 f6 _ 96 le_rfl).2.1).trans (congrArg (fun v => codesAfter v _ (i 1) 96 _) (View.readAt_full _ _ _))
        isplitl [H4]
        · iexists _; isplitr; swap
          · iexact H4
          · ipureintro; rw [out4, if_neg h1]; exact h4'
        isplitl [H5]
        · iexists _; isplitr; swap
          · iexact H5
          · ipureintro; rw [out5, if_neg h1]; exact h5'
        isplitl [H6]
        · iexists _; isplitr; swap
          · iexact H6
          · ipureintro; rw [out6, if_neg h6]; subst h2 h6'; exact (st11_eq Variants.none none c i arg2 harg2 arg3 harg3 arg4 harg4 arg5 harg5 arg6 harg6 arg7 harg7 arg8 harg8 h5 _ f2 f3 f6 _ 96 le_rfl).2.2
        isplitl [H7]
        · iexists _; isplitr; swap
          · iexact H7
          · ipureintro; rw [out7, if_neg h6]; subst h2 h7; exact lf_7' c i arg2 harg2 arg3 harg3 arg4 harg4 arg5 harg5 arg6 harg6 arg7 harg7 arg8 harg8 f2 f3 f6 f7 h5 _
        iexists _; isplitr; swap
        · iexact H8
        · ipureintro; rw [out8, if_neg h1]; exact h8
      · have h6 := cond6_of_not i h4 h5
        sl_exec
        sl_step
        isplitl [H2]
        · iexists _; isplitr; swap
          · iexact H2
          · ipureintro; exact h2
        isplitl [H3]
        · iexists _; isplitr; swap
          · iexact H3
          · ipureintro; rw [out3, if_neg h4, out8, if_neg h1]; subst h3 h6' h8; exact (pb12_eq Variants.none none c i arg2 harg2 arg3 harg3 arg4 harg4 arg5 harg5 arg6 harg6 arg7 harg7 arg8 harg8 h6 _ f6 f3 96 le_rfl).trans (congrArg (fun v => codesAfter v _ (i 1) 96 _) (View.readAt_full _ _ _))
        isplitl [H4]
        · iexists _; isplitr; swap
          · iexact H4
          · ipureintro; rw [out4, if_neg h1]; exact h4'
        isplitl [H5]
        · iexists _; isplitr; swap
          · iexact H5
          · ipureintro; rw [out5, if_neg h1]; exact h5'
        isplitl [H6]
        · iexists _; isplitr; swap
          · iexact H6
          · ipureintro; rw [out6, if_pos h6]; exact h6'
        isplitl [H7]
        · iexists _; isplitr; swap
          · iexact H7
          · ipureintro; rw [out7, if_pos h6]; exact h7
        iexists _; isplitr; swap
        · iexact H8
        · ipureintro; rw [out8, if_neg h1]; exact h8

end Cert.KernelIdeal.Hand
-- ==== Proof.Points.lean ====
module

public import proofs.«01_k».proof.Proof.BodyVal
public import proofs.«01_k».proof.Proof.FrameRunIdeal
public import Idealize.ShloMosaic.Lib.Pipeline.ValueKit
public import Idealize.ShloMosaic.Lib.Pipeline.ArrRel
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-! ## The groups of channels -/

/-- The block of the argument that group `g` (of thirty-two channels) and batch row `b` name; past the last group, the last. -/
def xblk (xt : S16x8x160x12288.Idx → Elt F .f32) (g : ℕ) (b : Fin 16) : S1x1x32x12288.Idx → Elt F .f32 := fun y =>
  xt (ValueIdx.ix4 b (⟨min g 39 / 5, by omega⟩ : Fin 8)
    (⟨min g 39 % 5 * 32 + (y 2).val, by have : (y 2).val < 32 := (y 2).isLt; omega⟩ : Fin 160) (⟨(y 3).val, (y 3).isLt⟩ : Fin 12288))

/-- The slab of a group: its sixteen rows. -/
def slabOf (xt : S16x8x160x12288.Idx → Elt F .f32) (g : ℕ) : S16x32x12288.Idx → Elt F .f32 := fun y => xblk xt g (y 0) (ValueIdx.ix4 0 0 (y 1) (y 2))

/-- The kept values of a group, row by row. -/
def keptOf (xt : S16x8x160x12288.Idx → Elt F .f32) (g : ℕ) : S16x3x32x128.Idx → Elt F .f32 := fun y =>
  if (y 1).val = 0 then (ins3 (xblk xt g (y 0))).1 (ValueIdx.ix2 (y 2) (y 3)) else if (y 1).val = 1 then (ins3 (xblk xt g (y 0))).2.1 (ValueIdx.ix2 (y 2) (y 3))
    else (ins3 (xblk xt g (y 0))).2.2 (ValueIdx.ix2 (y 2) (y 3))

theorem slabOf_clamp (xt : S16x8x160x12288.Idx → Elt F .f32) : slabOf xt 40 = slabOf xt 39 := rfl
theorem keptOf_clamp (xt : S16x8x160x12288.Idx → Elt F .f32) : keptOf xt 40 = keptOf xt 39 := rfl

/-- The statistics of a group. -/
def statsG (xt : S16x8x160x12288.Idx → Elt F .f32) (g : ℕ) : S32x128.Idx → Elt F .f32 := selStats (slabOf xt g) (keptOf xt g)

/-- The scale of a group. -/
def scaleG (xt : S16x8x160x12288.Idx → Elt F .f32) (g : ℕ) : S32x128.Idx → Elt F .f32 := selScale (slabOf xt g) (keptOf xt g)

/-- The sub-bin counts of a group. -/
def subG (xt : S16x8x160x12288.Idx → Elt F .f32) (g : ℕ) : S32x256.Idx → Elt F .i32 := selSub (slabOf xt g) (keptOf xt g)

/-- The codes of one row of a group. -/
def codesG (xt : S16x8x160x12288.Idx → Elt F .f32) (g : ℕ) (b : Fin 16) : S1x1x32x12288.Idx → Elt F .i8 := fun y =>
  k0_pay27 (scaleG xt g) (rowTile (slabOf xt g) b ⟨(y 3).val / 128, by have : (y 3).val < 12288 := (y 3).isLt; omega⟩) (ValueIdx.ix4 0 0 (y 2) ⟨(y 3).val % 128, Nat.mod_lt _ (by norm_num)⟩)

/-! ## The conditions and the coordinates at a point -/

theorem coord0 (t : Fin cfg0.N) : (grid0.coords t 0).val = t.val / 16 := by
  have h : t.val < 656 := N_0 ▸ t.isLt
  rw [Pipeline.Grid.coords_val t (0 : Fin 2) (S := 16) (B := 41) (by decide +kernel) (by decide +kernel)]; omega

theorem coord1 (t : Fin cfg0.N) : (grid0.coords t 1).val = t.val % 16 := by
  rw [Pipeline.Grid.coords_val t (1 : Fin 2) (S := 1) (B := 16) (by decide +kernel) (by decide +kernel)]; omega

theorem cond1_iff (i : grid0.Coords) : k0_cond1 i = 1#1 ↔ (i 1).val = 0 ∧ 0 < (i 0).val := by
  have key : ∀ (a : Fin 41) (b : Fin 16), Scalar.cmpi .ne (Scalar.extui (Scalar.andi (Scalar.cmpi .eq (BitVec.ofNat 32 b.val) 0#32) (Scalar.cmpi .sgt (BitVec.ofNat 32 a.val) 0#32)) : BitVec 32) 0#32 = 1#1 ↔ b.val = 0 ∧ 0 < a.val := by decide +kernel
  exact key (i 0) (i 1)

theorem cond4_iff (i : grid0.Coords) : k0_cond4 i = 1#1 ↔ (i 0).val = 0 := by
  have key : ∀ (a : Fin 41), Scalar.cmpi .ne (Scalar.extui (Scalar.cmpi .eq (BitVec.ofNat 32 a.val) 0#32) : BitVec 32) 0#32 = 1#1 ↔ a.val = 0 := by decide +kernel
  exact key (i 0)

theorem cond6_iff (i : grid0.Coords) : k0_cond6 i = 1#1 ↔ (i 0).val = 40 := by
  have key : ∀ (a : Fin 41), Scalar.cmpi .ne (Scalar.extui (Scalar.cmpi .eq (BitVec.ofNat 32 a.val) 40#32) : BitVec 32) 0#32 = 1#1 ↔ a.val = 40 := by decide +kernel
  exact key (i 0)

theorem idx0 : ∀ (t : Fin cfg0.N), t.val < 640 → ∀ a : Fin 4, (cfg0.win 0).index t a = (![t.val % 16, t.val / 16 / 5, t.val / 16 % 5, 0] : Fin 4 → ℕ) a := by decide +kernel
theorem idx1 : ∀ (t : Fin cfg0.N), 16 ≤ t.val → ∀ a : Fin 4, (cfg0.win 1).index t a = (![t.val % 16, (t.val / 16 - 1) / 5, (t.val / 16 - 1) % 5, 0] : Fin 4 → ℕ) a := by decide +kernel
theorem idx2 : ∀ (t : Fin cfg0.N), ∀ a : Fin 2, (cfg0.win 2).index t a = (![t.val / 16 - 1, 0] : Fin 2 → ℕ) a := by decide +kernel
theorem idx3 : ∀ (t : Fin cfg0.N), ∀ a : Fin 2, (cfg0.win 3).index t a = (![t.val / 16 - 1, 0] : Fin 2 → ℕ) a := by decide +kernel
theorem flush1 : ∀ (t : Fin cfg0.N), (cfg0.win 1).flush t = true → 16 ≤ t.val := by decide +kernel
theorem flush2 : ∀ (t : Fin cfg0.N), (cfg0.win 2).flush t = true → 16 ≤ t.val ∧ t.val % 16 = 15 := by decide +kernel
theorem flush3 : ∀ (t : Fin cfg0.N), (cfg0.win 3).flush t = true → 16 ≤ t.val ∧ t.val % 16 = 15 := by decide +kernel
theorem fetch2 : ∀ (t : Fin cfg0.N), (cfg0.win 2).fetch t = false := by decide +kernel
theorem fetch3 : ∀ (t : Fin cfg0.N), (cfg0.win 3).fetch t = false := by decide +kernel
theorem covers1 : (cfg0.win 1).Covers := by decide +kernel
theorem covers2 : (cfg0.win 2).Covers := by decide +kernel
theorem covers3 : (cfg0.win 3).Covers := by decide +kernel

end Cert.KernelIdeal.Hand
-- ==== Proof.Net.lean ====
module

public import proofs.«01_k».proof.Proof.Points
public import Idealize.ShloMosaic.Lib.IdealHost
public import Idealize.ShloMosaic.Lib.WordSum

@[expose] public section

noncomputable section

namespace Cert.KernelIdeal.Hand

open Cert.KernelIdeal Cert.KernelIdeal.Gen
open Idealize.ShloMosaic Idealize.ShloMosaic.TcCoe
open scoped BigOperators

/-! ## The layout operations read at an index -/

section layout
variable {α : Type}

theorem sc_4_2 (v : S1x1x32x128.Idx → α) (h : S1x1x32x128.ShapeCasts S32x128) : shapeCast S32x128 v h = fun i => v (ValueIdx.ix4 0 0 (i 0) (i 1)) := by
  funext i
  refine Idealize.ShloMosaic.shapeCast_apply v h i _ ?_
  rw [Shape.rowMajor_val_four, Shape.rowMajor_val_two]
  show (((0 : Nat) * 1 + 0) * 32 + (i 0).val) * 128 + (i 1).val = (i 0).val * 128 + (i 1).val
  omega

theorem sc_3_2 (v : S1x32x128.Idx → α) (h : S1x32x128.ShapeCasts S32x128) : shapeCast S32x128 v h = fun i => v (ValueIdx.ix3 0 (i 0) (i 1)) := by
  funext i
  refine Idealize.ShloMosaic.shapeCast_apply v h i _ ?_
  rw [Shape.rowMajor_val_three, Shape.rowMajor_val_two]
  show ((0 : Nat) * 32 + (i 0).val) * 128 + (i 1).val = (i 0).val * 128 + (i 1).val
  omega

theorem sc_2_3 (v : S32x128.Idx → α) (h : S32x128.ShapeCasts S1x32x128) : shapeCast S1x32x128 v h = fun i => v (ValueIdx.ix2 (i 1) (i 2)) := by
  funext i
  refine Idealize.ShloMosaic.shapeCast_apply v h i _ ?_
  rw [Shape.rowMajor_val_three, Shape.rowMajor_val_two]
  have : (i 0).val < 1 := (i 0).isLt
  show (i 1).val * 128 + (i 2).val = ((i 0).val * 32 + (i 1).val) * 128 + (i 2).val
  omega

theorem sc_2_4 (v : S32x128.Idx → α) (h : S32x128.ShapeCasts S1x1x32x128) : shapeCast S1x1x32x128 v h = fun i => v (ValueIdx.ix2 (i 2) (i 3)) := by
  funext i
  refine Idealize.ShloMosaic.shapeCast_apply v h i _ ?_
  rw [Shape.rowMajor_val_four, Shape.rowMajor_val_two]
  have : (i 0).val < 1 := (i 0).isLt
  have : (i 1).val < 1 := (i 1).isLt
  show (i 2).val * 128 + (i 3).val = (((i 0).val * 1 + (i 1).val) * 32 + (i 2).val) * 128 + (i 3).val
  omega

theorem sc_1_2 (v : S32.Idx → α) (h : S32.ShapeCasts S32x1) : shapeCast S32x1 v h = fun i => v (ValueIdx.ix1 (i 0)) := by
  funext i
  refine Idealize.ShloMosaic.shapeCast_apply v h i _ ?_
  rw [Shape.rowMajor_val_one, Shape.rowMajor_val_two]
  have : (i 1).val < 1 := (i 1).isLt
  show (i 0).val = (i 0).val * 1 + (i 1).val
  omega

theorem sc_id21 (v : S32x1.Idx → α) (h : S32x1.ShapeCasts S32x1) : shapeCast S32x1 v h = v := by
  funext i
  exact Idealize.ShloMosaic.shapeCast_apply v h i _ rfl

theorem sc_id2 (v : S32x128.Idx → α) (h : S32x128.ShapeCasts S32x128) : shapeCast S32x128 v h = v := by
  funext i
  exact Idealize.ShloMosaic.shapeCast_apply v h i _ rfl

theorem bc_128 (v : S32x1.Idx → α) (h : S32x1.Broadcasts S32x128) : broadcastTo S32x128 v h = fun i => v (ValueIdx.ix2 (i 0) 0) := by
  funext i
  refine Idealize.ShloMosaic.broadcastTo_apply v h i _ fun a => ?_
  fin_cases a <;> rfl

theorem bc_256 (v : S32x1.Idx → α) (h : S32x1.Broadcasts S32x256) : broadcastTo S32x256 v h = fun i => v (ValueIdx.ix2 (i 0) 0) := by
  funext i
  refine Idealize.ShloMosaic.broadcastTo_apply v h i _ fun a => ?_
  fin_cases a <;> rfl

end layout

theorem sum_row (v : FVec Ideal S32x128 .f32) (acc : BitVec 32) (h : S32x128.Reduces [1] S32) (hφ : FKind.Formats .f32) (hacc : acc = FKind.add.neutral .f32 hφ) (r : Fin 32) :
    multiReduction .add [1] S32 v acc h hφ hacc (ValueIdx.ix1 r) = ∑ l : Fin 128, v (ValueIdx.ix2 r l) := by
  rw [Ideal.multiReduction_add_single]
  refine Finset.sum_congr rfl fun l _ => congrArg v ?_
  funext a
  fin_cases a <;> exact Fin.ext rfl

theorem fold_max_le {ι : Type} (s : Finset ι) (f : ι → EReal) (y : EReal) : s.fold max ⊥ f ≤ y ↔ ∀ i ∈ s, f i ≤ y := by
  classical
  induction s using Finset.induction_on with
  | empty => simp
  | insert a s ha ih => rw [Finset.fold_insert ha, max_le_iff, ih, Finset.forall_mem_insert]

theorem negInf : (FloatOps.ofBits FTy.f32 0xFF800000#32 : Ideal .f32) = (⊥ : EReal) := by
  show Ideal.ofBits .f32 0xFF800000#32 = ⊥
  simp [Ideal.ofBits, Ideal.ieee]

theorem max_row (v : FVec Ideal S32x128 .f32) (h : S32x128.Reduces [1] S32) (hφ : FKind.Formats .f32) (hacc : (0xFF800000#32 : BitVec 32) = FKind.maximumf.neutral .f32 hφ) (r : Fin 32) (y : EReal) :
    multiReduction .maximumf [1] S32 v 0xFF800000#32 h hφ hacc (ValueIdx.ix1 r) ≤ y ↔ ∀ l : Fin 128, v (ValueIdx.ix2 r l) ≤ y := by
  rw [Ideal.multiReduction_maximumf_single, negInf]
  refine (fold_max_le _ _ _).trans ⟨fun H l => ?_, fun H l _ => ?_⟩
  · refine le_of_eq_of_le (congrArg v ?_) (H l (Finset.mem_univ _))
    funext a
    fin_cases a <;> exact Fin.ext rfl
  · refine le_of_eq_of_le (congrArg v ?_) (H l)
    funext a
    fin_cases a <;> exact Fin.ext rfl

/-- An indicator as the vector unit makes it. -/
theorem ind_eq (x y : EReal) (h : 1 < 32) : (FloatOps.sitofp (F := Ideal) FTy.f32 ((Ideal.cmp .oge x y).setWidth 32) : EReal) = (((if y ≤ x then 1 else 0 : ℕ) : ℝ) : EReal) := by
  show ((((BitVec.setWidth 32 (BitVec.ofBool (decide (y ≤ x)))).toInt : ℝ)) : EReal) = _
  by_cases h : y ≤ x <;> simp [h]

/-! ## The kept values at a lane -/

/-- A value inserted into three kept ones. -/
def in3 (t : EReal × EReal × EReal) (v : EReal) : EReal × EReal × EReal :=
  (max t.1 v, max t.2.1 (min t.1 v), max t.2.2 (min t.2.1 (min t.1 v)))

/-- A value inserted into six kept ones. -/
def in6 (t : EReal × EReal × EReal × EReal × EReal × EReal) (v : EReal) : EReal × EReal × EReal × EReal × EReal × EReal :=
  (max t.1 v, max t.2.1 (min t.1 v), max t.2.2.1 (min t.2.1 (min t.1 v)), max t.2.2.2.1 (min t.2.2.1 (min t.2.1 (min t.1 v))),
    max t.2.2.2.2.1 (min t.2.2.2.1 (min t.2.2.1 (min t.2.1 (min t.1 v)))),
    max t.2.2.2.2.2 (min t.2.2.2.2.1 (min t.2.2.2.1 (min t.2.2.1 (min t.2.1 (min t.1 v))))))

open Classical in
/-- One if the property holds. -/
def ind (p : EReal → Prop) (x : EReal) : ℕ := if p x then 1 else 0

/-- How many of three have the property. -/
def c3 (p : EReal → Prop) (t : EReal × EReal × EReal) : ℕ := ind p t.1 + ind p t.2.1 + ind p t.2.2

/-- How many of six have the property. -/
def c6 (p : EReal → Prop) (t : EReal × EReal × EReal × EReal × EReal × EReal) : ℕ :=
  ind p t.1 + ind p t.2.1 + ind p t.2.2.1 + ind p t.2.2.2.1 + ind p t.2.2.2.2.1 + ind p t.2.2.2.2.2

section count
variable {p : EReal → Prop} (hp : ∀ x y, x ≤ y → p x → p y)
include hp

theorem p_max (x y : EReal) : p (max x y) ↔ p x ∨ p y :=
  ⟨fun h => by rcases max_choice x y with e | e <;> rw [e] at h; exacts [.inl h, .inr h],
    fun h => h.elim (hp _ _ (le_max_left _ _)) (hp _ _ (le_max_right _ _))⟩

theorem p_min (x y : EReal) : p (min x y) ↔ p x ∧ p y :=
  ⟨fun h => ⟨hp _ _ (min_le_left _ _) h, hp _ _ (min_le_right _ _) h⟩, fun h => by rcases min_choice x y with e | e <;> rw [e]; exacts [h.1, h.2]⟩

theorem ind_max (x y : EReal) : ind p (max x y) = max (ind p x) (ind p y) := by
  unfold ind
  by_cases h : p x <;> by_cases h' : p y
  · rw [if_pos ((p_max hp x y).2 (.inl h)), if_pos h, if_pos h']; rfl
  · rw [if_pos ((p_max hp x y).2 (.inl h)), if_pos h, if_neg h']; rfl
  · rw [if_pos ((p_max hp x y).2 (.inr h')), if_neg h, if_pos h']; rfl
  · rw [if_neg fun hh => ((p_max hp x y).1 hh).elim h h', if_neg h, if_neg h']; rfl

theorem ind_min (x y : EReal) : ind p (min x y) = min (ind p x) (ind p y) := by
  unfold ind
  by_cases h : p x <;> by_cases h' : p y
  · rw [if_pos ((p_min hp x y).2 ⟨h, h'⟩), if_pos h, if_pos h']; rfl
  · rw [if_neg fun hh => h' ((p_min hp x y).1 hh).2, if_pos h, if_neg h']; rfl
  · rw [if_neg fun hh => h ((p_min hp x y).1 hh).1, if_neg h, if_pos h']; rfl
  · rw [if_neg fun hh => h ((p_min hp x y).1 hh).1, if_neg h, if_neg h']; rfl

omit hp in
theorem ind_01 (x : EReal) : ind p x = 0 ∨ ind p x = 1 := by
  unfold ind
  by_cases h : p x
  · exact .inr (if_pos h)
  · exact .inl (if_neg h)

/-- Inserting adds the new value's count, up to three. -/
theorem c3_in3 (t : EReal × EReal × EReal) (v : EReal) : c3 p (in3 t v) = min 3 (c3 p t + ind p v) := by
  unfold c3 in3
  simp only [ind_max hp, ind_min hp]
  rcases ind_01 (p := p) v with h | h <;> rw [h] <;> clear h <;> rcases ind_01 (p := p) t.1 with h | h <;> rw [h] <;> clear h <;>
    rcases ind_01 (p := p) t.2.1 with h | h <;> rw [h] <;> clear h <;> rcases ind_01 (p := p) t.2.2 with h | h <;> rw [h] <;> rfl

omit hp in
theorem six_max (v a b c d e f : ℕ) (hv : v = 0 ∨ v = 1) (ha : a = 0 ∨ a = 1) (hb : b = 0 ∨ b = 1) (hc : c = 0 ∨ c = 1) (hd : d = 0 ∨ d = 1) (he : e = 0 ∨ e = 1) (hf : f = 0 ∨ f = 1) :
    max a v + max b (min a v) + max c (min b (min a v)) + max d (min c (min b (min a v))) + max e (min d (min c (min b (min a v)))) + max f (min e (min d (min c (min b (min a v)))))
      = min 6 (a + b + c + d + e + f + v) := by
  rcases hv with rfl | rfl <;> rcases ha with rfl | rfl <;> rcases hb with rfl | rfl <;> rcases hc with rfl | rfl <;> rcases hd with rfl | rfl <;>
    rcases he with rfl | rfl <;> rcases hf with rfl | rfl <;> rfl

/-- Inserting adds the new value's count, up to six. -/
theorem c6_in6 (t : EReal × EReal × EReal × EReal × EReal × EReal) (v : EReal) : c6 p (in6 t v) = min 6 (c6 p t + ind p v) := by
  unfold c6 in6
  simp only [ind_max hp, ind_min hp]
  exact six_max _ _ _ _ _ _ _ (ind_01 _) (ind_01 _) (ind_01 _) (ind_01 _) (ind_01 _) (ind_01 _) (ind_01 _)

end count

/-- The six kept arrays at a lane. -/
def lane6 (K : Kept Ideal) (r : Fin 32) (l : Fin 128) : EReal × EReal × EReal × EReal × EReal × EReal :=
  (K.1 (ValueIdx.ix2 r l), K.2.1 (ValueIdx.ix2 r l), K.2.2.1 (ValueIdx.ix2 r l), K.2.2.2.1 (ValueIdx.ix2 r l), K.2.2.2.2.1 (ValueIdx.ix2 r l), K.2.2.2.2.2 (ValueIdx.ix2 r l))

/-- The three kept arrays at a lane. -/
def lane3 (K : FVec Ideal S32x128 .f32 × FVec Ideal S32x128 .f32 × FVec Ideal S32x128 .f32) (r : Fin 32) (l : Fin 128) : EReal × EReal × EReal :=
  (K.1 (ValueIdx.ix2 r l), K.2.1 (ValueIdx.ix2 r l), K.2.2 (ValueIdx.ix2 r l))

/-- The cells of a batch row at a lane. -/
def cell3 (cells : Fin 16 → Fin 3 → FVec Ideal S1x1x32x128 .f32) (b : Fin 16) (r : Fin 32) (l : Fin 128) : EReal × EReal × EReal :=
  (cells b 0 (ValueIdx.ix4 0 0 r l), cells b 1 (ValueIdx.ix4 0 0 r l), cells b 2 (ValueIdx.ix4 0 0 r l))

theorem lane6_merge (cells : Fin 16 → Fin 3 → FVec Ideal S1x1x32x128 .f32) (init : Kept Ideal) (n : ℕ) (h : n < 16) (r : Fin 32) (l : Fin 128) :
    lane6 (mergeIter cells init (n + 1)) r l = in6 (in6 (in6 (lane6 (mergeIter cells init n) r l) (cell3 cells ⟨n, h⟩ r l).1) (cell3 cells ⟨n, h⟩ r l).2.1) (cell3 cells ⟨n, h⟩ r l).2.2 := by
  conv_lhs => unfold mergeIter
  simp only [dif_pos h]
  generalize mergeIter cells init n = K
  unfold lane6 in6 cell3
  simp only [k0_pay86, k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113, k0_pay114, k0_pay115, k0_pay116, sc_4_2]
  rfl

theorem lane3_ins (xs : Fin 96 → FVec Ideal S1x1x32x128 .f32) (init : FVec Ideal S32x128 .f32 × FVec Ideal S32x128 .f32 × FVec Ideal S32x128 .f32) (n : ℕ) (h : n < 96) (r : Fin 32) (l : Fin 128) :
    lane3 (insIter xs init (n + 1)) r l = in3 (lane3 (insIter xs init n) r l) (Ideal.scalarOps.absf (φ := .f32) (xs ⟨n, h⟩ (ValueIdx.ix4 0 0 r l))) := by
  conv_lhs => unfold insIter
  simp only [dif_pos h]
  generalize insIter xs init n = K
  unfold lane3 in3
  simp only [k0_pay17, k0_pay19, k0_pay20, k0_pay21, k0_pay22, k0_pay23, sc_4_2]
  rfl

end Cert.KernelIdeal.Hand
-- ==== Proof.Count.lean ====
module

public import Idealize.ShloMosaic.Lib.WordSum
public import Idealize.ShloMosaic.Lib.IdealHost

@[expose] public section

namespace Cert.Count

open Finset

/-! ## The search, bit by bit -/

/-- What the search holds after `n` of its twenty steps: each tries the next bit, from the highest. -/
def srch (P : ℕ → Prop) [DecidablePred P] : ℕ → ℕ
  | 0 => 0
  | n + 1 => if P (srch P n + 2 ^ (19 - n)) then srch P n + 2 ^ (19 - n) else srch P n

theorem srch_spec (P : ℕ → Prop) [DecidablePred P] (h0 : P 0) (hN : ¬ P (2 ^ 20)) (n : ℕ) (hn : n ≤ 20) :
    P (srch P n) ∧ ¬ P (srch P n + 2 ^ (20 - n)) := by
  induction n with
  | zero => exact ⟨h0, by simpa [srch] using hN⟩
  | succ n ih =>
    obtain ⟨h1, h2⟩ := ih (by omega)
    have e : 20 - n = (19 - n) + 1 := by omega
    rw [e, pow_succ] at h2
    have e' : 20 - (n + 1) = 19 - n := by omega
    rw [e', srch]
    by_cases h : P (srch P n + 2 ^ (19 - n))
    · rw [if_pos h]; exact ⟨h, by rw [add_assoc, ← mul_two]; exact h2⟩
    · rw [if_neg h]; exact ⟨h1, h⟩

/-- Two numbers at the edge of the same falling property are one. -/
theorem edge_unique (P : ℕ → Prop) (hP : ∀ a b, a ≤ b → P b → P a) {f g : ℕ} (hf : P f) (hf' : ¬ P (f + 1)) (hg : P g) (hg' : ¬ P (g + 1)) : f = g := by
  rcases lt_trichotomy f g with h | h | h
  · exact absurd (hP _ _ h hg) hf'
  · exact h
  · exact absurd (hP _ _ h hf) hg'

/-! ## Taking out the largest, again and again -/

section drop
variable {ι : Type} [Fintype ι]

/-- One step of taking out the largest keeps, per value, what is counted plus what is left. -/
theorem drop_step (s s' : ι → ℤ) (a a' : ℕ → ℕ) (t : ℤ) (ht : ∀ i, s i ≤ t) (ht' : -1 ≤ t) (hs' : ∀ i, s' i = if s i = t then -1 else s i)
    (ha' : ∀ l < 256, a' l = a l + if (l : ℤ) = t then (univ.filter fun i => s i = t).card else 0) (l : ℕ) (hl : l < 256) :
    a' l + (univ.filter fun i => s' i = (l : ℤ)).card = a l + (univ.filter fun i => s i = (l : ℤ)).card := by
  rw [ha' l hl]
  by_cases h : (l : ℤ) = t
  · subst h
    rw [if_pos rfl]
    have : (univ.filter fun i => s' i = (l : ℤ)) = ∅ := by
      refine filter_eq_empty_iff.2 fun i _ e => ?_
      rw [hs'] at e
      by_cases h : s i = (l : ℤ)
      · rw [if_pos h] at e; omega
      · rw [if_neg h] at e; exact h e
    rw [this]; simp
  · rw [if_neg h]
    have : (univ.filter fun i => s' i = (l : ℤ)) = (univ.filter fun i => s i = (l : ℤ)) := by
      refine filter_congr fun i _ => ?_
      rw [hs']
      by_cases h1 : s i = t
      · rw [if_pos h1]
        exact ⟨fun e => by omega, fun e => absurd (e.symm.trans h1) h⟩
      · rw [if_neg h1]
    rw [this]; simp

/-- After one step for each value, everything is counted. -/
theorem drop_all (s : ℕ → ι → ℤ) (a : ℕ → ℕ → ℕ) (t : ℕ → ℤ) (h0 : ∀ i, -1 ≤ s 0 i ∧ s 0 i ≤ 255)
    (ht : ∀ n < 256, (∀ i, s n i ≤ t n) ∧ ∃ i, s n i = t n)
    (hs : ∀ n < 256, ∀ i, s (n + 1) i = if s n i = t n then -1 else s n i)
    (ha : ∀ n < 256, ∀ l < 256, a (n + 1) l = a n l + if (l : ℤ) = t n then (univ.filter fun i => s n i = t n).card else 0) (l : ℕ) (hl : l < 256) :
    a 256 l = a 0 l + (univ.filter fun i => s 0 i = (l : ℤ)).card := by
  have key : ∀ n ≤ 256, (∀ i, -1 ≤ s n i ∧ s n i ≤ 255 - n) ∧ a n l + (univ.filter fun i => s n i = (l : ℤ)).card = a 0 l + (univ.filter fun i => s 0 i = (l : ℤ)).card := by
    intro n
    induction n with
    | zero => intro _; exact ⟨fun i => by simpa using h0 i, rfl⟩
    | succ n ih =>
      intro hn
      obtain ⟨hb, he⟩ := ih (by omega)
      obtain ⟨htm, j, hj⟩ := ht n (by omega)
      refine ⟨fun i => ?_, ?_⟩
      · rw [hs n (by omega)]
        have h1 := hb i
        have h2 := hb j
        have h3 := htm i
        by_cases h : s n i = t n
        · rw [if_pos h]
          refine ⟨le_refl _, ?_⟩
          push_cast
          have h6 : (n : ℤ) ≤ 255 := by omega
          linarith
        · rw [if_neg h]
          have h4 := lt_of_le_of_ne h3 h
          have h5 := h2.2
          rw [hj] at h5
          refine ⟨h1.1, ?_⟩
          push_cast
          linarith [Int.add_one_le_iff.2 h4]
      · rw [drop_step (s n) (s (n + 1)) (a n) (a (n + 1)) (t n) htm (hj ▸ (hb j).1) (hs n (by omega)) (ha n (by omega)) l hl, he]
  obtain ⟨hb, he⟩ := key 256 le_rfl
  have : (univ.filter fun i => s 256 i = (l : ℤ)) = ∅ := by
    refine filter_eq_empty_iff.2 fun i _ e => ?_
    have := hb i
    omega
  rw [this] at he
  simpa using he

end drop

/-! ## Counts of values from a bound up, and the two-level rank -/

section rank
variable {ι : Type} [Fintype ι] (w : ι → ℕ)

/-- How many are at least `c`. -/
def cnt (c : ℕ) : ℕ := (univ.filter fun i => c ≤ w i).card

theorem cnt_anti {a b : ℕ} (h : a ≤ b) : cnt w b ≤ cnt w a := card_le_card fun i hi => by
  simp only [mem_filter, mem_univ, true_and] at hi ⊢; omega

theorem cnt_sub (c : ℕ) : cnt w c - cnt w (c + 1) = (univ.filter fun i => w i = c).card := by
  classical
  have : (univ.filter fun i => c ≤ w i) = (univ.filter fun i => c + 1 ≤ w i) ∪ (univ.filter fun i => w i = c) := by
    ext i; simp only [mem_filter, mem_univ, true_and, mem_union]; omega
  unfold cnt
  rw [this, card_union_of_disjoint, Nat.add_sub_cancel_left]
  exact disjoint_filter.2 fun i _ h h' => by omega

theorem cnt_lt (c : ℕ) : (univ.filter fun i => w i < c).card = Fintype.card ι - cnt w c := by
  have h := card_filter_add_card_filter_not (s := (univ : Finset ι)) (p := fun i => c ≤ w i)
  have : (univ.filter fun i => ¬ c ≤ w i) = (univ.filter fun i => w i < c) := filter_congr fun i _ => by omega
  rw [this, card_univ] at h
  unfold cnt; omega

variable {f : ℕ} (hN : Fintype.card ι = 196608) (hf : 20 ≤ cnt w f) (hf' : cnt w (f + 1) < 20) (hlt : f < 2 ^ 20)
include hN hf hf'

theorem low_iff (c : ℕ) : (univ.filter fun i => w i < c).card < 196589 ↔ c ≤ f := by
  rw [cnt_lt, hN]
  constructor
  · intro h
    by_contra hc
    have := cnt_anti w (show f + 1 ≤ c by omega)
    omega
  · intro h
    have := cnt_anti w h
    have : cnt w c ≤ 196608 := hN ▸ card_le_univ _
    omega

theorem bin_rank (hlt : f < 2 ^ 20) : (univ.filter fun k : Fin 4096 => (univ.filter fun i => w i / 256 ≤ k.val).card < 196589).card = f / 256 := by
  have e : ∀ k : Fin 4096, ((univ.filter fun i => w i / 256 ≤ k.val).card < 196589) ↔ k.val < f / 256 := fun k => by
    have : (univ.filter fun i => w i / 256 ≤ k.val) = (univ.filter fun i => w i < 256 * (k.val + 1)) := filter_congr fun i _ => by omega
    rw [this, low_iff w hN hf hf']; omega
  simp only [e]
  have := Fin.card_filter_val_lt (n := 4096) (m := f / 256)
  rw [this]; omega

theorem sub_rank : (univ.filter fun j : Fin 256 => (univ.filter fun i => w i / 256 < f / 256).card
      + (univ.filter fun i => w i / 256 = f / 256 ∧ w i % 256 ≤ j.val).card < 196589).card = f % 256 := by
  classical
  have e : ∀ j : Fin 256, ((univ.filter fun i => w i / 256 < f / 256).card + (univ.filter fun i => w i / 256 = f / 256 ∧ w i % 256 ≤ j.val).card < 196589) ↔ j.val < f % 256 := fun j => by
    have : (univ.filter fun i => w i < 256 * (f / 256) + j.val + 1) = (univ.filter fun i => w i / 256 < f / 256) ∪ (univ.filter fun i => w i / 256 = f / 256 ∧ w i % 256 ≤ j.val) := by
      ext i; have := j.isLt; simp only [mem_filter, mem_univ, true_and, mem_union]; omega
    rw [← card_union_of_disjoint, ← this, low_iff w hN hf hf']
    · omega
    · exact disjoint_filter.2 fun i _ h h' => by omega
  simp only [e]
  have := Fin.card_filter_val_lt (n := 256) (m := f % 256)
  rw [this]; omega

theorem sub_hist (j : ℕ) (hj : j < 256) : (univ.filter fun i => w i / 256 = f / 256 ∧ w i % 256 = j).card = cnt w (256 * (f / 256) + j) - cnt w (256 * (f / 256) + j + 1) := by
  rw [cnt_sub]
  refine congrArg card (filter_congr fun i _ => ?_)
  omega

end rank

end Cert.Count
-- ==== Proof.Kept.lean ====
module

public import proofs.«01_k».proof.Proof.Net
public import proofs.«01_k».proof.Proof.Count

@[expose] public section

noncomputable section

namespace Cert.KernelIdeal.Hand

open Cert.KernelIdeal Cert.KernelIdeal.Gen
open Idealize.ShloMosaic Idealize.ShloMosaic.TcCoe
open scoped BigOperators
open Finset (range)

/-! ## Chains of insertions -/

section chain
variable {p : EReal → Prop} (hp : ∀ x y, x ≤ y → p x → p y)

/-- The kept three count up to three. -/
theorem c3_chain (hp : ∀ x y, x ≤ y → p x → p y) (T : ℕ → EReal × EReal × EReal) (x : ℕ → EReal) (N : ℕ) (h0 : c3 p (T 0) = 0) (hT : ∀ n < N, T (n + 1) = in3 (T n) (x n)) (n : ℕ) (hn : n ≤ N) :
    c3 p (T n) = min 3 (∑ i ∈ range n, ind p (x i)) := by
  induction n with
  | zero => simpa using h0
  | succ n ih => rw [hT n (by omega), c3_in3 hp, ih (by omega), Finset.sum_range_succ]; omega

/-- The kept six count up to six. -/
theorem c6_chain (hp : ∀ x y, x ≤ y → p x → p y) (T : ℕ → EReal × EReal × EReal × EReal × EReal × EReal) (x : ℕ → EReal × EReal × EReal) (N : ℕ) (h0 : c6 p (T 0) = 0)
    (hT : ∀ n < N, T (n + 1) = in6 (in6 (in6 (T n) (x n).1) (x n).2.1) (x n).2.2) (n : ℕ) (hn : n ≤ N) :
    c6 p (T n) = min 6 (∑ i ∈ range n, c3 p (x i)) := by
  induction n with
  | zero => simpa using h0
  | succ n ih =>
    rw [hT n (by omega), c6_in6 hp, c6_in6 hp, c6_in6 hp, ih (by omega), Finset.sum_range_succ]
    have e : c3 p (x n) = ind p (x n).1 + ind p (x n).2.1 + ind p (x n).2.2 := rfl
    omega

/-- Where the largest kept has not the property, nothing merged has. -/
theorem first_chain (hp : ∀ x y, x ≤ y → p x → p y) (T : ℕ → EReal × EReal × EReal × EReal × EReal × EReal) (x : ℕ → EReal × EReal × EReal) (N : ℕ)
    (hT : ∀ n < N, T (n + 1) = in6 (in6 (in6 (T n) (x n).1) (x n).2.1) (x n).2.2) (n : ℕ) (hn : n ≤ N) (h : ¬ p (T n).1) :
    ∀ i < n, c3 p (x i) = 0 := by
  induction n with
  | zero => intro i hi; omega
  | succ n ih =>
    rw [hT n (by omega)] at h
    unfold in6 at h
    dsimp only at h
    rw [p_max hp, p_max hp, p_max hp] at h
    push Not at h
    intro i hi
    rcases Nat.lt_succ_iff_lt_or_eq.1 hi with hi | rfl
    · exact ih (by omega) h.1.1.1 i hi
    · simp [c3, ind, h.1.1.2, h.1.2, h.2]

end chain

/-! ## The values of a channel -/

/-- The magnitudes of channel `r` of group `g`. -/
def mag (xt : S16x8x160x12288.Idx → EReal) (g : ℕ) (r : Fin 32) (i : Fin 16 × Fin 12288) : EReal :=
  max (xblk (F := Ideal) xt g i.1 (ValueIdx.ix4 0 0 r i.2)) (-(xblk (F := Ideal) xt g i.1 (ValueIdx.ix4 0 0 r i.2)))

/-- Token `t * 128 + l`. -/
def tokAt (t : Fin 96) (l : Fin 128) : Fin 12288 := ⟨t.val * 128 + l.val, by omega⟩

section group
variable (xt : S16x8x160x12288.Idx → EReal) (g : ℕ) (r : Fin 32) (l : Fin 128)

theorem xTile_at (b : Fin 16) (t : Fin 96) : xTile (F := Ideal) (xblk (F := Ideal) xt g b) t (ValueIdx.ix4 0 0 r l) = xblk (F := Ideal) xt g b (ValueIdx.ix4 0 0 r (tokAt t l)) := by
  unfold xTile VecWindow.window
  refine congrArg _ ?_
  funext a
  fin_cases a <;> refine Fin.ext ?_ <;> simp [Rect.emb, Rect.unit, tokAt, ValueIdx.ix4]

theorem tilesOf_at (k : Fin 1536) : tilesOf (F := Ideal) (slabOf (F := Ideal) xt g) k (ValueIdx.ix3 0 r l)
    = xblk (F := Ideal) xt g ⟨k.val / 96, by omega⟩ (ValueIdx.ix4 0 0 r (tokAt ⟨k.val % 96, Nat.mod_lt _ (by norm_num)⟩ l)) := by
  unfold tilesOf VecWindow.window slabOf
  refine congrArg₂ (xblk (F := Ideal) xt g) ?_ ?_
  · refine Fin.ext ?_
    simp [Rect.emb, Rect.unit, ValueIdx.ix3]
  · funext a
    fin_cases a <;> refine Fin.ext ?_ <;> simp [Rect.emb, Rect.unit, tokAt, ValueIdx.ix4, ValueIdx.ix3]

theorem cellsOf_at (b : Fin 16) (j : Fin 3) : cellsOf (F := Ideal) (keptOf (F := Ideal) xt g) b j (ValueIdx.ix4 0 0 r l) = keptOf (F := Ideal) xt g (ValueIdx.ix4 b j r l) := by
  unfold cellsOf VecWindow.window
  refine congrArg _ ?_
  funext a
  fin_cases a <;> refine Fin.ext ?_ <;> simp [Rect.emb, Rect.unit, ValueIdx.ix4]

theorem cell3_at (b : Fin 16) : cell3 (cellsOf (F := Ideal) (keptOf (F := Ideal) xt g)) b r l = lane3 (ins3 (F := Ideal) (xblk (F := Ideal) xt g b)) r l := by
  unfold cell3
  rw [cellsOf_at, cellsOf_at, cellsOf_at]
  rfl

theorem pay1_at (i : S32x128.Idx) : (k0_pay1 (F := Ideal) i : EReal) = 0 := by
  show Ideal.ofBits .f32 0x00000000#32 = 0
  simp [Ideal.ofBits, Ideal.ieee]

variable {p : EReal → Prop} (hp : ∀ x y, x ≤ y → p x → p y) (h0 : ¬ p 0)

/-- How many values of a lane in one batch row have the property. -/
def rowCnt (p : EReal → Prop) (b : Fin 16) : ℕ := ∑ t : Fin 96, ind p (mag xt g r (b, tokAt t l))

include hp h0

theorem c3_cell (b : Fin 16) : c3 p (cell3 (cellsOf (F := Ideal) (keptOf (F := Ideal) xt g)) b r l) = min 3 (rowCnt xt g r l p b) := by
  rw [cell3_at]
  unfold ins3
  refine (c3_chain hp (fun n => lane3 (insIter (F := Ideal) (xTile (xblk (F := Ideal) xt g b)) (k0_pay1, k0_pay1, k0_pay1) n) r l)
    (fun n => if h : n < 96 then mag xt g r (b, tokAt ⟨n, h⟩ l) else 0) 96 ?_ (fun n hn => ?_) 96 le_rfl).trans ?_
  · have : ∀ v : EReal, v = 0 → c3 p (v, v, v) = 0 := by
      rintro _ rfl
      simp [c3, ind, h0]
    exact this _ (pay1_at (ValueIdx.ix2 r l))
  · show lane3 _ r l = _
    rw [lane3_ins _ _ n hn, xTile_at]
    simp only [dif_pos hn]
    rfl
  · unfold rowCnt
    rw [Finset.sum_range]
    congr 1

theorem c6_kept : c6 p (lane6 (selK (F := Ideal) (keptOf (F := Ideal) xt g)) r l) = min 6 (∑ b : Fin 16, min 3 (rowCnt xt g r l p b)) := by
  have hc := c6_chain hp (fun n => lane6 (mergeIter (F := Ideal) (cellsOf (keptOf (F := Ideal) xt g)) (k0_pay1, k0_pay1, k0_pay1, k0_pay1, k0_pay1, k0_pay1) n) r l)
    (fun n => if h : n < 16 then cell3 (cellsOf (F := Ideal) (keptOf (F := Ideal) xt g)) ⟨n, h⟩ r l else (0, 0, 0)) 16 ?_ (fun n hn => ?_) 16 le_rfl
  · refine Eq.trans ?_ (hc.trans ?_)
    · rfl
    · rw [Finset.sum_range]
      have e : ∀ b : Fin 16, c3 p (if h : b.val < 16 then cell3 (cellsOf (F := Ideal) (keptOf (F := Ideal) xt g)) ⟨b.val, h⟩ r l else (0, 0, 0)) = min 3 (rowCnt xt g r l p b) := fun b => by
        rw [dif_pos b.isLt]
        exact c3_cell xt g r l hp h0 b
      simp only [e]
  · have : ∀ v : EReal, v = 0 → c6 p (v, v, v, v, v, v) = 0 := by
      rintro _ rfl
      simp [c6, ind, h0]
    exact this _ (pay1_at (ValueIdx.ix2 r l))
  · rw [lane6_merge _ _ n hn, dif_pos hn]

theorem rowCnt_of_first (h : ¬ p ((selK (F := Ideal) (keptOf (F := Ideal) xt g)).1 (ValueIdx.ix2 r l))) (b : Fin 16) : rowCnt xt g r l p b = 0 := by
  have := first_chain hp (fun n => lane6 (mergeIter (F := Ideal) (cellsOf (keptOf (F := Ideal) xt g)) (k0_pay1, k0_pay1, k0_pay1, k0_pay1, k0_pay1, k0_pay1) n) r l)
    (fun n => if h : n < 16 then cell3 (cellsOf (F := Ideal) (keptOf (F := Ideal) xt g)) ⟨n, h⟩ r l else (0, 0, 0)) 16 (fun n hn => by
      rw [lane6_merge _ _ n hn, dif_pos hn]) 16 le_rfl h b.val b.isLt
  rw [dif_pos b.isLt] at this
  have e := (c3_cell xt g r l hp h0 b).symm.trans this
  omega

omit hp h0 in
/-- The bound on hidden values is above the last kept, and above the last of each cell. -/
theorem hid_le : (selK (F := Ideal) (keptOf (F := Ideal) xt g)).2.2.2.2.2 (ValueIdx.ix2 r l) ≤ (selHid (F := Ideal) (keptOf (F := Ideal) xt g) (ValueIdx.ix2 r l) : EReal)
    ∧ ∀ b : Fin 16, (cell3 (cellsOf (F := Ideal) (keptOf (F := Ideal) xt g)) b r l).2.2 ≤ (selHid (F := Ideal) (keptOf (F := Ideal) xt g) (ValueIdx.ix2 r l) : EReal) := by
  unfold selHid
  generalize (selK (F := Ideal) (keptOf (F := Ideal) xt g)).2.2.2.2.2 = I
  have key : ∀ n ≤ 16, I (ValueIdx.ix2 r l) ≤ (hidIter (F := Ideal) (cellsOf (keptOf (F := Ideal) xt g)) I n (ValueIdx.ix2 r l) : EReal)
      ∧ ∀ b : Fin 16, b.val < n → (cell3 (cellsOf (F := Ideal) (keptOf (F := Ideal) xt g)) b r l).2.2 ≤ (hidIter (F := Ideal) (cellsOf (keptOf (F := Ideal) xt g)) I n (ValueIdx.ix2 r l) : EReal) := by
    intro n
    induction n with
    | zero => intro _; exact ⟨le_refl _, fun b hb => absurd hb (Nat.not_lt_zero _)⟩
    | succ n ih =>
      intro hn
      obtain ⟨h1, h2⟩ := ih (by omega)
      have e : (hidIter (F := Ideal) (cellsOf (keptOf (F := Ideal) xt g)) I (n + 1) (ValueIdx.ix2 r l) : EReal)
          = max (hidIter (F := Ideal) (cellsOf (keptOf (F := Ideal) xt g)) I n (ValueIdx.ix2 r l)) (cell3 (cellsOf (F := Ideal) (keptOf (F := Ideal) xt g)) ⟨n, by omega⟩ r l).2.2 := by
        rw [hidIter, dif_pos (show n < 16 by omega)]
        unfold k0_pay117
        simp only [sc_4_2]
        rfl
      rw [e]
      refine ⟨h1.trans (le_max_left _ _), fun b hb => ?_⟩
      rcases Nat.lt_succ_iff_lt_or_eq.1 hb with hb | hb
      · exact (h2 b hb).trans (le_max_left _ _)
      · have : b = ⟨n, by omega⟩ := Fin.ext hb
        rw [this]; exact le_max_right _ _
  exact ⟨(key 16 le_rfl).1, fun b => (key 16 le_rfl).2 b b.isLt⟩

/-- Where no hidden value has the property, all that have it are kept. -/
theorem c6_all (h : ¬ p (selHid (F := Ideal) (keptOf (F := Ideal) xt g) (ValueIdx.ix2 r l))) :
    c6 p (lane6 (selK (F := Ideal) (keptOf (F := Ideal) xt g)) r l) = ∑ b : Fin 16, rowCnt xt g r l p b := by
  obtain ⟨h1, h2⟩ := hid_le xt g r l
  have h6 := c6_kept xt g r l hp h0
  have hlast : ind p (lane6 (selK (F := Ideal) (keptOf (F := Ideal) xt g)) r l).2.2.2.2.2 = 0 := if_neg fun hh => h (hp _ _ h1 hh)
  have hi : ∀ x, ind p x ≤ 1 := fun x => by unfold ind; split_ifs <;> omega
  have hlt : c6 p (lane6 (selK (F := Ideal) (keptOf (F := Ideal) xt g)) r l) ≤ 5 := by
    unfold c6
    have := hi (lane6 (selK (F := Ideal) (keptOf (F := Ideal) xt g)) r l).1
    have := hi (lane6 (selK (F := Ideal) (keptOf (F := Ideal) xt g)) r l).2.1
    have := hi (lane6 (selK (F := Ideal) (keptOf (F := Ideal) xt g)) r l).2.2.1
    have := hi (lane6 (selK (F := Ideal) (keptOf (F := Ideal) xt g)) r l).2.2.2.1
    have := hi (lane6 (selK (F := Ideal) (keptOf (F := Ideal) xt g)) r l).2.2.2.2.1
    omega
  have hb : ∀ b : Fin 16, min 3 (rowCnt xt g r l p b) = rowCnt xt g r l p b := fun b => by
    have h3 := c3_cell xt g r l hp h0 b
    have hl : ind p (cell3 (cellsOf (F := Ideal) (keptOf (F := Ideal) xt g)) b r l).2.2 = 0 := if_neg fun hh => h (hp _ _ (h2 b) hh)
    have : c3 p (cell3 (cellsOf (F := Ideal) (keptOf (F := Ideal) xt g)) b r l) ≤ 2 := by
      unfold c3
      have := hi (cell3 (cellsOf (F := Ideal) (keptOf (F := Ideal) xt g)) b r l).1
      have := hi (cell3 (cellsOf (F := Ideal) (keptOf (F := Ideal) xt g)) b r l).2.1
      omega
    omega
  simp only [hb] at h6
  omega

/-- At most all are kept. -/
theorem c6_le : c6 p (lane6 (selK (F := Ideal) (keptOf (F := Ideal) xt g)) r l) ≤ ∑ b : Fin 16, rowCnt xt g r l p b := by
  rw [c6_kept xt g r l hp h0]
  exact (min_le_right _ _).trans (Finset.sum_le_sum fun b _ => min_le_right _ _)

end group

/-- How many values of a channel have the property. -/
def allCnt (xt : S16x8x160x12288.Idx → EReal) (g : ℕ) (r : Fin 32) (p : EReal → Prop) : ℕ := ∑ i : Fin 16 × Fin 12288, ind p (mag xt g r i)

/-- Tokens as tiles and lanes. -/
theorem sum_tok {M : Type} [AddCommMonoid M] (f : Fin 12288 → M) : ∑ s : Fin 12288, f s = ∑ t : Fin 96, ∑ l : Fin 128, f (tokAt t l) := by
  rw [← Fintype.sum_prod_type', ← (finProdFinEquiv (m := 96) (n := 128)).sum_comp]
  refine Finset.sum_congr rfl fun x _ => congrArg f (Fin.ext ?_)
  show x.2.val + 128 * x.1.val = x.1.val * 128 + x.2.val
  omega

/-- Tiles of the slab as rows and tiles of a row. -/
theorem sum_tile {M : Type} [AddCommMonoid M] (f : Fin 1536 → M) : ∑ k : Fin 1536, f k = ∑ b : Fin 16, ∑ t : Fin 96, f ⟨b.val * 96 + t.val, by omega⟩ := by
  rw [← Fintype.sum_prod_type', ← (finProdFinEquiv (m := 16) (n := 96)).sum_comp]
  refine Finset.sum_congr rfl fun x _ => congrArg f (Fin.ext ?_)
  show x.2.val + 96 * x.1.val = x.1.val * 96 + x.2.val
  omega

theorem sum_lanes (xt : S16x8x160x12288.Idx → EReal) (g : ℕ) (r : Fin 32) (p : EReal → Prop) : ∑ l : Fin 128, ∑ b : Fin 16, rowCnt xt g r l p b = allCnt xt g r p := by
  unfold allCnt rowCnt
  rw [Fintype.sum_prod_type, Finset.sum_comm]
  refine Finset.sum_congr rfl fun b _ => ?_
  rw [sum_tok, Finset.sum_comm]

theorem sum_tiles (xt : S16x8x160x12288.Idx → EReal) (g : ℕ) (r : Fin 32) (p : EReal → Prop) :
    ∑ l : Fin 128, ∑ k : Fin 1536, ind p (max (tilesOf (F := Ideal) (slabOf (F := Ideal) xt g) k (ValueIdx.ix3 0 r l)) (-(tilesOf (F := Ideal) (slabOf (F := Ideal) xt g) k (ValueIdx.ix3 0 r l)))) = allCnt xt g r p := by
  rw [← sum_lanes]
  refine Finset.sum_congr rfl fun l _ => ?_
  rw [sum_tile]
  refine Finset.sum_congr rfl fun b _ => Finset.sum_congr rfl fun t _ => ?_
  rw [tilesOf_at]
  have e1 : (⟨(b.val * 96 + t.val) / 96, by omega⟩ : Fin 16) = b := Fin.ext (by show (b.val * 96 + t.val) / 96 = b.val; omega)
  have e2 : (⟨(b.val * 96 + t.val) % 96, Nat.mod_lt _ (by norm_num)⟩ : Fin 96) = t := Fin.ext (by show (b.val * 96 + t.val) % 96 = t.val; omega)
  simp only [e1, e2]
  rfl

end Cert.KernelIdeal.Hand
-- ==== Proof.Search.lean ====
module

public import proofs.«01_k».proof.Proof.Kept

@[expose] public section

noncomputable section

namespace Cert.KernelIdeal.Hand

open Cert.KernelIdeal Cert.KernelIdeal.Gen
open Idealize.ShloMosaic Idealize.ShloMosaic.TcCoe
open scoped BigOperators
open Finset (range)

/-! ## Numbers among the extended reals -/

/-- A natural number as a value. -/
abbrev nv (n : ℕ) : EReal := ((n : ℝ) : EReal)

theorem nv_add (a b : ℕ) : nv a + nv b = nv (a + b) := by
  unfold nv; rw [← EReal.coe_add]; push_cast; rfl

theorem nv_sum {ι : Type} (s : Finset ι) (f : ι → ℕ) : ∑ i ∈ s, nv (f i) = nv (∑ i ∈ s, f i) := by
  classical
  induction s using Finset.induction_on with
  | empty => simp [nv]
  | insert a s ha ih => rw [Finset.sum_insert ha, Finset.sum_insert ha, ih, nv_add]

theorem nv_le (a b : ℕ) : nv a ≤ nv b ↔ a ≤ b := by
  unfold nv; rw [EReal.coe_le_coe_iff]; exact Nat.cast_le

theorem nv_inj {a b : ℕ} (h : nv a = nv b) : a = b := by
  have := EReal.coe_injective h; exact_mod_cast this

theorem zeroBits : (FloatOps.ofBits FTy.f32 0x00000000#32 : Ideal .f32) = (0 : EReal) := by
  show Ideal.ofBits .f32 0x00000000#32 = 0
  simp [Ideal.ofBits, Ideal.ieee]

theorem twentyBits : (FloatOps.ofBits FTy.f32 0x41A00000#32 : Ideal .f32) = nv 20 := by
  show Ideal.ofBits .f32 0x41A00000#32 = _
  simp [Ideal.ofBits, Ideal.ieee, nv]; rw [← EReal.coe_mul]; norm_num

theorem halfBits : (FloatOps.ofBits FTy.f32 0x3F000000#32 : Ideal .f32) = (((1 / 2 : ℝ)) : EReal) := by
  show Ideal.ofBits .f32 0x3F000000#32 = _
  simp [Ideal.ofBits, Ideal.ieee]; rw [← EReal.coe_mul]; norm_num

theorem topBits : (FloatOps.ofBits FTy.f32 1224736768#32 : Ideal .f32) = ((2 ^ 19 : ℝ) : EReal) := by
  show Ideal.ofBits .f32 1224736768#32 = _
  rw [show (2 ^ 19 : ℝ) = 524288 by norm_num]; simp [Ideal.ofBits, Ideal.ieee]; rw [← EReal.coe_mul]; norm_num

theorem oneBits : (FloatOps.ofBits FTy.f32 0x3F800000#32 : Ideal .f32) = nv 1 := by
  show Ideal.ofBits .f32 0x3F800000#32 = _
  simp [Ideal.ofBits, Ideal.ieee, nv]; rw [← EReal.coe_mul]; norm_num

theorem b256Bits : (FloatOps.ofBits FTy.f32 0x43800000#32 : Ideal .f32) = nv 256 := by
  show Ideal.ofBits .f32 0x43800000#32 = _
  simp [Ideal.ofBits, Ideal.ieee, nv]; rw [← EReal.coe_mul]; norm_num

/-! ## Reaching a grid value -/

/-- The value times `m` is at least `c`. -/
def reach (m : EReal) (c : ℕ) (x : EReal) : Prop := nv c ≤ x * m

theorem reach_up {m : EReal} (hm : 0 ≤ m) (c : ℕ) (x y : EReal) (h : x ≤ y) (hx : reach m c x) : reach m c y :=
  le_trans hx (mul_le_mul_of_nonneg_right h hm)

theorem reach_zero {m : EReal} {c : ℕ} (hc : 0 < c) : ¬ reach m c 0 := by
  unfold reach
  rw [zero_mul, not_le]
  have : nv 0 < nv c := lt_of_not_ge fun h => by have := (nv_le c 0).1 h; omega
  simpa [nv] using this

theorem reach_anti {m : EReal} {c d : ℕ} (h : c ≤ d) {x : EReal} (hx : reach m d x) : reach m c x := le_trans ((nv_le _ _).2 h) hx

theorem ind_reach (m x : EReal) (c : ℕ) (h : 1 < 32) : (FloatOps.sitofp (F := Ideal) FTy.f32 ((Ideal.cmp .oge (x * m) (nv c)).setWidth 32) : EReal) = nv (ind (reach m c) x) := by
  rw [ind_eq _ _ h]
  unfold ind reach
  congr

/-- A grid value taken if enough reach it. -/
theorem pick (S th y z : EReal) (n c : ℕ) (hS : S = nv n) (hth : th = nv 20) (hy : y = nv c) :
    (if Ideal.cmp .oge S th = 1#1 then y else z) = if 20 ≤ n then nv c else z := by
  subst hS hth hy
  show (if BitVec.ofBool (decide (nv 20 ≤ nv n)) = 1#1 then _ else _) = _
  by_cases h : 20 ≤ n
  · rw [if_pos h, decide_eq_true ((nv_le _ _).2 h)]; rfl
  · rw [if_neg h, decide_eq_false fun h' => h ((nv_le _ _).1 h')]; rfl

/-! ## The search among the kept values -/

theorem pay6_row (K : Kept Ideal) (M : FVec Ideal S32x1 .f32) (A B C : FVec Ideal S32x128 .f32) (hA : A = mulf K.1 (broadcastTo S32x128 M broadcasts_S32x1_S32x128))
    (hB : B = mulf K.2.1 (broadcastTo S32x128 M broadcasts_S32x1_S32x128)) (hC : C = mulf K.2.2.1 (broadcastTo S32x128 M broadcasts_S32x1_S32x128)) (f : FVec Ideal S32x1 .f32) (bit : Ideal .f32) (r : Fin 32) (c : ℕ)
    (hc : (f (ValueIdx.ix2 r 0) + bit : EReal) = nv c) :
    (k0_pay6 K.2.2.2.1 K.2.2.2.2.1 K.2.2.2.2.2 M A B C f bit (ValueIdx.ix2 r 0) : EReal)
      = if 20 ≤ ∑ l : Fin 128, c6 (reach (M (ValueIdx.ix2 r 0)) c) (lane6 K r l) then nv c else f (ValueIdx.ix2 r 0) := by
  subst hA hB hC
  unfold k0_pay6 k0_pay2 k0_pay3 k0_pay4
  simp only [sc_1_2, bc_128]
  refine pick _ _ _ _ _ c ((sum_row _ _ _ _ _ r).trans ?_) twentyBits hc
  rw [← nv_sum]
  refine Finset.sum_congr rfl fun l _ => ?_
  have e : ∀ x : EReal, (FloatOps.sitofp (F := Ideal) FTy.f32 ((Ideal.cmp .oge (x * M (ValueIdx.ix2 r 0)) (f (ValueIdx.ix2 r 0) + bit)).setWidth 32) : EReal) = nv (ind (reach (M (ValueIdx.ix2 r 0)) c) x) := fun x => by
    rw [hc]; exact ind_reach _ _ _ (by norm_num)
  show ((((((FloatOps.ofBits FTy.f32 0x00000000#32 : Ideal .f32) + FloatOps.sitofp (F := Ideal) FTy.f32 ((Ideal.cmp .oge (K.1 (ValueIdx.ix2 r l) * M (ValueIdx.ix2 r 0)) (f (ValueIdx.ix2 r 0) + bit)).setWidth 32)
      + FloatOps.sitofp (F := Ideal) FTy.f32 ((Ideal.cmp .oge (K.2.1 (ValueIdx.ix2 r l) * M (ValueIdx.ix2 r 0)) (f (ValueIdx.ix2 r 0) + bit)).setWidth 32))
      + FloatOps.sitofp (F := Ideal) FTy.f32 ((Ideal.cmp .oge (K.2.2.1 (ValueIdx.ix2 r l) * M (ValueIdx.ix2 r 0)) (f (ValueIdx.ix2 r 0) + bit)).setWidth 32))
      + FloatOps.sitofp (F := Ideal) FTy.f32 ((Ideal.cmp .oge (K.2.2.2.1 (ValueIdx.ix2 r l) * M (ValueIdx.ix2 r 0)) (f (ValueIdx.ix2 r 0) + bit)).setWidth 32))
      + FloatOps.sitofp (F := Ideal) FTy.f32 ((Ideal.cmp .oge (K.2.2.2.2.1 (ValueIdx.ix2 r l) * M (ValueIdx.ix2 r 0)) (f (ValueIdx.ix2 r 0) + bit)).setWidth 32))
      + FloatOps.sitofp (F := Ideal) FTy.f32 ((Ideal.cmp .oge (K.2.2.2.2.2 (ValueIdx.ix2 r l) * M (ValueIdx.ix2 r 0)) (f (ValueIdx.ix2 r 0) + bit)).setWidth 32) : EReal) = _
  rw [e, e, e, e, e, e, zeroBits, zero_add, nv_add, nv_add, nv_add, nv_add, nv_add]
  rfl

/-- A search by bits over the grid, as both branches run it. -/
theorem search_row (f : ℕ → EReal) (bit : ℕ → EReal) (C : ℕ → ℕ) (hf : f 0 = 0) (hb : bit 0 = ((2 ^ 19 : ℝ) : EReal)) (hbit : ∀ n < 20, bit (n + 1) = bit n * (((1 / 2 : ℝ)) : EReal))
    (hs : ∀ n < 20, ∀ c : ℕ, f n + bit n = nv c → f (n + 1) = if 20 ≤ C c then nv c else f n) : ∀ n ≤ 20, f n = nv (Count.srch (fun c => 20 ≤ C c) n) := by
  have hB : ∀ n ≤ 20, bit n = ((2 ^ 19 * (1 / 2) ^ n : ℝ) : EReal) := by
    intro n
    induction n with
    | zero => intro _; rw [hb]; norm_num
    | succ n ih =>
      intro hn
      rw [hbit n (by omega), ih (by omega), ← EReal.coe_mul]; exact congrArg _ (by ring)
  intro n
  induction n with
  | zero => intro _; rw [hf]; simp [Count.srch, nv]
  | succ n ih =>
    intro hn
    have ih := ih (by omega)
    have e : (2 ^ 19 * (1 / 2) ^ n : ℝ) = ((2 ^ (19 - n) : ℕ) : ℝ) := by
      have h2 : (2 : ℝ) ^ 19 = 2 ^ (19 - n) * 2 ^ n := by rw [← pow_add]; congr 1; omega
      rw [h2, mul_assoc, ← mul_pow]; norm_num
    have := hs n (by omega) (Count.srch (fun c => 20 ≤ C c) n + 2 ^ (19 - n)) (by
      rw [ih, hB n (by omega), e]; exact nv_add _ _)
    rw [this, ih, Count.srch]
    split_ifs <;> rfl

/-- The grid value found among the kept values of a row. -/
theorem selFK_row (d7 : S16x3x32x128.Idx → EReal) (r : Fin 32) :
    (selFK (F := Ideal) d7 (ValueIdx.ix2 r 0) : EReal)
      = nv (Count.srch (fun c => 20 ≤ ∑ l : Fin 128, c6 (reach (selM (F := Ideal) d7 (ValueIdx.ix2 r 0)) c) (lane6 (selK (F := Ideal) d7) r l)) 20) := by
  unfold selFK selFold
  rw [Scf.fold_eq, List.foldl_const, List.length_finRange]
  have ht : k0_t3_loop.trips = 20 := rfl
  rw [ht]
  generalize hG : (fun (st : FVec Ideal S32x1 .f32 × Ideal .f32) =>
      (k0_pay6 (selK (F := Ideal) d7).2.2.2.1 (selK (F := Ideal) d7).2.2.2.2.1 (selK (F := Ideal) d7).2.2.2.2.2 (selM (F := Ideal) d7) (k0_pay120 (selK (F := Ideal) d7).1) (k0_pay121 (selK (F := Ideal) d7).1 (selK (F := Ideal) d7).2.1)
        (k0_pay122 (selK (F := Ideal) d7).1 (selK (F := Ideal) d7).2.2.1) st.1 st.2, k0_pay7 st.2)) = G
  have hGs : ∀ st, G st = (k0_pay6 (selK (F := Ideal) d7).2.2.2.1 (selK (F := Ideal) d7).2.2.2.2.1 (selK (F := Ideal) d7).2.2.2.2.2 (selM (F := Ideal) d7) (k0_pay120 (selK (F := Ideal) d7).1) (k0_pay121 (selK (F := Ideal) d7).1 (selK (F := Ideal) d7).2.1)
        (k0_pay122 (selK (F := Ideal) d7).1 (selK (F := Ideal) d7).2.2.1) st.1 st.2, k0_pay7 st.2) := fun st => by rw [← hG]
  clear hG
  refine search_row (fun n => ((G^[n] (k0_pay5, FloatOps.ofBits FTy.f32 1224736768#32)).1 (ValueIdx.ix2 r 0) : EReal))
    (fun n => ((G^[n] (k0_pay5, FloatOps.ofBits FTy.f32 1224736768#32)).2 : EReal)) _ zeroBits topBits (fun n _ => ?_) (fun n _ c hc => ?_) 20 le_rfl
  · show ((G^[n + 1] _).2 : EReal) = _
    rw [Function.iterate_succ_apply', hGs]
    show (_ * (FloatOps.ofBits FTy.f32 0x3F000000#32 : Ideal .f32) : EReal) = _
    rw [halfBits]
  · show ((G^[n + 1] _).1 (ValueIdx.ix2 r 0) : EReal) = _
    rw [Function.iterate_succ_apply', hGs]
    dsimp only
    exact pay6_row (selK (F := Ideal) d7) (selM (F := Ideal) d7) _ _ _ rfl rfl rfl _ _ r c hc

/-! ## Counting over the slab -/

/-- A pass over the tiles counts, lane by lane. -/
theorem tileIter_cnt (tiles : Fin 1536 → FVec Ideal S1x32x128 .f32) (f : FVec Ideal S32x128 .f32 → FVec Ideal S1x32x128 .f32 → FVec Ideal S32x128 .f32) (r : Fin 32) (l : Fin 128) (p : EReal → Prop)
    (hf : ∀ a t, (f a t (ValueIdx.ix2 r l) : EReal) = a (ValueIdx.ix2 r l) + nv (ind p (max (t (ValueIdx.ix3 0 r l)) (-(t (ValueIdx.ix3 0 r l)))))) :
    (tileIter (F := Ideal) tiles f k0_pay1 1536 (ValueIdx.ix2 r l) : EReal) = nv (∑ k : Fin 1536, ind p (max (tiles k (ValueIdx.ix3 0 r l)) (-(tiles k (ValueIdx.ix3 0 r l) : EReal)))) := by
  have key : ∀ n ≤ 1536, (tileIter (F := Ideal) tiles f k0_pay1 n (ValueIdx.ix2 r l) : EReal)
      = nv (∑ i ∈ range n, if h : i < 1536 then ind p (max (tiles ⟨i, h⟩ (ValueIdx.ix3 0 r l)) (-(tiles ⟨i, h⟩ (ValueIdx.ix3 0 r l) : EReal))) else 0) := by
    intro n
    induction n with
    | zero => intro _; rw [Finset.range_zero, Finset.sum_empty]; exact (pay1_at _).trans (by simp [nv])
    | succ n ih =>
      intro hn
      have e : tileIter (F := Ideal) tiles f k0_pay1 (n + 1) = f (tileIter (F := Ideal) tiles f k0_pay1 n) (tiles ⟨n, by omega⟩) := by
        rw [tileIter, dif_pos (show n < 1536 by omega)]
      rw [e, hf, ih (by omega), Finset.sum_range_succ, dif_pos (show n < 1536 by omega), ← nv_add]
  rw [key 1536 le_rfl, Finset.sum_range]
  refine congrArg nv (Finset.sum_congr rfl fun k _ => ?_)
  rw [dif_pos k.isLt]

/-- A pass over the slab, summed over the lanes, counts the channel's values. -/
theorem pass_row (xt : S16x8x160x12288.Idx → EReal) (g : ℕ) (f : FVec Ideal S32x128 .f32 → FVec Ideal S1x32x128 .f32 → FVec Ideal S32x128 .f32) (r : Fin 32) (p : EReal → Prop)
    (hf : ∀ l a t, (f a t (ValueIdx.ix2 r l) : EReal) = a (ValueIdx.ix2 r l) + nv (ind p (max (t (ValueIdx.ix3 0 r l)) (-(t (ValueIdx.ix3 0 r l)))))) :
    ∑ l : Fin 128, (tileIter (F := Ideal) (tilesOf (slabOf (F := Ideal) xt g)) f k0_pay1 1536 (ValueIdx.ix2 r l) : EReal) = nv (allCnt xt g r p) := by
  rw [← sum_tiles, ← nv_sum]
  exact Finset.sum_congr rfl fun l _ => tileIter_cnt _ f r l p (hf l)

theorem pay72_at (M F : FVec Ideal S32x1 .f32) (bit : Ideal .f32) (r : Fin 32) (l : Fin 128) (c : ℕ) (hc : (F (ValueIdx.ix2 r 0) + bit : EReal) = nv c) (a : FVec Ideal S32x128 .f32) (t : FVec Ideal S1x32x128 .f32) :
    (k0_pay72 M F bit a t (ValueIdx.ix2 r l) : EReal) = a (ValueIdx.ix2 r l) + nv (ind (reach (M (ValueIdx.ix2 r 0)) c) (max (t (ValueIdx.ix3 0 r l)) (-(t (ValueIdx.ix3 0 r l))))) := by
  unfold k0_pay72 k0_pay71
  simp only [sc_3_2, bc_128]
  show (a (ValueIdx.ix2 r l) + FloatOps.sitofp (F := Ideal) FTy.f32 ((Ideal.cmp .oge (max (t (ValueIdx.ix3 0 r l)) (-(t (ValueIdx.ix3 0 r l))) * M (ValueIdx.ix2 r 0)) (F (ValueIdx.ix2 r 0) + bit)).setWidth 32) : EReal) = _
  rw [hc, ind_reach _ _ _ (by norm_num)]

theorem pay85_at (M F : FVec Ideal S32x1 .f32) (r : Fin 32) (l : Fin 128) (c : ℕ) (hc : (k0_pay83 F (ValueIdx.ix2 r 0) : EReal) = nv c) (a : FVec Ideal S32x128 .f32) (t : FVec Ideal S1x32x128 .f32) :
    (k0_pay85 M F a t (ValueIdx.ix2 r l) : EReal) = a (ValueIdx.ix2 r l) + nv (ind (reach (M (ValueIdx.ix2 r 0)) c) (max (t (ValueIdx.ix3 0 r l)) (-(t (ValueIdx.ix3 0 r l))))) := by
  unfold k0_pay85
  simp only [sc_3_2, bc_128]
  show (a (ValueIdx.ix2 r l) + FloatOps.sitofp (F := Ideal) FTy.f32 ((Ideal.cmp .oge (max (t (ValueIdx.ix3 0 r l)) (-(t (ValueIdx.ix3 0 r l))) * M (ValueIdx.ix2 r 0)) (k0_pay83 F (ValueIdx.ix2 r 0))).setWidth 32) : EReal) = _
  rw [hc, ind_reach _ _ _ (by norm_num)]

theorem pay13_at (M C : FVec Ideal S32x1 .f32) (r : Fin 32) (l : Fin 128) (c : ℕ) (hc : (k0_pay12 C (ValueIdx.ix2 r 0) : EReal) = nv c) (a : FVec Ideal S32x128 .f32) (t : FVec Ideal S1x32x128 .f32) :
    (k0_pay13 M C a t (ValueIdx.ix2 r l) : EReal) = a (ValueIdx.ix2 r l) + nv (ind (reach (M (ValueIdx.ix2 r 0)) c) (max (t (ValueIdx.ix3 0 r l)) (-(t (ValueIdx.ix3 0 r l))))) := by
  unfold k0_pay13
  simp only [sc_3_2, bc_128]
  show (a (ValueIdx.ix2 r l) + FloatOps.sitofp (F := Ideal) FTy.f32 ((Ideal.cmp .oge (max (t (ValueIdx.ix3 0 r l)) (-(t (ValueIdx.ix3 0 r l))) * M (ValueIdx.ix2 r 0)) (k0_pay12 C (ValueIdx.ix2 r 0))).setWidth 32) : EReal) = _
  rw [hc, ind_reach _ _ _ (by norm_num)]

theorem pay73_row (F : FVec Ideal S32x1 .f32) (bit : Ideal .f32) (T : FVec Ideal S32x128 .f32) (r : Fin 32) (c n : ℕ) (hc : (F (ValueIdx.ix2 r 0) + bit : EReal) = nv c) (hT : ∑ l : Fin 128, (T (ValueIdx.ix2 r l) : EReal) = nv n) :
    (k0_pay73 F bit T (ValueIdx.ix2 r 0) : EReal) = if 20 ≤ n then nv c else F (ValueIdx.ix2 r 0) := by
  unfold k0_pay73 k0_pay71
  simp only [sc_1_2]
  exact pick _ _ _ _ n c ((sum_row _ _ _ _ _ r).trans hT) twentyBits hc

/-- The grid value found over the whole slab. -/
theorem selFA_row (xt : S16x8x160x12288.Idx → EReal) (g : ℕ) (d7 : S16x3x32x128.Idx → EReal) (r : Fin 32) :
    (selFA (F := Ideal) (slabOf (F := Ideal) xt g) d7 (ValueIdx.ix2 r 0) : EReal)
      = nv (Count.srch (fun c => 20 ≤ allCnt xt g r (reach (selM (F := Ideal) d7 (ValueIdx.ix2 r 0)) c)) 20) := by
  unfold selFA
  refine search_row (fun n => ((searchIter (F := Ideal) (tilesOf (slabOf (F := Ideal) xt g)) (selM d7) (k0_pay70, FloatOps.ofBits FTy.f32 1224736768#32) n).1 (ValueIdx.ix2 r 0) : EReal))
    (fun n => ((searchIter (F := Ideal) (tilesOf (slabOf (F := Ideal) xt g)) (selM d7) (k0_pay70, FloatOps.ofBits FTy.f32 1224736768#32) n).2 : EReal)) _ zeroBits topBits (fun n hn => ?_) (fun n hn c hc => ?_) 20 le_rfl
  · show ((searchIter (F := Ideal) _ _ _ (n + 1)).2 : EReal) = _
    rw [searchIter, if_pos hn]
    show (_ * (FloatOps.ofBits FTy.f32 0x3F000000#32 : Ideal .f32) : EReal) = _
    rw [halfBits]
  · show ((searchIter (F := Ideal) _ _ _ (n + 1)).1 (ValueIdx.ix2 r 0) : EReal) = _
    rw [searchIter, if_pos hn]
    refine pay73_row _ _ _ r c _ hc ?_
    exact pass_row xt g _ r _ fun l a t => pay72_at _ _ _ r l c hc a t

end Cert.KernelIdeal.Hand
-- ==== Proof.Expo.lean ====
module

public import proofs.«01_k».proof.Proof.Search
public import Idealize.ShloMosaic.Lib.IndicatorCount

@[expose] public section

noncomputable section

namespace Cert.KernelIdeal.Hand

open Idealize.ShloMosaic Idealize.ShloMosaic.TcCoe
open scoped BigOperators

/-! ## The exponent of the largest magnitude -/

/-- `e` is the exponent of `A`, zero for zero, in the range of the format. -/
structure IsExp (A : EReal) (e : ℤ) : Prop where
  lo : -106 ≤ e
  hi : e ≤ 128
  h : (A = 0 ∧ e = 0) ∨ ((((2 : ℝ) ^ (e - 1) : ℝ) : EReal) ≤ A ∧ A < (((2 : ℝ) ^ e : ℝ) : EReal))

theorem two_zpow_pos (n : ℤ) : (0 : ℝ) < (2 : ℝ) ^ n := zpow_pos (by norm_num) n

theorem two_zpow_le {m n : ℤ} : (2 : ℝ) ^ m ≤ (2 : ℝ) ^ n ↔ m ≤ n := zpow_le_zpow_iff_right₀ (by norm_num)

theorem two_zpow_lt {m n : ℤ} : (2 : ℝ) ^ m < (2 : ℝ) ^ n ↔ m < n := zpow_lt_zpow_iff_right₀ (by norm_num)

/-- A magnitude in the range has an exponent. -/
theorem exists_exp (A : EReal) (h : A = 0 ∨ ((((2 : ℝ) ^ (-107 : ℤ) : ℝ) : EReal) ≤ A ∧ A < (((2 : ℝ) ^ (128 : ℤ) : ℝ) : EReal))) : ∃ e, IsExp A e := by
  rcases h with h | ⟨h1, h2⟩
  · exact ⟨0, by norm_num, by norm_num, .inl ⟨h, rfl⟩⟩
  · induction A using EReal.rec with
    | bot => exact absurd h1 (not_le.2 (EReal.bot_lt_coe _))
    | top => exact absurd h2 (not_lt.2 le_top)
    | coe a =>
      rw [EReal.coe_le_coe_iff] at h1
      rw [EReal.coe_lt_coe_iff] at h2
      have ha : 0 < a := lt_of_lt_of_le (two_zpow_pos _) h1
      obtain ⟨n, l1, l2⟩ := exists_mem_Ico_zpow ha (show (1 : ℝ) < 2 by norm_num)
      have b1 : (-107 : ℤ) < n + 1 := two_zpow_lt.1 (lt_of_le_of_lt h1 l2)
      have b2 : n < 128 := two_zpow_lt.1 (lt_of_le_of_lt l1 h2)
      refine ⟨n + 1, by omega, by omega, .inr ⟨?_, ?_⟩⟩
      · rw [EReal.coe_le_coe_iff, add_sub_cancel_right]; exact l1
      · rw [EReal.coe_lt_coe_iff]; exact l2

theorem IsExp.lt_iff {A : EReal} {e : ℤ} (h : IsExp A e) (h0 : A ≠ 0) (n : ℤ) : A < (((2 : ℝ) ^ n : ℝ) : EReal) ↔ e ≤ n := by
  rcases h.h with ⟨h1, _⟩ | ⟨h1, h2⟩
  · exact absurd h1 h0
  · constructor
    · intro hh
      have := lt_of_le_of_lt h1 hh
      rw [EReal.coe_lt_coe_iff, two_zpow_lt] at this
      omega
    · intro hh
      refine lt_of_lt_of_le h2 ?_
      rw [EReal.coe_le_coe_iff, two_zpow_le]
      exact hh

/-! ## Powers of two built from bits -/

theorem field_bits : ∀ k : Fin 256, ((IntOp.shli .vector (BitVec.ofNat 32 k.val) 23#32).extractLsb' 23 8).toNat = k.val
    ∧ ((IntOp.shli .vector (BitVec.ofNat 32 k.val) 23#32).extractLsb' 0 23).toNat = 0 ∧ ((IntOp.shli .vector (BitVec.ofNat 32 k.val) 23#32).extractLsb' 31 1 == 1#1) = false := by
  decide

/-- A biased exponent placed in the exponent's bits is that power of two. -/
theorem field_pow (k : Fin 256) : Ideal.ofBits .f32 (IntOp.shli .vector (BitVec.ofNat 32 k.val) 23#32)
    = if k.val = 255 then ⊤ else if k.val = 0 then 0 else (((2 : ℝ) ^ ((k.val : ℤ) - 127) : ℝ) : EReal) := by
  obtain ⟨h1, h2, h3⟩ := field_bits k
  show Ideal.ieee 8 23 _ = _
  unfold Ideal.ieee
  simp only [show 8 + 23 = 31 from rfl, h1, h2, h3]
  by_cases a : k.val = 255
  · rw [if_pos (by omega), if_pos a]; simp
  · rw [if_neg (by omega), if_neg a]
    by_cases b : k.val = 0
    · rw [if_pos b, if_pos b]; simp
    · rw [if_neg b, if_neg b]
      refine congrArg (fun x : ℝ => (x : EReal)) ?_
      have h23 : ((2 ^ 23 + 0 : ℕ) : ℝ) = (2 : ℝ) ^ (23 : ℤ) := by norm_num
      have hs : (if (false = true) then (-1 : ℝ) else 1) = 1 := if_neg (by simp)
      rw [h23, hs, one_mul, ← zpow_add₀ (by norm_num)]
      refine congrArg (fun n : ℤ => (2 : ℝ) ^ n) ?_
      have e : ((2 : ℤ) ^ (8 - 1) - 1) = 127 := by norm_num
      rw [e]
      push_cast
      ring

theorem clip_bits : ∀ k : Fin 255, 1 ≤ k.val → IntOp.minsi 254#32 (IntOp.maxsi 1#32 (BitVec.ofNat 32 k.val)) = BitVec.ofNat 32 k.val := by decide

/-- A power of two from a word clipped to the exponent's range. -/
theorem clip_pow (v : BitVec 32) (n : ℤ) (hv : v = BitVec.ofInt 32 n) (h1 : 1 ≤ n) (h2 : n ≤ 254) :
    Ideal.ofBits .f32 (IntOp.shli .vector (IntOp.minsi 254#32 (IntOp.maxsi 1#32 v)) 23#32) = (((2 : ℝ) ^ (n - 127) : ℝ) : EReal) := by
  subst hv
  lift n to ℕ using by omega
  rw [BitVec.ofInt_natCast, clip_bits ⟨n, by omega⟩ (by show 1 ≤ n; omega), field_pow ⟨n, by omega⟩]
  rw [if_neg (by show ¬ n = 255; omega), if_neg (by show ¬ n = 0; omega)]

/-- How many biased exponents a magnitude reaches. -/
theorem field_count {A : EReal} {e : ℤ} (h : IsExp A e) (h0 : A ≠ 0) :
    (Finset.univ.filter fun k : Fin 256 => Ideal.cmp .oge A (Ideal.ofBits .f32 (IntOp.shli .vector (BitVec.ofNat 32 k.val) 23#32)) = 1#1).card = (e + 127).toNat := by
  have l := h.lo
  have u := h.hi
  have e1 : ∀ k : Fin 256, (Ideal.cmp .oge A (Ideal.ofBits .f32 (IntOp.shli .vector (BitVec.ofNat 32 k.val) 23#32)) = 1#1) ↔ k.val < (e + 127).toNat := fun k => by
    have hc : ∀ y : EReal, (Ideal.cmp .oge A y = 1#1) ↔ y ≤ A := fun y => by
      show (BitVec.ofBool (decide (y ≤ A)) = 1#1) ↔ _
      by_cases hh : y ≤ A <;> simp [hh]
    rw [hc, field_pow]
    have hA : 0 ≤ A := by
      rcases h.h with ⟨a, _⟩ | ⟨a, _⟩
      · exact le_of_eq a.symm
      · exact le_trans (by exact_mod_cast (two_zpow_pos (e - 1)).le) a
    by_cases a : k.val = 255
    · rw [if_pos a]
      have : A < ⊤ := lt_of_lt_of_le ((h.lt_iff h0 e).2 le_rfl) le_top
      exact ⟨fun hh => absurd this (not_lt.2 hh), fun hh => by omega⟩
    · by_cases b : k.val = 0
      · rw [if_neg a, if_pos b]
        exact ⟨fun _ => by omega, fun _ => hA⟩
      · rw [if_neg a, if_neg b, ← not_lt, h.lt_iff h0]
        omega
  simp only [e1]
  rw [Fin.card_filter_val_lt]
  omega

/-! ## The reference's powers and its exponent -/

theorem pow_two (n : ℤ) : Ideal.pow ((2 : ℝ) : EReal) (((n : ℝ)) : EReal) = (((2 : ℝ) ^ n : ℝ) : EReal) := by
  show ((Real.rpow 2 (n : ℝ) : ℝ) : EReal) = _
  congr 1
  exact Real.rpow_intCast 2 n

theorem toInt_word (n : ℤ) (h1 : -1000 ≤ n) (h2 : n ≤ 1000) : (BitVec.ofInt 32 n).toInt = n := by
  rw [BitVec.toInt_ofInt, Int.bmod_def]; omega

theorem toInt_minsi (x y : BitVec 32) : (IntOp.minsi x y).toInt = min x.toInt y.toInt := by
  unfold IntOp.minsi
  rw [BitVec.slt_eq_decide]
  by_cases h : x.toInt < y.toInt
  · simp only [h, decide_true, if_true]; omega
  · simp only [h, decide_false]; simp; omega

/-- The least exponent whose power is above the magnitude. -/
theorem least_exp {A : EReal} {e : ℤ} (h : IsExp A e) (h0 : A ≠ 0) (f : Fin 277 → BitVec 32)
    (hf : ∀ k : Fin 277, f k = if A < (((2 : ℝ) ^ ((k.val : ℤ) - 148) : ℝ) : EReal) then BitVec.ofInt 32 ((k.val : ℤ) - 148) else BitVec.ofInt 32 129) [Std.Commutative (IntOp.minsi (w := 32))] [Std.Associative (IntOp.minsi (w := 32))] :
    (Finset.univ : Finset (Fin 277)).fold IntOp.minsi (2147483647#32) f = BitVec.ofInt 32 e := by
  have l := h.lo
  have u := h.hi
  refine BitVec.eq_of_toInt_eq ?_
  rw [toInt_word e (by omega) (by omega), ← Finset.fold_hom (op := IntOp.minsi) (op' := min) (m := BitVec.toInt) toInt_minsi]
  have hi : ∀ k : Fin 277, (f k).toInt = if e ≤ (k.val : ℤ) - 148 then (k.val : ℤ) - 148 else 129 := fun k => by
    have := k.isLt
    rw [hf]
    by_cases hh : e ≤ (k.val : ℤ) - 148
    · rw [if_pos hh, if_pos ((h.lt_iff h0 _).2 hh)]
      exact toInt_word _ (by omega) (by omega)
    · rw [if_neg hh, if_neg fun h' => hh ((h.lt_iff h0 _).1 h')]
      rfl
  refine le_antisymm ?_ ?_
  · rw [Finset.fold_min_le]
    refine .inr ⟨⟨(e + 148).toNat, by omega⟩, Finset.mem_univ _, ?_⟩
    rw [hi]
    dsimp only
    rw [if_pos (by omega)]
    omega
  · rw [Finset.le_fold_min]
    refine ⟨?_, fun k _ => ?_⟩
    · have : (2147483647#32 : BitVec 32).toInt = 2147483647 := by decide
      omega
    · rw [hi]
      split_ifs <;> omega

end Cert.KernelIdeal.Hand
-- ==== Proof.KRow.lean ====
module

public import proofs.«01_k».proof.Proof.Expo

@[expose] public section

noncomputable section

namespace Cert.KernelIdeal.Hand

open Cert.KernelIdeal Cert.KernelIdeal.Gen
open Idealize.ShloMosaic Idealize.ShloMosaic.TcCoe
open scoped BigOperators

/-! ## Word and division arithmetic -/

theorem wsub (a b : ℤ) : BitVec.ofInt 32 a - BitVec.ofInt 32 b = BitVec.ofInt 32 (a - b) := by
  refine BitVec.eq_of_toInt_eq ?_
  simp [BitVec.toInt_sub, BitVec.toInt_ofInt]

theorem wadd (a b : ℤ) : BitVec.ofInt 32 a + BitVec.ofInt 32 b = BitVec.ofInt 32 (a + b) := by
  refine BitVec.eq_of_toInt_eq ?_
  simp [BitVec.toInt_add, BitVec.toInt_ofInt]

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A grid value rounded down to a multiple of 256. -/
theorem bin_floor (f : ℕ) : Ideal.liftRound Int.floor (Ideal.div (nv f) (nv 256)) * nv 256 = nv (256 * (f / 256)) := by
  unfold nv
  rw [div_real _ _ (by norm_num)]
  show ((((⌊((f : ℕ) : ℝ) / ((256 : ℕ) : ℝ)⌋ : ℤ) : ℝ)) : EReal) * _ = _
  have : ⌊((f : ℕ) : ℝ) / ((256 : ℕ) : ℝ)⌋ = ((f / 256 : ℕ) : ℤ) := by
    have h1 : 256 * (f / 256) ≤ f := by omega
    have h2 : f < 256 * (f / 256) + 256 := by omega
    have h1 : ((256 * (f / 256) : ℕ) : ℝ) ≤ (f : ℝ) := Nat.cast_le.2 h1
    have h2 : (f : ℝ) < ((256 * (f / 256) + 256 : ℕ) : ℝ) := Nat.cast_lt.2 h2
    rw [Nat.cast_mul] at h1
    rw [Nat.cast_add, Nat.cast_mul] at h2
    rw [Int.floor_eq_iff, Int.cast_natCast, le_div_iff₀ (by norm_num), div_lt_iff₀ (by norm_num)]
    constructor <;> linarith
  rw [this, Int.cast_natCast, ← EReal.coe_mul, Nat.cast_mul, mul_comm]

theorem sub_floor (f : ℕ) : nv f - nv (256 * (f / 256)) = nv (f % 256) := by
  unfold nv
  rw [← EReal.coe_sub]
  congr 1
  have := Nat.div_add_mod f 256
  have h : (f : ℝ) = ((256 * (f / 256) + f % 256 : ℕ) : ℝ) := by rw [this]
  rw [h]
  push_cast
  ring

/-! ## The largest magnitude of a channel -/

/-- The largest value kept of a row. -/
def kmax (xt : S16x8x160x12288.Idx → EReal) (g : ℕ) (r : Fin 32) : EReal :=
  multiReduction (F := Ideal) .maximumf [1] S32 (selK (F := Ideal) (keptOf (F := Ideal) xt g)).1 0xFF800000#32 reduces_S32x128_S32 (.inl rfl) rfl (ValueIdx.ix1 r)

/-- It is the largest magnitude of the channel. -/
theorem kmax_le (xt : S16x8x160x12288.Idx → EReal) (g : ℕ) (r : Fin 32) (y : EReal) (hy : 0 ≤ y) : kmax xt g r ≤ y ↔ ∀ i, mag xt g r i ≤ y := by
  have hp : ∀ a b : EReal, a ≤ b → y < a → y < b := fun a b h h' => lt_of_lt_of_le h' h
  have h0 : ¬ (y < 0) := not_lt.2 hy
  refine (max_row _ _ _ _ r y).trans ⟨fun H i => ?_, fun H l => ?_⟩
  · obtain ⟨b, s⟩ := i
    have hs : s = tokAt ⟨s.val / 128, by omega⟩ ⟨s.val % 128, Nat.mod_lt _ (by norm_num)⟩ := Fin.ext (by show s.val = s.val / 128 * 128 + s.val % 128; omega)
    have := rowCnt_of_first xt g r ⟨s.val % 128, Nat.mod_lt _ (by norm_num)⟩ hp h0 (not_lt.2 (H _)) b
    unfold rowCnt at this
    have := (Finset.sum_eq_zero_iff.1 this) ⟨s.val / 128, by omega⟩ (Finset.mem_univ _)
    rw [← hs] at this
    unfold ind at this
    by_contra hh
    rw [if_pos (not_le.1 hh)] at this
    exact absurd this one_ne_zero
  · by_contra hh
    have h6 := c6_le xt g r l hp h0
    have hz : ∑ b : Fin 16, rowCnt xt g r l (fun x => y < x) b = 0 := Finset.sum_eq_zero fun b _ => Finset.sum_eq_zero fun t _ => if_neg (not_lt.2 (H _))
    rw [hz] at h6
    have : ind (LT.lt y) (lane6 (selK (F := Ideal) (keptOf (F := Ideal) xt g)) r l).1 = 1 := if_pos (not_le.1 hh)
    unfold c6 at h6
    omega

theorem mag_nonneg (xt : S16x8x160x12288.Idx → EReal) (g : ℕ) (r : Fin 32) (i) : 0 ≤ mag xt g r i := by
  unfold mag
  generalize xblk (F := Ideal) xt g i.1 (ValueIdx.ix4 0 0 r i.2) = x
  rcases le_total (0 : EReal) x with h | h
  · exact le_max_of_le_left h
  · exact le_max_of_le_right (by rw [← neg_zero]; exact EReal.neg_le_neg_iff.2 h)

theorem kmax_nonneg (xt : S16x8x160x12288.Idx → EReal) (g : ℕ) (r : Fin 32) : 0 ≤ kmax xt g r := by
  by_contra h
  rw [not_le] at h
  have := (kmax_le xt g r 0 le_rfl).1 h.le (0, 0)
  have e := le_antisymm this (mag_nonneg xt g r (0, 0))
  have hp : ∀ a b : EReal, a ≤ b → 0 ≤ a → 0 ≤ b := fun a b h h' => le_trans h' h
  -- every kept value is at least zero, for each starts at zero and only grows
  have key : ∀ n ≤ 16, (0 : EReal) ≤ (mergeIter (F := Ideal) (cellsOf (keptOf (F := Ideal) xt g)) (k0_pay1, k0_pay1, k0_pay1, k0_pay1, k0_pay1, k0_pay1) n).1 (ValueIdx.ix2 r 0) := by
    intro n
    induction n with
    | zero => intro _; exact le_of_eq (pay1_at (ValueIdx.ix2 r 0)).symm
    | succ n ih =>
      intro hn
      have h1 := congrArg Prod.fst (lane6_merge (cellsOf (keptOf (F := Ideal) xt g)) (k0_pay1, k0_pay1, k0_pay1, k0_pay1, k0_pay1, k0_pay1) n (by omega) r 0)
      refine le_of_le_of_eq ?_ h1.symm
      unfold in6
      exact le_max_of_le_left (le_max_of_le_left (le_max_of_le_left (ih (by omega))))
  exact absurd (lt_of_le_of_lt (((max_row _ _ _ _ r _).1 le_rfl) 0) h) (not_lt.2 (key 16 le_rfl))

/-! ## The exponent and the scaling of a row -/

theorem reduceI_row (v : IVec S32x256 32) (h : S32x256.Reduces [1] S32) (hacc : (0#32 : BitVec 32) = IKind.add.neutral) (r : Fin 32) :
    multiReductionI .add [1] S32 v 0#32 h hacc (ValueIdx.ix1 r) = (Finset.univ : Finset (Fin 256)).fold IntOp.addi 0#32 (fun k => v (ValueIdx.ix2 r k)) := by
  rw [multiReductionI_eq_reduceFold, reduceFold_eq_fold]
  refine (Shape.Reduces.fold_filter_drop_single h _ _ _ _).trans ?_
  refine congrArg (Finset.fold IntOp.addi 0#32 · Finset.univ) ?_
  funext k
  refine congrArg v ?_
  funext a
  fin_cases a <;> exact Fin.ext rfl

theorem pay118_row (K1 : FVec Ideal S32x128 .f32) (r : Fin 32) (A : EReal) {e : ℤ} (hA : (multiReduction (F := Ideal) .maximumf [1] S32 K1 0xFF800000#32 reduces_S32x128_S32 (.inl rfl) rfl (ValueIdx.ix1 r) : EReal) = A) (he : IsExp A e) :
    k0_pay118 K1 (ValueIdx.ix2 r 0) = BitVec.ofInt 32 e := by
  have key : ∀ (B z : EReal) (n : BitVec 32), B = A → z = 0 → (A ≠ 0 → n = BitVec.ofNat 32 (e + 127).toNat) →
      (if Ideal.cmp .oeq B z = 1#1 then (0#32 : BitVec 32) else (n - 1#32) - 126#32) = BitVec.ofInt 32 e := by
    intro B z n hB hz hn
    rw [hB, hz]
    have hc : (Ideal.cmp .oeq A 0 = 1#1) ↔ A = 0 := by
      show (BitVec.ofBool (decide (A = 0)) = 1#1) ↔ _
      by_cases hh : A = 0 <;> simp [hh]
    by_cases h : A = 0
    · rw [if_pos (hc.2 h)]
      rcases he.h with ⟨_, h2⟩ | ⟨h1, _⟩
      · rw [h2]; rfl
      · rw [h] at h1
        exact absurd h1 (not_le.2 (by exact_mod_cast two_zpow_pos (e - 1)))
    · rw [if_neg fun hh => h (hc.1 hh), hn h]
      have l := he.lo
      have e1 : BitVec.ofNat 32 (e + 127).toNat = BitVec.ofInt 32 (e + 127) := by
        rw [← BitVec.ofInt_natCast]; congr 1; omega
      have e2 : (1#32 : BitVec 32) = BitVec.ofInt 32 1 := by decide
      have e3 : (126#32 : BitVec 32) = BitVec.ofInt 32 126 := by decide
      rw [e1, e2, e3, wsub, wsub]
      congr 1
      omega
  have hf : ∀ f : Fin 256 → BitVec 32, (∀ k, f k = (Ideal.cmp .oge A (Ideal.ofBits .f32 (IntOp.shli .vector (BitVec.ofNat 32 k.val) 23#32))).setWidth 32) → A ≠ 0 →
      (Finset.univ : Finset (Fin 256)).fold IntOp.addi 0#32 f = BitVec.ofNat 32 (e + 127).toNat := fun f hf h0 => by
    rw [funext hf, IndicatorCount.fold_addi_setWidth_eq_card, field_count he h0]
  unfold k0_pay118
  simp only [sc_1_2, bc_256]
  refine key _ _ _ hA zeroBits fun h0 => (reduceI_row _ _ _ r).trans (hf _ (fun k => ?_) h0)
  show (Ideal.cmp .oge (multiReduction (F := Ideal) .maximumf [1] S32 K1 0xFF800000#32 reduces_S32x128_S32 (.inl rfl) rfl (ValueIdx.ix1 r)) (Ideal.ofBits .f32 (IntOp.shli .vector (iota .tc S32x256 32 [1] iota_S32x256_d1_w32 (ValueIdx.ix2 r k)) 23#32))).setWidth 32 = _
  rw [iota_single_apply]
  exact congrArg (fun B : EReal => (Ideal.cmp .oge B (Ideal.ofBits .f32 (IntOp.shli .vector (BitVec.ofNat 32 k.val) 23#32))).setWidth 32) hA

section row
variable (xt : S16x8x160x12288.Idx → EReal) (g : ℕ) (r : Fin 32) {e : ℤ} (he : IsExp (kmax xt g r) e)
include he

theorem selE_row : selE (F := Ideal) (keptOf (F := Ideal) xt g) (ValueIdx.ix2 r 0) = BitVec.ofInt 32 e := pay118_row _ r _ rfl he

theorem selM_row : (selM (F := Ideal) (keptOf (F := Ideal) xt g) (ValueIdx.ix2 r 0) : EReal) = (((2 : ℝ) ^ (20 - e) : ℝ) : EReal) := by
  have l := he.lo
  have u := he.hi
  unfold selM k0_pay119
  have := selE_row xt g r he
  unfold selE at this
  refine (clip_pow ((20#32 - k0_pay118 (selK (F := Ideal) (keptOf (F := Ideal) xt g)).1 (ValueIdx.ix2 r 0)) + 127#32) (147 - e) ?_ (by omega) (by omega)).trans ?_
  · rw [this]
    show (BitVec.ofInt 32 20 - _) + BitVec.ofInt 32 127 = _
    rw [wsub, wadd]; congr 1; omega
  · congr 2; omega

omit he in
/-- The threshold of a channel. -/
def thrV (f : ℕ) (e : ℤ) : EReal := nv (f + 1) * (((2 : ℝ) ^ (e - 20) : ℝ) : EReal)

omit he in
/-- The statistics of a channel, by column. -/
def statV (f : ℕ) (e : ℤ) (l : ℕ) : EReal :=
  if l = 4 then (((2 : ℝ) ^ (16 - e) : ℝ) : EReal) else if l = 3 then nv (f % 256) else if l = 2 then Ideal.div (thrV f e) (Ideal.ofBits .f32 0x40E00000#32)
  else if l = 1 then Ideal.div (thrV f e) (Ideal.ofBits .f32 0x42FE0000#32) else if l = 0 then thrV f e else 0

end row

section pay
variable (E : IVec S32x1 32) (F : FVec Ideal S32x1 .f32) (r : Fin 32) (l : Fin 128) {f : ℕ} {e : ℤ}
  (hE : E (ValueIdx.ix2 r 0) = BitVec.ofInt 32 e) (hF : (F (ValueIdx.ix2 r 0) : EReal) = nv f) (lo : -106 ≤ e) (hi : e ≤ 128)
include hE hF lo hi

theorem pay49_row : (k0_pay49 E F (ValueIdx.ix2 r 0) : EReal) = thrV f e := by
  unfold k0_pay49 thrV
  refine congrArg₂ (fun a b : EReal => a * b) ?_ ((clip_pow ((E (ValueIdx.ix2 r 0) - 20#32) + 127#32) (e + 107) ?_ (by omega) (by omega)).trans ?_)
  · show (F (ValueIdx.ix2 r 0) + (FloatOps.ofBits FTy.f32 0x3F800000#32 : Ideal .f32) : EReal) = _
    rw [hF, oneBits, nv_add]
  · rw [hE]
    show (_ - BitVec.ofInt 32 20) + BitVec.ofInt 32 127 = _
    rw [wsub, wadd]; congr 1; omega
  · congr 2; omega

theorem pow16_row : Ideal.ofBits .f32 (IntOp.shli .vector (IntOp.minsi 254#32 (IntOp.maxsi 1#32 ((16#32 - E (ValueIdx.ix2 r 0)) + 127#32))) 23#32) = (((2 : ℝ) ^ (16 - e) : ℝ) : EReal) := by
  refine (clip_pow _ (143 - e) ?_ (by omega) (by omega)).trans ?_
  · rw [hE]
    show (BitVec.ofInt 32 16 - _) + BitVec.ofInt 32 127 = _
    rw [wsub, wadd]; congr 1; omega
  · congr 2; omega

omit hE lo hi in
theorem pay8_row : (k0_pay8 F (ValueIdx.ix2 r 0) : EReal) = nv (256 * (f / 256)) := by
  unfold k0_pay8
  show Ideal.liftRound Int.floor (Ideal.div (F (ValueIdx.ix2 r 0)) (FloatOps.ofBits FTy.f32 0x43800000#32 : Ideal .f32)) * (FloatOps.ofBits FTy.f32 0x43800000#32 : Ideal .f32) = _
  rw [hF, b256Bits, bin_floor]

omit hE lo hi in
theorem pay82_row : (k0_pay82 F (ValueIdx.ix2 r 0) : EReal) = nv (256 * (f / 256)) := pay8_row F r hF

omit hE lo hi in
theorem pay83_row : (k0_pay83 F (ValueIdx.ix2 r 0) : EReal) = nv (256 * (f / 256) + 256) := by
  unfold k0_pay83
  show (k0_pay82 F (ValueIdx.ix2 r 0) + (FloatOps.ofBits FTy.f32 0x43800000#32 : Ideal .f32) : EReal) = _
  rw [pay82_row F r hF, b256Bits, nv_add]

theorem pay51_row : (k0_pay51 E F (ValueIdx.ix2 r l) : EReal) = Ideal.div (thrV f e) (Ideal.ofBits .f32 0x42FE0000#32) := by
  unfold k0_pay51 k0_pay50
  simp only [sc_id21, sc_id2, bc_128]
  show Ideal.div (k0_pay49 E F (ValueIdx.ix2 r 0)) _ = _
  rw [pay49_row E F r hE hF lo hi]
  rfl

theorem pay77_row : (k0_pay77 E F (ValueIdx.ix2 r l) : EReal) = Ideal.div (thrV f e) (Ideal.ofBits .f32 0x42FE0000#32) := pay51_row E F r l hE hF lo hi

omit hE hF lo hi in
theorem col_eq (k : ℕ) (hk : k < 128) : (IntOp.cmpi .eq (BitVec.ofNat 32 l.val) (BitVec.ofNat 32 k) = 1#1) ↔ l.val = k := by
  show (BitVec.ofBool (BitVec.ofNat 32 l.val == BitVec.ofNat 32 k) = 1#1) ↔ _
  have := l.isLt
  constructor
  · intro h
    have h2 : BitVec.ofNat 32 l.val = BitVec.ofNat 32 k := by
      by_contra hh
      rw [beq_eq_false_iff_ne.2 hh] at h
      exact absurd h (by decide)
    have h3 := congrArg BitVec.toNat h2
    rw [BitVec.toNat_ofNat, BitVec.toNat_ofNat] at h3
    omega
  · rintro rfl
    rw [beq_self_eq_true]; rfl

/-- The statistics as selects by lane. -/
theorem stat_sel (w : BitVec 32) (hw : w = BitVec.ofNat 32 l.val) (a4 a3 a2 a1 a0 z : EReal) (h4 : a4 = (((2 : ℝ) ^ (16 - e) : ℝ) : EReal)) (h3 : a3 = nv (f % 256)) (h2 : a2 = Ideal.div (thrV f e) (Ideal.ofBits .f32 0x40E00000#32))
    (h1 : a1 = Ideal.div (thrV f e) (Ideal.ofBits .f32 0x42FE0000#32)) (h0 : a0 = thrV f e) (hz : z = 0) :
    (if IntOp.cmpi .eq w 4#32 = 1#1 then a4 else if IntOp.cmpi .eq w 3#32 = 1#1 then a3 else if IntOp.cmpi .eq w 2#32 = 1#1 then a2 else if IntOp.cmpi .eq w 1#32 = 1#1 then a1 else if IntOp.cmpi .eq w 0#32 = 1#1 then a0 else z)
      = statV f e l.val := by
  subst hw h4 h3 h2 h1 h0 hz
  unfold statV
  have c4 := col_eq l 4 (by norm_num)
  have c3 := col_eq l 3 (by norm_num)
  have c2 := col_eq l 2 (by norm_num)
  have c1 := col_eq l 1 (by norm_num)
  have c0 := col_eq l 0 (by norm_num)
  simp only [c4, c3, c2, c1, c0]

theorem statsK_row : (k0_pay55 E F lanes128 (k0_pay52 E F) k0_pay53 k0_pay54 (ValueIdx.ix2 r l) : EReal) = statV f e l.val := by
  unfold k0_pay55 k0_pay52 k0_pay53 k0_pay54
  simp only [sc_id21, bc_128]
  refine stat_sel E F r l hE hF lo hi _ (iota_single_apply ..) _ _ _ _ _ _ (pow16_row E F r hE hF lo hi) ?_ ?_ ?_ (pay49_row E F r hE hF lo hi) zeroBits
  · show (F (ValueIdx.ix2 r 0) - k0_pay8 F (ValueIdx.ix2 r 0) : EReal) = _
    rw [pay8_row F r hF, hF, sub_floor]
  · show Ideal.div (k0_pay49 E F (ValueIdx.ix2 r 0)) _ = _
    rw [pay49_row E F r hE hF lo hi]; rfl
  · show Ideal.div (k0_pay49 E F (ValueIdx.ix2 r 0)) _ = _
    rw [pay49_row E F r hE hF lo hi]; rfl

theorem statsA_row : (k0_pay81 E F lanes128 (k0_pay78 E F) k0_pay79 (k0_pay80 E F) (ValueIdx.ix2 r l) : EReal) = statV f e l.val :=
  statsK_row E F r l hE hF lo hi

end pay

end Cert.KernelIdeal.Hand
-- ==== Proof.Drop.lean ====
module

public import proofs.«01_k».proof.Proof.KRow

@[expose] public section

noncomputable section

namespace Cert.KernelIdeal.Hand

open Cert.KernelIdeal Cert.KernelIdeal.Gen
open Idealize.ShloMosaic Idealize.ShloMosaic.TcCoe
open scoped BigOperators

/-! ## Integers among the extended reals -/

/-- An integer as a value. -/
abbrev zv (n : ℤ) : EReal := ((n : ℝ) : EReal)

theorem zv_nat (n : ℕ) : zv (n : ℤ) = nv n := by
  unfold zv nv; rw [Int.cast_natCast]

theorem zv_le (a b : ℤ) : zv a ≤ zv b ↔ a ≤ b := by
  unfold zv; rw [EReal.coe_le_coe_iff]; exact Int.cast_le

theorem zv_inj {a b : ℤ} : zv a = zv b ↔ a = b :=
  ⟨fun h => le_antisymm ((zv_le _ _).1 h.le) ((zv_le _ _).1 h.ge), fun h => by rw [h]⟩

theorem zv_sub (a b : ℤ) : zv a - zv b = zv (a - b) := by
  unfold zv; rw [← EReal.coe_sub, Int.cast_sub]

theorem oneNeg : (FloatOps.ofBits FTy.f32 0xBF800000#32 : Ideal .f32) = zv (-1) := by
  show Ideal.ofBits .f32 0xBF800000#32 = _
  simp [Ideal.ofBits, Ideal.ieee, zv]; rw [← EReal.coe_mul]; norm_num

/-- An integer in range, as a word. -/
theorem fptosi_zv (z : ℤ) (h1 : -(2 ^ 31) ≤ z) (h2 : z < 2 ^ 31) : Ideal.fptosi 32 (zv z) = BitVec.ofInt 32 z := by
  unfold Ideal.fptosi zv
  rw [Ideal.toIntClamped_coe]
  congr 1
  rw [Int.floor_intCast, Int.ceil_intCast, ite_self]
  norm_num
  omega

theorem fptosi_nv (n : ℕ) (h : n < 2 ^ 31) : Ideal.fptosi 32 (nv n) = BitVec.ofNat 32 n := by
  rw [← zv_nat, fptosi_zv _ (by omega) (by omega), BitVec.ofInt_natCast]

theorem word_eq (l : ℕ) (hl : l < 256) (z : ℤ) (h1 : -1000 ≤ z) (h2 : z ≤ 1000) : (IntOp.cmpi .eq (BitVec.ofNat 32 l) (BitVec.ofInt 32 z) = 1#1) ↔ (l : ℤ) = z := by
  show (BitVec.ofBool (BitVec.ofNat 32 l == BitVec.ofInt 32 z) = 1#1) ↔ _
  constructor
  · intro h
    have h2 : BitVec.ofNat 32 l = BitVec.ofInt 32 z := by
      by_contra hh
      rw [beq_eq_false_iff_ne.2 hh] at h
      exact absurd h (by decide)
    rw [← BitVec.ofInt_natCast] at h2
    have h3 := congrArg BitVec.toInt h2
    rw [toInt_word _ (by omega) (by omega), toInt_word _ (by omega) (by omega)] at h3
    exact h3
  · rintro rfl
    rw [BitVec.ofInt_natCast, beq_self_eq_true]; rfl

/-! ## The loop that empties the kept values -/

/-- The six arrays at a lane. -/
def six (a : DropSt Ideal) (r : Fin 32) (i : Fin 6 × Fin 128) : EReal :=
  (![a.1, a.2.1, a.2.2.1, a.2.2.2.1, a.2.2.2.2.1, a.2.2.2.2.2.1] i.1 : FVec Ideal S32x128 .f32) (ValueIdx.ix2 r i.2)

/-- The largest of what is left. -/
def top (s : Fin 6 × Fin 128 → ℤ) : ℤ := (Finset.univ : Finset (Fin 6 × Fin 128)).sup' ⟨(0, 0), Finset.mem_univ _⟩ s

theorem le_top (s : Fin 6 × Fin 128 → ℤ) (i) : s i ≤ top s := Finset.le_sup' s (Finset.mem_univ i)

theorem ex_top (s : Fin 6 × Fin 128 → ℤ) : ∃ i, s i = top s := by
  obtain ⟨i, _, h⟩ := Finset.exists_mem_eq_sup' (s := (Finset.univ : Finset (Fin 6 × Fin 128))) ⟨(0, 0), Finset.mem_univ _⟩ s
  exact ⟨i, h.symm⟩

section step
variable (a : DropSt Ideal) (r : Fin 32) (s : Fin 6 × Fin 128 → ℤ) (hs : ∀ i, six a r i = zv (s i))
include hs

theorem pay39_row : (k0_pay39 a.1 a.2.1 a.2.2.1 a.2.2.2.1 a.2.2.2.2.1 a.2.2.2.2.2.1 (ValueIdx.ix2 r 0) : EReal) = zv (top s) := by
  unfold k0_pay39
  simp only [sc_1_2]
  refine le_antisymm ((max_row _ _ _ _ r _).2 fun l => ?_) ?_
  · have h : ∀ j : Fin 6, six a r (j, l) ≤ zv (top s) := fun j => by rw [hs]; exact (zv_le _ _).2 (le_top s _)
    exact max_le (max_le (max_le (max_le (max_le (h 0) (h 1)) (h 2)) (h 3)) (h 4)) (h 5)
  · obtain ⟨⟨j, l⟩, hi⟩ := ex_top s
    rw [← hi, ← hs]
    refine le_trans ?_ ((max_row _ reduces_S32x128_S32 (.inl rfl) rfl r _).1 le_rfl l)
    have e : ∀ x0 x1 x2 x3 x4 x5 : EReal, ∀ j : Fin 6, (![x0, x1, x2, x3, x4, x5] j : EReal) ≤ max (max (max (max (max x0 x1) x2) x3) x4) x5 := by
      intro x0 x1 x2 x3 x4 x5 j
      fin_cases j
      · exact le_max_of_le_left (le_max_of_le_left (le_max_of_le_left (le_max_of_le_left (le_max_left _ _))))
      · exact le_max_of_le_left (le_max_of_le_left (le_max_of_le_left (le_max_of_le_left (le_max_right _ _))))
      · exact le_max_of_le_left (le_max_of_le_left (le_max_of_le_left (le_max_right _ _)))
      · exact le_max_of_le_left (le_max_of_le_left (le_max_right _ _))
      · exact le_max_of_le_left (le_max_right _ _)
      · exact le_max_right _ _
    refine le_trans (le_of_eq ?_) (e (a.1 (ValueIdx.ix2 r l)) (a.2.1 (ValueIdx.ix2 r l)) (a.2.2.1 (ValueIdx.ix2 r l)) (a.2.2.2.1 (ValueIdx.ix2 r l)) (a.2.2.2.2.1 (ValueIdx.ix2 r l)) (a.2.2.2.2.2.1 (ValueIdx.ix2 r l)) j)
    unfold six
    fin_cases j <;> rfl

/-- The value taken out. -/
theorem take_out (i : Fin 6 × Fin 128) (T c : EReal) (hT : T = zv (top s)) (hc : c = zv (-1)) :
    (if Ideal.cmp .oeq (six a r i) T = 1#1 then c else six a r i) = zv (if s i = top s then -1 else s i) := by
  rw [hs, hT, hc]
  show (if BitVec.ofBool (decide (zv (s i) = zv (top s))) = 1#1 then _ else _) = _
  by_cases h : s i = top s
  · rw [if_pos h, decide_eq_true (zv_inj.2 h)]; rfl
  · rw [if_neg h, decide_eq_false fun h' => h (zv_inj.1 h')]; rfl

theorem step_six (v : IVec S32x256 32) (i : Fin 6 × Fin 128) : six (dropStep v a) r i = zv (if s i = top s then -1 else s i) := by
  have hT := pay39_row a r s hs
  obtain ⟨j, l⟩ := i
  unfold dropStep
  fin_cases j <;> refine Eq.trans ?_ (take_out a r s hs _ (k0_pay39 a.1 a.2.1 a.2.2.1 a.2.2.2.1 a.2.2.2.2.1 a.2.2.2.2.2.1 (ValueIdx.ix2 r 0)) (FloatOps.ofBits FTy.f32 0xBF800000#32 : Ideal .f32) hT oneNeg)
  · show (k0_pay47 a.1 a.2.1 a.2.2.1 a.2.2.2.1 a.2.2.2.2.1 a.2.2.2.2.2.1 (ValueIdx.ix2 r l) : EReal) = _
    unfold k0_pay47 k0_pay40; simp only [bc_128]; rfl
  · show (k0_pay48 a.1 a.2.1 a.2.2.1 a.2.2.2.1 a.2.2.2.2.1 a.2.2.2.2.2.1 (ValueIdx.ix2 r l) : EReal) = _
    unfold k0_pay48 k0_pay41; simp only [bc_128]; rfl
  · show (k0_pay66 (F := Ideal) _ (k0_pay42 a.1 a.2.1 a.2.2.1 a.2.2.2.1 a.2.2.2.2.1 a.2.2.2.2.2.1) _ (ValueIdx.ix2 r l) : EReal) = _
    unfold k0_pay66 k0_pay42; simp only [bc_128]; rfl
  · show (k0_pay67 (F := Ideal) _ (k0_pay43 a.1 a.2.1 a.2.2.1 a.2.2.2.1 a.2.2.2.2.1 a.2.2.2.2.2.1) (ValueIdx.ix2 r l) : EReal) = _
    unfold k0_pay67 k0_pay43; simp only [bc_128]; rfl
  · show (k0_pay68 (F := Ideal) _ (k0_pay44 a.1 a.2.1 a.2.2.1 a.2.2.2.1 a.2.2.2.2.1 a.2.2.2.2.2.1) (ValueIdx.ix2 r l) : EReal) = _
    unfold k0_pay68 k0_pay44; simp only [bc_128]; rfl
  · show (k0_pay69 (F := Ideal) _ (k0_pay45 a.1 a.2.1 a.2.2.1 a.2.2.2.1 a.2.2.2.2.1 a.2.2.2.2.2.1) (ValueIdx.ix2 r l) : EReal) = _
    unfold k0_pay69 k0_pay45; simp only [bc_128]; rfl

/-- An equality with the largest, as a number. -/
theorem eq_ind (i : Fin 6 × Fin 128) (x : EReal) (hx : x = six a r i) (T : EReal) (hT : T = zv (top s)) :
    (FloatOps.sitofp (F := Ideal) FTy.f32 ((Ideal.cmp .oeq x T).setWidth 32) : EReal) = nv (if s i = top s then 1 else 0) := by
  rw [hx, hs, hT]
  show ((((BitVec.setWidth 32 (BitVec.ofBool (decide (zv (s i) = zv (top s))))).toInt : ℝ)) : EReal) = _
  by_cases h : s i = top s
  · rw [if_pos h, decide_eq_true (zv_inj.2 h)]; simp [nv]
  · rw [if_neg h, decide_eq_false fun h' => h (zv_inj.1 h')]; simp [nv]

omit hs in
theorem put_in (x S z : EReal) (w T : BitVec 32) (n k : ℕ) (l : Fin 256) (t : ℤ) (h1 : -1 ≤ t) (h2 : t ≤ 255) (hx : x = nv n) (hS : S = nv k) (hz : z = 0)
    (hw : w = BitVec.ofNat 32 l.val) (hT : T = BitVec.ofInt 32 t) :
    x + (if IntOp.cmpi .eq w T = 1#1 then S else z) = nv (n + if (l.val : ℤ) = t then k else 0) := by
  subst hx hS hz hw hT
  by_cases h : (l.val : ℤ) = t
  · rw [if_pos h, if_pos ((word_eq l.val l.isLt t (by omega) (by omega)).2 h), nv_add]
  · rw [if_neg h, if_neg fun h' => h ((word_eq l.val l.isLt t (by omega) (by omega)).1 h'), add_zero, add_zero]

theorem step_acc (h1 : ∀ i, -1 ≤ s i ∧ s i ≤ 255) (l : Fin 256) (n : ℕ) (hn : (a.2.2.2.2.2.2 (ValueIdx.ix2 r l) : EReal) = nv n) :
    ((dropStep lanes256 a).2.2.2.2.2.2 (ValueIdx.ix2 r l) : EReal) = nv (n + if (l.val : ℤ) = top s then (Finset.univ.filter fun i => s i = top s).card else 0) := by
  have hT := pay39_row a r s hs
  obtain ⟨i0, hi0⟩ := ex_top s
  have b1 := (h1 i0).1
  have b2 := (h1 i0).2
  rw [hi0] at b1 b2
  unfold dropStep
  show (k0_pay46 lanes256 a.1 a.2.1 a.2.2.1 a.2.2.2.1 a.2.2.2.2.1 a.2.2.2.2.2.1 a.2.2.2.2.2.2 (ValueIdx.ix2 r l) : EReal) = _
  unfold k0_pay46
  simp only [bc_256, sc_id21, sc_1_2]
  refine put_in _ _ _ _ _ n _ l (top s) b1 b2 hn ((sum_row _ _ _ _ _ r).trans ?_) zeroBits (iota_single_apply ..) ?_
  · have e : (Finset.univ.filter fun i => s i = top s).card = ∑ l' : Fin 128, ∑ j : Fin 6, if s (j, l') = top s then 1 else 0 := by
      rw [Finset.card_filter, Fintype.sum_prod_type, Finset.sum_comm]
    rw [e, ← nv_sum]
    refine Finset.sum_congr rfl fun l' _ => ?_
    rw [Fin.sum_univ_six, ← nv_add, ← nv_add, ← nv_add, ← nv_add, ← nv_add]
    unfold k0_pay40 k0_pay41 k0_pay42 k0_pay43 k0_pay44 k0_pay45
    simp only [bc_128]
    refine congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_
    · refine Eq.trans (congrArg₂ (fun x y : EReal => x + y) zeroBits (eq_ind a r s hs (0, l') _ rfl _ hT)) ?_
      exact zero_add _
    · exact eq_ind a r s hs (1, l') _ rfl _ hT
    · exact eq_ind a r s hs (2, l') _ rfl _ hT
    · exact eq_ind a r s hs (3, l') _ rfl _ hT
    · exact eq_ind a r s hs (4, l') _ rfl _ hT
    · exact eq_ind a r s hs (5, l') _ rfl _ hT
  · show Ideal.fptosi 32 (k0_pay39 a.1 a.2.1 a.2.2.1 a.2.2.2.1 a.2.2.2.2.1 a.2.2.2.2.2.1 (ValueIdx.ix2 r 0)) = _
    rw [hT, fptosi_zv _ (by omega) (by omega)]

end step

/-- What is left, trip by trip. -/
def leftAt (s : Fin 6 × Fin 128 → ℤ) : ℕ → Fin 6 × Fin 128 → ℤ
  | 0 => s
  | n + 1 => fun i => if leftAt s n i = top (leftAt s n) then -1 else leftAt s n i

/-- What is counted, trip by trip. -/
def cntAt (s : Fin 6 × Fin 128 → ℤ) : ℕ → ℕ → ℕ
  | 0 => fun _ => 0
  | n + 1 => fun l => cntAt s n l + if (l : ℤ) = top (leftAt s n) then (Finset.univ.filter fun i => leftAt s n i = top (leftAt s n)).card else 0

/-- The loop counts every value into its lane. -/
theorem drop_row (a : DropSt Ideal) (r : Fin 32) (s : Fin 6 × Fin 128 → ℤ) (hs : ∀ i, six a r i = zv (s i)) (h1 : ∀ i, -1 ≤ s i ∧ s i ≤ 255)
    (h0 : ∀ l : Fin 256, (a.2.2.2.2.2.2 (ValueIdx.ix2 r l) : EReal) = 0) (l : Fin 256) :
    ((dropIter lanes256 a 256).2.2.2.2.2.2 (ValueIdx.ix2 r l) : EReal) = nv (Finset.univ.filter fun i => s i = (l.val : ℤ)).card := by
  have key : ∀ n, (∀ i, six (dropIter lanes256 a n) r i = zv (leftAt s n i)) ∧ (∀ i, -1 ≤ leftAt s n i ∧ leftAt s n i ≤ 255)
      ∧ ∀ l : Fin 256, ((dropIter lanes256 a n).2.2.2.2.2.2 (ValueIdx.ix2 r l) : EReal) = nv (cntAt s n l.val) := by
    intro n
    induction n with
    | zero => exact ⟨hs, h1, fun l => (h0 l).trans (by simp [cntAt, nv])⟩
    | succ n ih =>
      obtain ⟨i1, i2, i3⟩ := ih
      refine ⟨fun i => ?_, fun i => ?_, fun l => ?_⟩
      · rw [dropIter_succ]; exact step_six _ r _ i1 _ i
      · have := i2 i
        show -1 ≤ (if leftAt s n i = top (leftAt s n) then -1 else leftAt s n i) ∧ (if leftAt s n i = top (leftAt s n) then -1 else leftAt s n i) ≤ 255
        split_ifs <;> omega
      · rw [dropIter_succ]; exact step_acc _ r _ i1 i2 l _ (i3 l)
  rw [(key 256).2.2 l]
  refine congrArg nv ((Count.drop_all (leftAt s) (cntAt s) (fun n => top (leftAt s n)) h1 (fun n _ => ⟨le_top _, ex_top _⟩) (fun n _ i => rfl) (fun n _ l _ => rfl) l.val l.isLt).trans ?_)
  exact zero_add _

end Cert.KernelIdeal.Hand
-- ==== Proof.Close.lean ====
module

public import proofs.«01_k».proof.Proof.Drop

@[expose] public section

noncomputable section

namespace Cert.KernelIdeal.Hand

open Cert.KernelIdeal Cert.KernelIdeal.Gen
open Idealize.ShloMosaic Idealize.ShloMosaic.TcCoe
open scoped BigOperators

/-! ## The flag of the branch -/

theorem max_all (v : FVec Ideal S1x32x128 .f32) (y : EReal) :
    (multiReduction (F := Ideal) .maximumf [1, 2] S1 v 0xFF800000#32 reduces_S1x32x128_S1 (.inl rfl) rfl (ValueIdx.ix1 0) : EReal) ≤ y ↔ ∀ (r : Fin 32) (l : Fin 128), (v (ValueIdx.ix3 0 r l) : EReal) ≤ y := by
  refine (iff_of_eq (congrArg (fun z : EReal => z ≤ y) (multiReduction_maximumf_eq_fold (F := Ideal) v _ _ _ _ _))).trans ?_
  rw [negInf]
  refine (fold_max_le _ _ _).trans ⟨fun h r l => h (ValueIdx.ix3 0 r l) (Finset.mem_filter.2 ⟨Finset.mem_univ _, ?_⟩), fun h i _ => ?_⟩
  · funext a
    fin_cases a
    exact Subsingleton.elim (α := Fin 1) _ _
  · have e : i = ValueIdx.ix3 0 (i 1) (i 2) := by
      funext a
      fin_cases a
      · exact Subsingleton.elim (α := Fin 1) _ _
      · rfl
      · rfl
    rw [e]
    exact h (i 1) (i 2)

theorem flag_le (H : FVec Ideal S32x128 .f32) (M FK : FVec Ideal S32x1 .f32) (y : EReal) :
    (k0_pay9 H M FK : EReal) ≤ y ↔ ∀ (r : Fin 32) (l : Fin 128), ((((if (k0_pay8 FK (ValueIdx.ix2 r 0) : EReal) ≤ H (ValueIdx.ix2 r l) * M (ValueIdx.ix2 r 0) then 1 else 0 : ℕ) : ℝ)) : EReal) ≤ y := by
  unfold k0_pay9
  simp only [sc_2_3, bc_128]
  have e := Idealize.ShloMosaic.shapeCast_apply (multiReduction (F := Ideal) .maximumf [1, 2] S1 (fun i : S1x32x128.Idx => (FloatOps.sitofp (F := Ideal) FTy.f32 ((Ideal.cmp .oge (H (ValueIdx.ix2 (i 1) (i 2)) * M (ValueIdx.ix2 (i 1) 0)) (k0_pay8 FK (ValueIdx.ix2 (i 1) 0))).setWidth 32) : Ideal .f32)) 0xFF800000#32 reduces_S1x32x128_S1 (.inl rfl) rfl)
    shapeCasts_S1_S1x1x1 (fun a => ⟨(![0, 0, 0] : Fin 3 → ℕ) a, inpos_S1x1x1_p0_0_0 a⟩) (ValueIdx.ix1 0) rfl
  refine (iff_of_eq (congrArg (fun z : EReal => z ≤ y) e)).trans ?_
  refine (max_all _ y).trans (forall_congr' fun r => forall_congr' fun l => iff_of_eq (congrArg (fun z : EReal => z ≤ y) ?_))
  exact ind_eq _ _ (by norm_num)

theorem flag_nonneg (H : FVec Ideal S32x128 .f32) (M FK : FVec Ideal S32x1 .f32) : (0 : EReal) ≤ k0_pay9 H M FK := by
  refine le_trans ?_ ((flag_le H M FK _).1 le_rfl 0 0)
  exact EReal.coe_nonneg.2 (Nat.cast_nonneg _)

theorem bit_cond (b : BitVec 1) : Scalar.cmpi .ne (Scalar.extui b : BitVec 32) 0#32 = 1#1 ↔ b = 1#1 := by
  revert b; decide

theorem c0_iff (d7 : S16x3x32x128.Idx → EReal) : selC0 (F := Ideal) d7 = 1#1 ↔ (selFlag (F := Ideal) d7 : EReal) = 0 := by
  unfold selC0
  rw [bit_cond]
  generalize selFlag (F := Ideal) d7 = x
  show (BitVec.ofBool (decide ((x : EReal) = (FloatOps.ofBits FTy.f32 0#32 : Ideal .f32))) = 1#1) ↔ _
  have hz : (FloatOps.ofBits FTy.f32 0#32 : Ideal .f32) = (0 : EReal) := zeroBits
  rw [hz]
  by_cases h : (x : EReal) = 0
  · rw [decide_eq_true h]; exact ⟨fun _ => h, fun _ => rfl⟩
  · rw [decide_eq_false h]; exact ⟨fun h' => absurd h' (by decide), fun h' => absurd h' h⟩

theorem c1_iff (d7 : S16x3x32x128.Idx → EReal) : selC1 (F := Ideal) d7 = 1#1 ↔ (0 : EReal) < (selFlag (F := Ideal) d7 : EReal) := by
  unfold selC1
  rw [bit_cond]
  generalize selFlag (F := Ideal) d7 = x
  show (BitVec.ofBool (decide ((FloatOps.ofBits FTy.f32 0#32 : Ideal .f32) < (x : EReal))) = 1#1) ↔ _
  have hz : (FloatOps.ofBits FTy.f32 0#32 : Ideal .f32) = (0 : EReal) := zeroBits
  rw [hz]
  by_cases h : (0 : EReal) < x
  · rw [decide_eq_true h]; exact ⟨fun _ => h, fun _ => rfl⟩
  · rw [decide_eq_false h]; exact ⟨fun h' => absurd h' (by decide), fun h' => absurd h' h⟩

/-- Exactly one of the two branches is taken. -/
theorem one_branch (d7 : S16x3x32x128.Idx → EReal) : (selC0 (F := Ideal) d7 = 1#1 ∧ ¬ selC1 (F := Ideal) d7 = 1#1) ∨ (¬ selC0 (F := Ideal) d7 = 1#1 ∧ selC1 (F := Ideal) d7 = 1#1) := by
  rw [c0_iff, c1_iff]
  have h := flag_nonneg (selHid (F := Ideal) d7) (selM (F := Ideal) d7) (selFK (F := Ideal) d7)
  by_cases h0 : (selFlag (F := Ideal) d7 : EReal) = 0
  · exact .inl ⟨h0, by rw [h0]; exact lt_irrefl _⟩
  · exact .inr ⟨h0, lt_of_le_of_ne h (Ne.symm h0)⟩

/-! ## What is kept is among the values -/

/-- All six have the property. -/
def all6 (Q : EReal → Prop) (t : EReal × EReal × EReal × EReal × EReal × EReal) : Prop := Q t.1 ∧ Q t.2.1 ∧ Q t.2.2.1 ∧ Q t.2.2.2.1 ∧ Q t.2.2.2.2.1 ∧ Q t.2.2.2.2.2

theorem q_max {Q : EReal → Prop} {x y : EReal} (hx : Q x) (hy : Q y) : Q (max x y) := by
  rcases max_choice x y with e | e <;> rw [e] <;> assumption

theorem q_min {Q : EReal → Prop} {x y : EReal} (hx : Q x) (hy : Q y) : Q (min x y) := by
  rcases min_choice x y with e | e <;> rw [e] <;> assumption

theorem all6_in6 {Q : EReal → Prop} {t : EReal × EReal × EReal × EReal × EReal × EReal} {v : EReal} (ht : all6 Q t) (hv : Q v) : all6 Q (in6 t v) := by
  obtain ⟨h1, h2, h3, h4, h5, h6⟩ := ht
  have a1 := q_min h1 hv
  have a2 := q_min h2 a1
  have a3 := q_min h3 a2
  have a4 := q_min h4 a3
  have a5 := q_min h5 a4
  exact ⟨q_max h1 hv, q_max h2 a1, q_max h3 a2, q_max h4 a3, q_max h5 a4, q_max h6 a5⟩

theorem kept_all (xt : S16x8x160x12288.Idx → EReal) (g : ℕ) (r : Fin 32) (l : Fin 128) (Q : EReal → Prop) (h0 : Q 0) (hQ : ∀ i, Q (mag xt g r i)) :
    all6 Q (lane6 (selK (F := Ideal) (keptOf (F := Ideal) xt g)) r l) := by
  have hz : Q (k0_pay1 (F := Ideal) (ValueIdx.ix2 r l)) := by rw [pay1_at (ValueIdx.ix2 r l)]; exact h0
  have cell : ∀ b : Fin 16, Q (cell3 (cellsOf (F := Ideal) (keptOf (F := Ideal) xt g)) b r l).1 ∧ Q (cell3 (cellsOf (F := Ideal) (keptOf (F := Ideal) xt g)) b r l).2.1
      ∧ Q (cell3 (cellsOf (F := Ideal) (keptOf (F := Ideal) xt g)) b r l).2.2 := by
    intro b
    rw [cell3_at]
    unfold ins3
    have key : ∀ n ≤ 96, Q (lane3 (insIter (F := Ideal) (xTile (xblk (F := Ideal) xt g b)) (k0_pay1, k0_pay1, k0_pay1) n) r l).1
        ∧ Q (lane3 (insIter (F := Ideal) (xTile (xblk (F := Ideal) xt g b)) (k0_pay1, k0_pay1, k0_pay1) n) r l).2.1
        ∧ Q (lane3 (insIter (F := Ideal) (xTile (xblk (F := Ideal) xt g b)) (k0_pay1, k0_pay1, k0_pay1) n) r l).2.2 := by
      intro n
      induction n with
      | zero => intro _; exact ⟨hz, hz, hz⟩
      | succ n ih =>
        intro hn
        obtain ⟨h1, h2, h3⟩ := ih (by omega)
        have hv : Q (Ideal.scalarOps.absf (φ := .f32) (xTile (F := Ideal) (xblk (F := Ideal) xt g b) ⟨n, hn⟩ (ValueIdx.ix4 0 0 r l))) := by
          rw [xTile_at]; exact hQ (b, tokAt ⟨n, hn⟩ l)
        rw [lane3_ins _ _ n hn]
        have a1 := q_min h1 hv
        exact ⟨q_max h1 hv, q_max h2 a1, q_max h3 (q_min h2 a1)⟩
    exact key 96 le_rfl
  have key : ∀ n ≤ 16, all6 Q (lane6 (mergeIter (F := Ideal) (cellsOf (keptOf (F := Ideal) xt g)) (k0_pay1, k0_pay1, k0_pay1, k0_pay1, k0_pay1, k0_pay1) n) r l) := by
    intro n
    induction n with
    | zero => intro _; exact ⟨hz, hz, hz, hz, hz, hz⟩
    | succ n ih =>
      intro hn
      obtain ⟨h1, h2, h3⟩ := cell ⟨n, hn⟩
      rw [lane6_merge _ _ n hn]
      exact all6_in6 (all6_in6 (all6_in6 (ih (by omega)) h1) h2) h3
  exact key 16 le_rfl

/-! ## The channel on its grid -/

/-- The scaling to the grid. -/
def mE (e : ℤ) : EReal := (((2 : ℝ) ^ (20 - e) : ℝ) : EReal)

/-- The grid number of a magnitude. -/
def wv (e : ℤ) (x : EReal) : ℕ := ⌊x.toReal * (2 : ℝ) ^ (20 - e)⌋₊

/-- A magnitude within the channel's range. -/
def InR (e : ℤ) (x : EReal) : Prop := ∃ y : ℝ, x = y ∧ 0 ≤ y ∧ y < (2 : ℝ) ^ e

theorem InR.reach_iff {e : ℤ} {x : EReal} (h : InR e x) (c : ℕ) : reach (mE e) c x ↔ c ≤ wv e x := by
  obtain ⟨y, rfl, h0, h1⟩ := h
  unfold reach mE wv nv
  rw [← EReal.coe_mul, EReal.coe_le_coe_iff, EReal.toReal_coe, Nat.le_floor_iff (mul_nonneg h0 (two_zpow_pos _).le)]

theorem InR.floor {e : ℤ} {x : EReal} (h : InR e x) : Ideal.liftRound Int.floor (x * mE e) = nv (wv e x) := by
  obtain ⟨y, rfl, h0, h1⟩ := h
  unfold mE wv nv
  rw [← EReal.coe_mul, EReal.toReal_coe]
  show (((⌊y * (2 : ℝ) ^ (20 - e)⌋ : ℤ) : ℝ) : EReal) = _
  rw [← Int.natCast_floor_eq_floor (mul_nonneg h0 (two_zpow_pos _).le), Int.cast_natCast]

theorem InR.wv_lt {e : ℤ} {x : EReal} (h : InR e x) : wv e x < 2 ^ 20 := by
  obtain ⟨y, rfl, h0, h1⟩ := h
  unfold wv
  rw [EReal.toReal_coe, Nat.floor_lt (mul_nonneg h0 (two_zpow_pos _).le)]
  have := mul_lt_mul_of_pos_right h1 (two_zpow_pos (20 - e))
  rw [← zpow_add₀ (by norm_num), add_sub_cancel] at this
  refine lt_of_lt_of_eq this ?_
  norm_num

theorem InR.zero (e : ℤ) : InR e 0 := ⟨0, rfl, le_rfl, two_zpow_pos e⟩

theorem InR.nonneg {e : ℤ} {x : EReal} (h : InR e x) : 0 ≤ x := by
  obtain ⟨y, rfl, h0, h1⟩ := h
  exact EReal.coe_nonneg.2 h0

theorem reach_step {e : ℤ} {x : EReal} (h : InR e x) (c : ℕ) : ind (reach (mE e) c) x = ind (reach (mE e) (c + 1)) x + if wv e x = c then 1 else 0 := by
  unfold ind
  have h1 := h.reach_iff c
  have h2 := h.reach_iff (c + 1)
  by_cases a : wv e x = c
  · rw [if_pos a, if_pos (h1.2 a.ge), if_neg fun hh => by have := h2.1 hh; omega]
  · rw [if_neg a]
    by_cases b : c ≤ wv e x
    · rw [if_pos (h1.2 b), if_pos (h2.2 (by omega))]
    · rw [if_neg fun hh => b (h1.1 hh), if_neg fun hh => by have := h2.1 hh; omega]

section chan
variable (xt : S16x8x160x12288.Idx → EReal) (g : ℕ) (r : Fin 32) {e : ℤ} (he : IsExp (kmax xt g r) e)

/-- The grid numbers of a channel. -/
def wOf (xt : S16x8x160x12288.Idx → EReal) (g : ℕ) (r : Fin 32) (e : ℤ) (i : Fin 16 × Fin 12288) : ℕ := wv e (mag xt g r i)

/-- The grid number of the threshold. -/
def fOf (xt : S16x8x160x12288.Idx → EReal) (g : ℕ) (r : Fin 32) (e : ℤ) : ℕ := Count.srch (fun c => 20 ≤ Count.cnt (wOf xt g r e) c) 20

include he

theorem kmax_lt : kmax xt g r < (((2 : ℝ) ^ e : ℝ) : EReal) := by
  rcases he.h with ⟨h1, h2⟩ | ⟨_, h2⟩
  · rw [h1, h2]; norm_num
  · exact h2

theorem inR_of {x : EReal} (h0 : 0 ≤ x) (h : x ≤ kmax xt g r) : InR e x := by
  have hl := lt_of_le_of_lt h (kmax_lt xt g r he)
  induction x using EReal.rec with
  | bot => exact absurd h0 (by simp)
  | top => exact absurd hl (not_lt.2 _root_.le_top)
  | coe y => exact ⟨y, rfl, EReal.coe_nonneg.1 h0, EReal.coe_lt_coe_iff.1 hl⟩

theorem mag_in (i) : InR e (mag xt g r i) := inR_of xt g r he (mag_nonneg xt g r i) ((kmax_le xt g r _ (kmax_nonneg xt g r)).1 le_rfl i)

theorem kept_in (l : Fin 128) : all6 (InR e) (lane6 (selK (F := Ideal) (keptOf (F := Ideal) xt g)) r l) :=
  kept_all xt g r l _ (InR.zero e) (mag_in xt g r he)

theorem wOf_lt (i) : wOf xt g r e i < 2 ^ 20 := (mag_in xt g r he i).wv_lt

theorem allCnt_cnt (c : ℕ) : allCnt xt g r (reach (mE e) c) = Count.cnt (wOf xt g r e) c := by
  unfold allCnt Count.cnt
  rw [Finset.card_filter]
  refine Finset.sum_congr rfl fun i _ => ?_
  unfold ind
  have := (mag_in xt g r he i).reach_iff c
  by_cases h : c ≤ wOf xt g r e i
  · rw [if_pos h, if_pos (this.2 h)]
  · rw [if_neg h, if_neg fun hh => h (this.1 hh)]

theorem cnt_top : Count.cnt (wOf xt g r e) (2 ^ 20) = 0 :=
  Finset.card_eq_zero.2 (Finset.filter_eq_empty_iff.2 fun i _ h => by have := wOf_lt xt g r he i; omega)

omit he in
theorem cnt_zero : Count.cnt (wOf xt g r e) 0 = 196608 := by
  unfold Count.cnt
  rw [Finset.filter_true_of_mem fun i _ => Nat.zero_le _, Finset.card_univ, Fintype.card_prod, Fintype.card_fin, Fintype.card_fin]

theorem fOf_spec : 20 ≤ Count.cnt (wOf xt g r e) (fOf xt g r e) ∧ Count.cnt (wOf xt g r e) (fOf xt g r e + 1) < 20 := by
  have h := Count.srch_spec (fun c => 20 ≤ Count.cnt (wOf xt g r e) c) (by rw [cnt_zero]; norm_num) (by rw [cnt_top xt g r he]; norm_num) 20 le_rfl
  exact ⟨h.1, not_le.1 h.2⟩

theorem fOf_lt : fOf xt g r e < 2 ^ 20 := by
  by_contra h
  have h1 := (fOf_spec xt g r he).1
  have h2 := Count.cnt_anti (wOf xt g r e) (not_lt.1 h)
  rw [cnt_top xt g r he] at h2
  omega

theorem selFA_eq : (selFA (F := Ideal) (slabOf (F := Ideal) xt g) (keptOf (F := Ideal) xt g) (ValueIdx.ix2 r 0) : EReal) = nv (fOf xt g r e) := by
  rw [selFA_row]
  unfold fOf
  rw [selM_row xt g r he]
  have : (fun c => 20 ≤ allCnt xt g r (reach (mE e) c)) = fun c => 20 ≤ Count.cnt (wOf xt g r e) c := funext fun c => by rw [allCnt_cnt xt g r he]
  show nv (Count.srch (fun c => 20 ≤ allCnt xt g r (reach (mE e) c)) 20) = _
  refine congrArg nv ?_
  refine Count.edge_unique (fun c => 20 ≤ Count.cnt (wOf xt g r e) c) (fun a b h h' => h'.trans (Count.cnt_anti _ h)) ?_ ?_ (fOf_spec xt g r he).1 (not_le.2 (fOf_spec xt g r he).2)
  · have := (Count.srch_spec (fun c => 20 ≤ allCnt xt g r (reach (mE e) c)) (by rw [allCnt_cnt xt g r he, cnt_zero]; norm_num) (by rw [allCnt_cnt xt g r he, cnt_top xt g r he]; norm_num) 20 le_rfl).1
    rwa [allCnt_cnt xt g r he] at this
  · have := (Count.srch_spec (fun c => 20 ≤ allCnt xt g r (reach (mE e) c)) (by rw [allCnt_cnt xt g r he, cnt_zero]; norm_num) (by rw [allCnt_cnt xt g r he, cnt_top xt g r he]; norm_num) 20 le_rfl).2
    rwa [allCnt_cnt xt g r he] at this

/-- Where no hidden value may reach the bin, the kept values count as all do. -/
theorem keptCnt {c : ℕ} (hc : 0 < c) (h : ∀ l : Fin 128, ¬ reach (mE e) c (selHid (F := Ideal) (keptOf (F := Ideal) xt g) (ValueIdx.ix2 r l))) :
    ∑ l : Fin 128, c6 (reach (mE e) c) (lane6 (selK (F := Ideal) (keptOf (F := Ideal) xt g)) r l) = Count.cnt (wOf xt g r e) c := by
  have hm : (0 : EReal) ≤ mE e := EReal.coe_nonneg.2 (two_zpow_pos _).le
  rw [← allCnt_cnt xt g r he, ← sum_lanes]
  exact Finset.sum_congr rfl fun l _ => c6_all xt g r l (reach_up hm c) (reach_zero hc) (h l)

/-- The kept values never count more than all do. -/
theorem keptCnt_le {c : ℕ} (hc : 0 < c) : ∑ l : Fin 128, c6 (reach (mE e) c) (lane6 (selK (F := Ideal) (keptOf (F := Ideal) xt g)) r l) ≤ Count.cnt (wOf xt g r e) c := by
  have hm : (0 : EReal) ≤ mE e := EReal.coe_nonneg.2 (two_zpow_pos _).le
  rw [← allCnt_cnt xt g r he, ← sum_lanes]
  exact Finset.sum_le_sum fun l _ => c6_le xt g r l (reach_up hm c) (reach_zero hc)

theorem keptCnt_zero : ∑ l : Fin 128, c6 (reach (mE e) 0) (lane6 (selK (F := Ideal) (keptOf (F := Ideal) xt g)) r l) = 768 := by
  have : ∀ l : Fin 128, c6 (reach (mE e) 0) (lane6 (selK (F := Ideal) (keptOf (F := Ideal) xt g)) r l) = 6 := fun l => by
    obtain ⟨h1, h2, h3, h4, h5, h6⟩ := kept_in xt g r he l
    have o : ∀ {x : EReal}, InR e x → ind (reach (mE e) 0) x = 1 := fun {x} h => if_pos ((h.reach_iff 0).2 (Nat.zero_le _))
    unfold c6
    rw [o h1, o h2, o h3, o h4, o h5, o h6]
  rw [Finset.sum_congr rfl fun l _ => this l]
  rfl

section kept
variable (h0 : selC0 (F := Ideal) (keptOf (F := Ideal) xt g) = 1#1)
include h0

/-- The grid value found among the kept values, with the bin it lies in out of reach of the hidden ones. -/
theorem kept_found : ∃ f : ℕ, (selFK (F := Ideal) (keptOf (F := Ideal) xt g) (ValueIdx.ix2 r 0) : EReal) = nv f
    ∧ 20 ≤ ∑ l : Fin 128, c6 (reach (mE e) f) (lane6 (selK (F := Ideal) (keptOf (F := Ideal) xt g)) r l)
    ∧ ¬ 20 ≤ ∑ l : Fin 128, c6 (reach (mE e) (f + 1)) (lane6 (selK (F := Ideal) (keptOf (F := Ideal) xt g)) r l)
    ∧ ∀ l : Fin 128, ¬ reach (mE e) (256 * (f / 256)) (selHid (F := Ideal) (keptOf (F := Ideal) xt g) (ValueIdx.ix2 r l)) := by
  have hF := selFK_row (keptOf (F := Ideal) xt g) r
  have hM : (selM (F := Ideal) (keptOf (F := Ideal) xt g) (ValueIdx.ix2 r 0) : EReal) = mE e := selM_row xt g r he
  rw [hM] at hF
  have sp := Count.srch_spec (fun c => 20 ≤ ∑ l : Fin 128, c6 (reach (mE e) c) (lane6 (selK (F := Ideal) (keptOf (F := Ideal) xt g)) r l))
    (by rw [keptCnt_zero xt g r he]; norm_num) (fun h => by have := h.trans ((keptCnt_le xt g r he (by norm_num)).trans_eq (cnt_top xt g r he)); omega) 20 le_rfl
  refine ⟨_, hF, sp.1, sp.2, fun l hl => ?_⟩
  have hfl := (c0_iff _).1 h0
  have := (flag_le _ _ _ _).1 (le_of_eq hfl) r l
  have hM' := hM
  rw [pay8_row _ r hF, hM', if_pos (show nv _ ≤ _ * mE e from hl)] at this
  norm_num at this
  exact absurd this (not_le.2 (by norm_num))

theorem selFK_eq : (selFK (F := Ideal) (keptOf (F := Ideal) xt g) (ValueIdx.ix2 r 0) : EReal) = nv (fOf xt g r e)
    ∧ ∀ c, 256 * (fOf xt g r e / 256) ≤ c → ∑ l : Fin 128, c6 (reach (mE e) c) (lane6 (selK (F := Ideal) (keptOf (F := Ideal) xt g)) r l) = Count.cnt (wOf xt g r e) c := by
  obtain ⟨f, hF, h1, h2, h3⟩ := kept_found xt g r he h0
  have hlo : 0 < 256 * (f / 256) := by
    rcases Nat.eq_zero_or_pos (256 * (f / 256)) with hz | hz
    · refine absurd ?_ (h3 0)
      rw [hz]
      obtain ⟨_, _, _, _, _, h6⟩ := kept_in xt g r he 0
      have hn : (0 : EReal) ≤ selHid (F := Ideal) (keptOf (F := Ideal) xt g) (ValueIdx.ix2 r 0) := h6.nonneg.trans (hid_le xt g r 0).1
      unfold reach
      refine le_of_eq_of_le (by simp [nv]) (mul_nonneg hn (EReal.coe_nonneg.2 (two_zpow_pos _).le))
    · exact hz
  have hc : ∀ c, 256 * (f / 256) ≤ c → ∑ l : Fin 128, c6 (reach (mE e) c) (lane6 (selK (F := Ideal) (keptOf (F := Ideal) xt g)) r l) = Count.cnt (wOf xt g r e) c := fun c hc =>
    keptCnt xt g r he (by omega) fun l hl => h3 l (reach_anti hc hl)
  have hff : f = fOf xt g r e := by
    rw [hc f (by omega)] at h1
    rw [hc (f + 1) (by omega)] at h2
    exact Count.edge_unique (fun c => 20 ≤ Count.cnt (wOf xt g r e) c) (fun a b h h' => h'.trans (Count.cnt_anti _ h)) h1 h2 (fOf_spec xt g r he).1 (not_le.2 (fOf_spec xt g r he).2)
  rw [← hff]
  exact ⟨hF, hc⟩

end kept

theorem statsG_row (l : Fin 128) : (statsG (F := Ideal) xt g (ValueIdx.ix2 r l) : EReal) = statV (fOf xt g r e) e l.val := by
  unfold statsG selStats
  by_cases h0 : selC0 (F := Ideal) (keptOf (F := Ideal) xt g) = 1#1
  · rw [if_pos h0]; exact statsK_row _ _ r l (selE_row xt g r he) (selFK_eq xt g r he h0).1 he.lo he.hi
  · rw [if_neg h0]; exact statsA_row _ _ r l (selE_row xt g r he) (selFA_eq xt g r he) he.lo he.hi

theorem scaleG_row (l : Fin 128) : (scaleG (F := Ideal) xt g (ValueIdx.ix2 r l) : EReal) = Ideal.div (thrV (fOf xt g r e) e) (Ideal.ofBits .f32 0x42FE0000#32) := by
  unfold scaleG selScale
  by_cases h0 : selC0 (F := Ideal) (keptOf (F := Ideal) xt g) = 1#1
  · rw [if_pos h0]; exact pay51_row _ _ r l (selE_row xt g r he) (selFK_eq xt g r he h0).1 he.lo he.hi
  · rw [if_neg h0]; exact pay77_row _ _ r l (selE_row xt g r he) (selFA_eq xt g r he) he.lo he.hi

end chan

end Cert.KernelIdeal.Hand
-- ==== Proof.SubBins.lean ====
module

public import proofs.«01_k».proof.Proof.Close

@[expose] public section

noncomputable section

namespace Cert.KernelIdeal.Hand

open Cert.KernelIdeal Cert.KernelIdeal.Gen
open Idealize.ShloMosaic Idealize.ShloMosaic.TcCoe
open scoped BigOperators

theorem nv_sub {a b : ℕ} (h : b ≤ a) : nv a - nv b = nv (a - b) := by
  rw [← zv_nat, ← zv_nat, zv_sub, ← zv_nat]
  congr 2
  omega

section chan
variable (xt : S16x8x160x12288.Idx → EReal) (g : ℕ) (r : Fin 32) {e : ℤ} (he : IsExp (kmax xt g r) e)

/-- The lowest grid number of the bin of the threshold. -/
def loOf (xt : S16x8x160x12288.Idx → EReal) (g : ℕ) (r : Fin 32) (e : ℤ) : ℕ := 256 * (fOf xt g r e / 256)

/-- How many values of the channel lie at a grid number. -/
def binCnt (xt : S16x8x160x12288.Idx → EReal) (g : ℕ) (r : Fin 32) (e : ℤ) (l : ℕ) : ℕ :=
  Count.cnt (wOf xt g r e) (loOf xt g r e + l) - Count.cnt (wOf xt g r e) (loOf xt g r e + l + 1)

theorem cnt_le (c : ℕ) : Count.cnt (wOf xt g r e) c ≤ 196608 := (Count.cnt_anti _ (Nat.zero_le c)).trans_eq (cnt_zero xt g r)

include he

/-! ## Over the whole slab -/

omit he in
theorem pay14_row (T : FVec Ideal S32x128 .f32) (n : ℕ) (hT : ∑ l : Fin 128, (T (ValueIdx.ix2 r l) : EReal) = nv n) : (k0_pay14 T (ValueIdx.ix2 r 0) : EReal) = nv n := by
  unfold k0_pay14
  simp only [sc_1_2]
  exact (sum_row _ _ _ _ _ r).trans hT

omit he in
theorem pay15_row (V C P : FVec Ideal S32x1 .f32) (A : FVec Ideal S32x256 .f32) (T : FVec Ideal S32x128 .f32) (l : Fin 256) (n lo d a b : ℕ) (hd : d ≤ 255) (hV : (V (ValueIdx.ix2 r 0) : EReal) = nv lo)
    (hC : (k0_pay12 C (ValueIdx.ix2 r 0) : EReal) = nv (lo + d)) (hP : (P (ValueIdx.ix2 r 0) : EReal) = nv b) (hb : b ≤ a) (hT : (k0_pay14 T (ValueIdx.ix2 r 0) : EReal) = nv a) (hA : (A (ValueIdx.ix2 r l) : EReal) = nv n) :
    (k0_pay15 V A P C T (ValueIdx.ix2 r l) : EReal) = nv (n + if (l.val : ℤ) = (d : ℤ) then a - b else 0) := by
  unfold k0_pay15
  simp only [bc_256, sc_id21]
  refine put_in _ _ _ _ _ n _ l d (by omega) (by omega) hA ?_ zeroBits (iota_single_apply ..) ?_
  · show (k0_pay14 T (ValueIdx.ix2 r 0) - P (ValueIdx.ix2 r 0) : EReal) = _
    rw [hT, hP, nv_sub hb]
  · show Ideal.fptosi 32 (k0_pay12 C (ValueIdx.ix2 r 0) - V (ValueIdx.ix2 r 0)) = _
    rw [hC, hV, nv_sub (by omega), Nat.add_sub_cancel_left, ← zv_nat, fptosi_zv _ (by omega) (by omega)]

theorem subA_row (l : Fin 256) : subA (F := Ideal) (slabOf (F := Ideal) xt g) (keptOf (F := Ideal) xt g) (ValueIdx.ix2 r l) = BitVec.ofNat 32 (binCnt xt g r e l.val) := by
  have hF := selFA_eq xt g r he
  have hM : (selM (F := Ideal) (keptOf (F := Ideal) xt g) (ValueIdx.ix2 r 0) : EReal) = mE e := selM_row xt g r he
  unfold subA
  generalize selFA (F := Ideal) (slabOf (F := Ideal) xt g) (keptOf (F := Ideal) xt g) = FA at hF
  generalize selM (F := Ideal) (keptOf (F := Ideal) xt g) = M at hM
  have h82 : (k0_pay82 FA (ValueIdx.ix2 r 0) : EReal) = nv (loOf xt g r e) := pay82_row FA r hF
  have h83 : (k0_pay83 FA (ValueIdx.ix2 r 0) : EReal) = nv (loOf xt g r e + 256) := pay83_row FA r hF
  have h11 : (k0_pay11 (tileIter (tilesOf (slabOf (F := Ideal) xt g)) (k0_pay85 M FA) k0_pay1 1536) (ValueIdx.ix2 r 0) : EReal) = nv (Count.cnt (wOf xt g r e) (loOf xt g r e + 256)) := by
    unfold k0_pay11
    simp only [sc_1_2]
    refine (sum_row _ _ _ _ _ r).trans ?_
    rw [← allCnt_cnt xt g r he, ← hM]
    exact pass_row xt g _ r _ fun l a t => pay85_at M FA r l _ h83 a t
  generalize hI : ((k0_pay84 : FVec Ideal S32x256 .f32), k0_pay11 (tileIter (tilesOf (slabOf (F := Ideal) xt g)) (k0_pay85 M FA) k0_pay1 1536), k0_pay83 FA) = I
  have key : ∀ n ≤ 256, (∀ l : Fin 256, ((subIter (F := Ideal) (tilesOf (slabOf (F := Ideal) xt g)) M (k0_pay82 FA) I n).1 (ValueIdx.ix2 r l) : EReal) = nv (if 256 - n ≤ l.val then binCnt xt g r e l.val else 0))
      ∧ ((subIter (F := Ideal) (tilesOf (slabOf (F := Ideal) xt g)) M (k0_pay82 FA) I n).2.1 (ValueIdx.ix2 r 0) : EReal) = nv (Count.cnt (wOf xt g r e) (loOf xt g r e + (256 - n)))
      ∧ ((subIter (F := Ideal) (tilesOf (slabOf (F := Ideal) xt g)) M (k0_pay82 FA) I n).2.2 (ValueIdx.ix2 r 0) : EReal) = nv (loOf xt g r e + (256 - n)) := by
    intro n
    induction n with
    | zero =>
      intro _
      subst hI
      refine ⟨fun l => ?_, h11, h83⟩
      rw [if_neg (by have := l.isLt; omega)]
      refine Eq.trans zeroBits ?_
      simp [nv]
    | succ n ih =>
      intro hn
      obtain ⟨i1, i2, i3⟩ := ih (by omega)
      rw [subIter]
      generalize subIter (F := Ideal) (tilesOf (slabOf (F := Ideal) xt g)) M (k0_pay82 FA) I n = S at i1 i2 i3
      rw [if_pos (show n < 256 by omega)]
      have h12 : (k0_pay12 S.2.2 (ValueIdx.ix2 r 0) : EReal) = nv (loOf xt g r e + (255 - n)) := by
        unfold k0_pay12
        show (S.2.2 (ValueIdx.ix2 r 0) - (FloatOps.ofBits FTy.f32 0x3F800000#32 : Ideal .f32) : EReal) = _
        rw [i3, oneBits, nv_sub (by omega)]
        exact congrArg nv (by omega)
      have hT : ∑ l : Fin 128, (tileIter (F := Ideal) (tilesOf (slabOf (F := Ideal) xt g)) (k0_pay13 M S.2.2) k0_pay1 1536 (ValueIdx.ix2 r l) : EReal) = nv (Count.cnt (wOf xt g r e) (loOf xt g r e + (255 - n))) := by
        rw [← allCnt_cnt xt g r he, ← hM]
        exact pass_row xt g _ r _ fun l a t => pay13_at M S.2.2 r l _ h12 a t
      have h14 := pay14_row r _ _ hT
      refine ⟨fun l => ?_, ?_, ?_⟩
      · refine (pay15_row r _ _ _ _ _ l _ (loOf xt g r e) (255 - n) _ _ (by omega) h82 h12 i2 (Count.cnt_anti _ (by omega)) h14 (i1 l)).trans ?_
        refine congrArg nv ?_
        have := l.isLt
        by_cases h : l.val = 255 - n
        · rw [if_neg (by omega), if_pos (by omega), if_pos (by omega), zero_add]
          unfold binCnt
          rw [h]
          exact congrArg (fun k => Count.cnt (wOf xt g r e) (loOf xt g r e + (255 - n)) - Count.cnt (wOf xt g r e) k) (by omega)
        · rw [if_neg (show ¬ (l.val : ℤ) = ((255 - n : ℕ) : ℤ) by omega), add_zero]
          by_cases h2 : 256 - n ≤ l.val
          · rw [if_pos h2, if_pos (by omega)]
          · rw [if_neg h2, if_neg (by omega)]
      · exact h14.trans (congrArg (fun k => nv (Count.cnt (wOf xt g r e) (loOf xt g r e + k))) (by omega))
      · exact h12.trans (congrArg nv (by omega))
  have h := (key 256 le_rfl).1 l
  rw [if_pos (by omega)] at h
  show Ideal.fptosi 32 ((subIter (F := Ideal) (tilesOf (slabOf (F := Ideal) xt g)) M (k0_pay82 FA) I 256).1 (ValueIdx.ix2 r l)) = _
  rw [h, fptosi_nv _ ?_]
  have := cnt_le xt g r (e := e) (loOf xt g r e + l.val)
  unfold binCnt
  omega

/-! ## Among the kept values -/

omit he in
/-- A kept value's place in the bin, or minus one. -/
theorem init_at {e : ℤ} {x m L c0 c1 cm : EReal} (hx : InR e x) (lo : ℕ) (hm : m = mE e) (hL : L = nv lo) (h0 : c0 = 0) (h1 : c1 = nv 256) (hc : cm = zv (-1)) :
    (if IntOp.andi (Ideal.cmp .oge (Ideal.liftRound Int.floor (x * m) - L) c0) (Ideal.cmp .olt (Ideal.liftRound Int.floor (x * m) - L) c1) = 1#1 then Ideal.liftRound Int.floor (x * m) - L else cm)
      = zv (if lo ≤ wv e x ∧ wv e x < lo + 256 then (wv e x : ℤ) - lo else -1) := by
  subst hm hL h0 h1 hc
  rw [hx.floor, ← zv_nat, ← zv_nat, zv_sub]
  have e0 : (0 : EReal) = zv 0 := by simp [zv]
  have e1 : nv 256 = zv 256 := (zv_nat 256).symm
  rw [e0, e1]
  show (if (BitVec.ofBool (decide (zv 0 ≤ zv ((wv e x : ℤ) - lo))) &&& BitVec.ofBool (decide (zv ((wv e x : ℤ) - lo) < zv 256))) = 1#1 then _ else _) = _
  have d0 : (zv 0 ≤ zv ((wv e x : ℤ) - lo)) ↔ lo ≤ wv e x := by rw [zv_le]; omega
  have d1 : (zv ((wv e x : ℤ) - lo) < zv 256) ↔ wv e x < lo + 256 := by rw [← not_le, zv_le]; omega
  by_cases a : lo ≤ wv e x <;> by_cases b : wv e x < lo + 256
  · rw [decide_eq_true (d0.2 a), decide_eq_true (d1.2 b)]; exact (if_pos (by decide)).trans (congrArg zv (if_pos ⟨a, b⟩).symm)
  · rw [decide_eq_true (d0.2 a), decide_eq_false (fun h => b (d1.1 h))]; exact (if_neg (by decide)).trans (congrArg zv (if_neg fun h => b h.2).symm)
  · rw [decide_eq_false (fun h => a (d0.1 h)), decide_eq_true (d1.2 b)]; exact (if_neg (by decide)).trans (congrArg zv (if_neg fun h => a h.1).symm)
  · rw [decide_eq_false (fun h => a (d0.1 h)), decide_eq_false (fun h => b (d1.1 h))]; exact (if_neg (by decide)).trans (congrArg zv (if_neg fun h => a h.1).symm)

omit he in
/-- One of the six kept values of a lane. -/
def keptAt (xt : S16x8x160x12288.Idx → EReal) (g : ℕ) (r : Fin 32) (i : Fin 6 × Fin 128) : EReal :=
  (![(selK (F := Ideal) (keptOf (F := Ideal) xt g)).1, (selK (F := Ideal) (keptOf (F := Ideal) xt g)).2.1, (selK (F := Ideal) (keptOf (F := Ideal) xt g)).2.2.1, (selK (F := Ideal) (keptOf (F := Ideal) xt g)).2.2.2.1,
    (selK (F := Ideal) (keptOf (F := Ideal) xt g)).2.2.2.2.1, (selK (F := Ideal) (keptOf (F := Ideal) xt g)).2.2.2.2.2] i.1 : FVec Ideal S32x128 .f32) (ValueIdx.ix2 r i.2)

theorem keptAt_in (i : Fin 6 × Fin 128) : InR e (keptAt xt g r i) := by
  obtain ⟨j, l⟩ := i
  obtain ⟨h1, h2, h3, h4, h5, h6⟩ := kept_in xt g r he l
  fin_cases j
  exacts [h1, h2, h3, h4, h5, h6]

omit he in
theorem place_iff (n lo k : ℕ) (hk : k < 256) : (if lo ≤ n ∧ n < lo + 256 then (n : ℤ) - lo else -1) = (k : ℤ) ↔ n = lo + k := by
  by_cases hc : lo ≤ n ∧ n < lo + 256
  · rw [if_pos hc]; omega
  · rw [if_neg hc]
    refine ⟨fun h => absurd (Int.natCast_nonneg k) (by rw [← h]; decide), fun h => absurd ⟨by omega, by omega⟩ hc⟩

omit he in
theorem c6_keptAt (p : EReal → Prop) (l : Fin 128) : c6 p (lane6 (selK (F := Ideal) (keptOf (F := Ideal) xt g)) r l) = ∑ j : Fin 6, ind p (keptAt xt g r (j, l)) := by
  rw [Fin.sum_univ_six]
  rfl

theorem dropInit_at (lo : ℕ) (hL : (k0_pay8 (selFK (F := Ideal) (keptOf (F := Ideal) xt g)) (ValueIdx.ix2 r 0) : EReal) = nv lo) (i : Fin 6 × Fin 128) :
    six (dropInit (F := Ideal) (keptOf (F := Ideal) xt g)) r i = zv (if lo ≤ wv e (keptAt xt g r i) ∧ wv e (keptAt xt g r i) < lo + 256 then (wv e (keptAt xt g r i) : ℤ) - lo else -1) := by
  have hM : (selM (F := Ideal) (keptOf (F := Ideal) xt g) (ValueIdx.ix2 r 0) : EReal) = mE e := selM_row xt g r he
  have hi := keptAt_in xt g r he i
  refine Eq.trans ?_ (init_at hi lo hM hL zeroBits b256Bits oneNeg)
  obtain ⟨j, l⟩ := i
  unfold dropInit
  fin_cases j
  · show (k0_pay56 (F := Ideal) (k0_pay120 _) _ (ValueIdx.ix2 r l) : EReal) = _
    unfold k0_pay56 k0_pay120; simp only [bc_128]; rfl
  · show (k0_pay60 (F := Ideal) (k0_pay57 (k0_pay121 _ _) _) (k0_pay58 (k0_pay121 _ _) _) k0_pay59 (ValueIdx.ix2 r l) : EReal) = _
    unfold k0_pay60 k0_pay58 k0_pay57 k0_pay59 k0_pay121; simp only [bc_128]; rfl
  · show (k0_pay61 (F := Ideal) (k0_pay122 _ _) _ (ValueIdx.ix2 r l) : EReal) = _
    unfold k0_pay61 k0_pay122; simp only [bc_128]; rfl
  · show (k0_pay62 (F := Ideal) (k0_pay2 _ _) _ (ValueIdx.ix2 r l) : EReal) = _
    unfold k0_pay62 k0_pay2; simp only [bc_128]; rfl
  · show (k0_pay63 (F := Ideal) (k0_pay3 _ _) _ (ValueIdx.ix2 r l) : EReal) = _
    unfold k0_pay63 k0_pay3; simp only [bc_128]; rfl
  · show (k0_pay64 (F := Ideal) (k0_pay4 _ _) _ (ValueIdx.ix2 r l) : EReal) = _
    unfold k0_pay64 k0_pay4; simp only [bc_128]; rfl

theorem subK_row (h0 : selC0 (F := Ideal) (keptOf (F := Ideal) xt g) = 1#1) (l : Fin 256) : subK (F := Ideal) (keptOf (F := Ideal) xt g) (ValueIdx.ix2 r l) = BitVec.ofNat 32 (binCnt xt g r e l.val) := by
  obtain ⟨hF, hc⟩ := selFK_eq xt g r he h0
  have hL : (k0_pay8 (selFK (F := Ideal) (keptOf (F := Ideal) xt g)) (ValueIdx.ix2 r 0) : EReal) = nv (loOf xt g r e) := pay8_row _ r hF
  have hd := drop_row _ r _ (dropInit_at xt g r he _ hL) (fun i => by split_ifs <;> omega) (fun l => zeroBits) l
  show Ideal.fptosi 32 ((dropIter lanes256 (dropInit (F := Ideal) (keptOf (F := Ideal) xt g)) 256).2.2.2.2.2.2 (ValueIdx.ix2 r l)) = _
  have hl := l.isLt
  have e1 := hc (loOf xt g r e + l.val) (Nat.le_add_right _ _)
  have e2 := hc (loOf xt g r e + l.val + 1) (by unfold loOf; omega)
  have e3 : ∑ l' : Fin 128, c6 (reach (mE e) (loOf xt g r e + l.val)) (lane6 (selK (F := Ideal) (keptOf (F := Ideal) xt g)) r l')
      = ∑ l' : Fin 128, c6 (reach (mE e) (loOf xt g r e + l.val + 1)) (lane6 (selK (F := Ideal) (keptOf (F := Ideal) xt g)) r l')
        + ∑ l' : Fin 128, ∑ j : Fin 6, if wv e (keptAt xt g r (j, l')) = loOf xt g r e + l.val then 1 else 0 := by
    rw [← Finset.sum_add_distrib]
    refine Finset.sum_congr rfl fun l' _ => ?_
    rw [c6_keptAt, c6_keptAt, ← Finset.sum_add_distrib]
    exact Finset.sum_congr rfl fun j _ => reach_step (keptAt_in xt g r he (j, l')) _
  have e4 : (Finset.univ.filter fun i : Fin 6 × Fin 128 => (if loOf xt g r e ≤ wv e (keptAt xt g r i) ∧ wv e (keptAt xt g r i) < loOf xt g r e + 256 then (wv e (keptAt xt g r i) : ℤ) - loOf xt g r e else -1) = (l.val : ℤ)).card
      = ∑ l' : Fin 128, ∑ j : Fin 6, if wv e (keptAt xt g r (j, l')) = loOf xt g r e + l.val then 1 else 0 := by
    rw [Finset.card_filter, Fintype.sum_prod_type, Finset.sum_comm]
    refine Finset.sum_congr rfl fun l' _ => Finset.sum_congr rfl fun j _ => ?_
    refine if_congr ?_ rfl rfl
    exact place_iff _ _ _ hl
  have e5 : (Finset.univ.filter fun i : Fin 6 × Fin 128 => (if loOf xt g r e ≤ wv e (keptAt xt g r i) ∧ wv e (keptAt xt g r i) < loOf xt g r e + 256 then (wv e (keptAt xt g r i) : ℤ) - loOf xt g r e else -1) = (l.val : ℤ)).card
      = binCnt xt g r e l.val := by
    rw [e4]
    unfold binCnt
    rw [← e1, ← e2, e3, Nat.add_sub_cancel_left]
  rw [hd, e5, fptosi_nv _ ?_]
  have := cnt_le xt g r (e := e) (loOf xt g r e + l.val)
  unfold binCnt
  omega

/-- The sub-bin counts of a channel. -/
theorem subG_row (l : Fin 256) : subG (F := Ideal) xt g (ValueIdx.ix2 r l) = BitVec.ofNat 32 (binCnt xt g r e l.val) := by
  unfold subG selSub
  by_cases h0 : selC0 (F := Ideal) (keptOf (F := Ideal) xt g) = 1#1
  · rw [if_pos h0]; exact subK_row xt g r he h0 l
  · rw [if_neg h0]; exact subA_row xt g r he l

end chan

end Cert.KernelIdeal.Hand
-- ==== Proof.Codes.lean ====
module

public import proofs.«01_k».proof.Proof.SubBins

@[expose] public section

noncomputable section

namespace Cert.KernelIdeal.Hand

open Cert.KernelIdeal Cert.KernelIdeal.Gen
open Idealize.ShloMosaic Idealize.ShloMosaic.TcCoe
open scoped BigOperators

/-- A quotient rounded to an integer and clipped to -127 .. 127. -/
def clipV (x s : EReal) : EReal :=
  min (((127#32 : BitVec 32).toInt : ℝ) : EReal) (max (((4294967169#32 : BitVec 32).toInt : ℝ) : EReal) (Ideal.liftRound Ideal.roundHalfEven (Ideal.div x s)))

theorem clip_real (y : ℝ) (h1 : -127 ≤ y) (h2 : y ≤ 127) (n : ℤ) (h : y = n) : ∃ n : ℤ, -127 ≤ n ∧ n ≤ 127 ∧ (y : EReal) = zv n := by
  subst h
  exact ⟨n, by exact_mod_cast h1, by exact_mod_cast h2, rfl⟩

theorem round_cases (x : EReal) : Ideal.liftRound Ideal.roundHalfEven x = ⊤ ∨ Ideal.liftRound Ideal.roundHalfEven x = ⊥ ∨ ∃ n : ℤ, Ideal.liftRound Ideal.roundHalfEven x = zv n := by
  induction x using EReal.rec with
  | bot => exact .inr (.inl rfl)
  | top => exact .inl rfl
  | coe a => exact .inr (.inr ⟨_, rfl⟩)

/-- The clipped quotient is an integer of at most seven bits and a sign. -/
theorem clip_int (x s : EReal) : ∃ n : ℤ, -127 ≤ n ∧ n ≤ 127 ∧ clipV x s = zv n := by
  have a1 : (((127#32 : BitVec 32).toInt : ℝ) : EReal) = zv 127 := rfl
  have a2 : (((4294967169#32 : BitVec 32).toInt : ℝ) : EReal) = zv (-127) := rfl
  unfold clipV
  rw [a1, a2]
  rcases round_cases (Ideal.div x s) with h | h | ⟨n, h⟩
  · exact ⟨127, by norm_num, by norm_num, by rw [h, max_eq_right _root_.le_top, min_eq_left _root_.le_top]⟩
  · exact ⟨-127, by norm_num, by norm_num, by rw [h, max_eq_left bot_le, min_eq_right ((zv_le _ _).2 (by norm_num))]⟩
  · rw [h]
    by_cases c1 : n ≤ -127
    · exact ⟨-127, by norm_num, by norm_num, by rw [max_eq_left ((zv_le _ _).2 c1), min_eq_right ((zv_le _ _).2 (by norm_num))]⟩
    · rw [max_eq_right ((zv_le _ _).2 (by omega))]
      by_cases c2 : n ≤ 127
      · exact ⟨n, by omega, c2, by rw [min_eq_right ((zv_le _ _).2 c2)]⟩
      · exact ⟨127, by norm_num, by norm_num, by rw [min_eq_left ((zv_le _ _).2 (by omega))]⟩

theorem fptosi8_zv (z : ℤ) (h1 : -128 ≤ z) (h2 : z ≤ 127) : Ideal.fptosi 8 (zv z) = BitVec.ofInt 8 z := by
  show BitVec.ofInt 8 (Ideal.toIntClamped _ _ ((z : ℝ) : EReal)) = _
  rw [Ideal.toIntClamped_coe]
  congr 1
  simp
  omega

/-- Cutting the 32-bit code to 8 bits is the same as converting to 8 bits. -/
theorem clip_cut (x s : EReal) : (Ideal.fptosi 32 (clipV x s)).setWidth 8 = Ideal.fptosi 8 (clipV x s) := by
  obtain ⟨n, h1, h2, h⟩ := clip_int x s
  rw [h, fptosi_zv _ (by omega) (by omega), fptosi8_zv _ (by omega) h2]
  have key : ∀ k : Fin 255, (BitVec.ofInt 32 ((k.val : ℤ) - 127)).setWidth 8 = BitVec.ofInt 8 ((k.val : ℤ) - 127) := by decide
  have := key ⟨(n + 127).toNat, by omega⟩
  have e : (((n + 127).toNat : ℕ) : ℤ) - 127 = n := by omega
  rw [show ((⟨(n + 127).toNat, by omega⟩ : Fin 255).val : ℤ) - 127 = n from e] at this
  exact this

theorem pay27_at (V : Vec Ideal S32x128 .f32) (T : Vec Ideal S1x32x128 .f32) (r : Fin 32) (l : Fin 128) :
    k0_pay27 (F := Ideal) V T (ValueIdx.ix4 0 0 r l) = Ideal.fptosi 8 (clipV (T (ValueIdx.ix3 0 r l)) (V (ValueIdx.ix2 r l))) := by
  unfold k0_pay27
  simp only [sc_3_2, sc_2_4]
  rfl

section chan
variable (xt : S16x8x160x12288.Idx → EReal) (g : ℕ) (r : Fin 32) {e : ℤ} (he : IsExp (kmax xt g r) e)

theorem rowTile_at (b : Fin 16) (t : Fin 96) (l : Fin 128) : rowTile (F := Ideal) (slabOf (F := Ideal) xt g) b t (ValueIdx.ix3 0 r l) = xblk (F := Ideal) xt g b (ValueIdx.ix4 0 0 r (tokAt t l)) := by
  unfold rowTile VecWindow.window slabOf
  show xblk (F := Ideal) xt g _ _ = _
  congr 1
  refine congrArg₂ (ValueIdx.ix4 0 0) (Fin.ext ?_) (Fin.ext ?_) <;> simp [Rect.emb, Rect.unit, tokAt, ValueIdx.ix3]

include he in
/-- The code of an entry. -/
theorem codesG_row (b : Fin 16) (s : Fin 12288) : codesG (F := Ideal) xt g b (ValueIdx.ix4 0 0 r s)
    = Ideal.fptosi 8 (clipV (xblk (F := Ideal) xt g b (ValueIdx.ix4 0 0 r s)) (Ideal.div (thrV (fOf xt g r e) e) (Ideal.ofBits .f32 0x42FE0000#32))) := by
  have hs : tokAt ⟨s.val / 128, by omega⟩ ⟨s.val % 128, Nat.mod_lt _ (by norm_num)⟩ = s := Fin.ext (by show s.val / 128 * 128 + s.val % 128 = s.val; omega)
  unfold codesG
  refine (pay27_at _ _ r ⟨s.val % 128, Nat.mod_lt _ (by norm_num)⟩).trans ?_
  have h1 := rowTile_at xt g r b ⟨s.val / 128, by omega⟩ ⟨s.val % 128, Nat.mod_lt _ (by norm_num)⟩
  rw [hs] at h1
  have h2 := scaleG_row xt g r he ⟨s.val % 128, Nat.mod_lt _ (by norm_num)⟩
  exact congrArg (Ideal.fptosi 8) (congrArg₂ clipV h1 h2)

end chan

end Cert.KernelIdeal.Hand
-- ==== Proof.RefWords.lean ====
module

public import proofs.«01_k».proof.Proof.Codes
public import proofs.«01_k».proof.Proof.Gen.ReferenceIdeal.Read
public import Idealize.ShloMosaic.Lib.IndicatorCount
public import Idealize.ShloMosaic.Lib.WordCmp

@[expose] public section

noncomputable section

namespace Cert.Equation

open Cert.KernelIdeal.Hand
open Cert.ReferenceIdeal Cert.ReferenceIdeal.Gen Cert.ReferenceIdeal.Read
open Idealize.ShloMosaic Idealize.ShloMosaic.TcCoe
open scoped BigOperators
open Finset

/-! ## Reductions over a family of indices -/

section red
variable {s t u : Shape} {axes : List (Fin s.rank)} {ι : Type} [Fintype ι]

/-- A reduction at an index is the fold over any family naming the operand's indices that reduce to it. -/
theorem reduce_fold {α : Type} (op : α → α → α) [Std.Commutative op] [Std.Associative op] (x : s.Idx → α) (init : u.Idx → α) (hr : s.ReducesTo axes t) (hu : 0 < u.numel) (j : t.Idx)
    (f : ι → s.Idx) (hf : Function.Injective f) (h1 : ∀ q, hr.drop (f q) = j) (h2 : ∀ i, hr.drop i = j → ∃ q, f q = i) :
    Host.reduce op x init hr hu j = (univ : Finset ι).fold op (init (Shape.Idx.first hu)) fun q => x (f q) := by
  classical
  rw [Host.reduce_eq_fold]
  have e : (univ.filter fun i => hr.drop i = j) = (univ : Finset ι).map ⟨f, hf⟩ := by
    ext i
    simp only [mem_filter, mem_univ, true_and, mem_map, Function.Embedding.coeFn_mk]
    exact ⟨h2 i, fun ⟨q, hq⟩ => hq ▸ h1 q⟩
  rw [e, fold_map]
  rfl

/-- A sum of one-bit words is the number of ones. -/
theorem reduce_count (x : s.Idx → BitVec 32) (init : u.Idx → BitVec 32) (hr : s.ReducesTo axes t) (hu : 0 < u.numel) (j : t.Idx)
    (f : ι → s.Idx) (hf : Function.Injective f) (h1 : ∀ q, hr.drop (f q) = j) (h2 : ∀ i, hr.drop i = j → ∃ q, f q = i)
    (hi : ∀ k, init k = 0#32) (P : ι → Prop) [DecidablePred P] (hx : ∀ q, x (f q) = (BitVec.ofBool (decide (P q))).setWidth 32) :
    Host.reduce IntOp.addi x init hr hu j = BitVec.ofNat 32 (univ.filter P).card := by
  classical
  refine (reduce_fold IntOp.addi x init hr hu j f hf h1 h2).trans ?_
  rw [hi, funext hx]
  refine (IndicatorCount.fold_addi_setWidth_eq_card (fun q => BitVec.ofBool (decide (P q))) univ).trans ?_
  refine congrArg (fun S : Finset ι => BitVec.ofNat 32 S.card) (filter_congr fun q _ => ?_)
  by_cases h : P q <;> simp [h]

end red

/-! ## Words -/

theorem toInt_nat (n : ℕ) (h : n < 2 ^ 31) : (BitVec.ofNat 32 n).toInt = n := by
  rw [BitVec.toInt_eq_toNat_cond, BitVec.toNat_ofNat]
  split_ifs <;> omega

theorem shr8 (n : ℕ) (h : n < 2 ^ 20) : IntOp.shrsi .host (BitVec.ofNat 32 n) 8#32 = BitVec.ofNat 32 (n / 256) := by
  unfold IntOp.shrsi
  rw [if_pos (by decide)]
  refine BitVec.eq_of_toInt_eq ?_
  unfold BitVec.sshiftRight'
  rw [BitVec.toInt_sshiftRight, toInt_nat _ (by omega), toInt_nat _ (by omega), Int.shiftRight_eq_div_pow]
  norm_num

theorem and255 (n : ℕ) (h : n < 2 ^ 20) : IntOp.andi (BitVec.ofNat 32 n) 255#32 = BitVec.ofNat 32 (n % 256) := by
  show (BitVec.ofNat 32 n) &&& 255#32 = _
  refine BitVec.eq_of_toNat_eq ?_
  rw [BitVec.toNat_and, BitVec.toNat_ofNat, BitVec.toNat_ofNat, BitVec.toNat_ofNat]
  have := Nat.and_two_pow_sub_one_eq_mod (n % 2 ^ 32) 8
  norm_num at this ⊢
  rw [this]
  omega

theorem word_sub (a b : ℤ) (h1 : -400 ≤ a) (h2 : a ≤ 400) (h3 : -400 ≤ b) (h4 : b ≤ 400) : IntOp.subi (BitVec.ofInt 32 a) (BitVec.ofInt 32 b) = BitVec.ofInt 32 (a - b) := by
  refine BitVec.eq_of_toInt_eq ?_
  show (BitVec.ofInt 32 a - BitVec.ofInt 32 b).toInt = _
  rw [BitVec.toInt_sub, toInt_word _ (by omega) (by omega), toInt_word _ (by omega) (by omega), toInt_word _ (by omega) (by omega), Int.bmod_def]
  omega

theorem twoBits : (FloatOps.ofBits FTy.f32 0x40000000#32 : Ideal .f32) = (((2 : ℝ) : ℝ) : EReal) := by
  show Ideal.ofBits .f32 0x40000000#32 = _
  simp [Ideal.ofBits, Ideal.ieee]
  rw [← EReal.coe_mul]; norm_num

/-- A power of two whose exponent is a word. -/
theorem pow_word (n : ℤ) (h1 : -1000 ≤ n) (h2 : n ≤ 1000) : (FloatOps.hostPowf (FloatOps.ofBits FTy.f32 0x40000000#32 : Ideal .f32) (FloatOps.sitofp .f32 (BitVec.ofInt 32 n)) : EReal) = (((2 : ℝ) ^ n : ℝ) : EReal) := by
  rw [twoBits]
  show Ideal.pow _ (((BitVec.ofInt 32 n).toInt : ℝ) : EReal) = _
  rw [toInt_word n h1 h2]
  exact pow_two n

/-! ## A channel -/

/-- The group of a channel. -/
def gOf (h : Fin 8) (c : Fin 160) : ℕ := h.val * 5 + c.val / 32
/-- The place of a channel in its group. -/
def rOf (c : Fin 160) : Fin 32 := ⟨c.val % 32, Nat.mod_lt _ (by norm_num)⟩

theorem xblk_chan (xt : S16x8x160x12288.Idx → EReal) (h : Fin 8) (c : Fin 160) (b : Fin 16) (s : Fin 12288) :
    Cert.KernelIdeal.Hand.xblk (F := Ideal) xt (gOf h c) b (ValueIdx.ix4 0 0 (rOf c) s) = xt (ValueIdx.ix4 b h c s) := by
  unfold xblk
  refine congrArg xt (funext fun a => ?_)
  have := h.isLt
  have := c.isLt
  fin_cases a
  · rfl
  · refine Fin.ext ?_
    show min (gOf h c) 39 / 5 = h.val
    unfold gOf; omega
  · refine Fin.ext ?_
    show min (gOf h c) 39 % 5 * 32 + c.val % 32 = c.val
    unfold gOf; omega
  · rfl

section chan
variable (xt : S16x8x160x12288.Idx → EReal) (h : Fin 8) (c : Fin 160)

/-- The entries of a channel, as indices. -/
def fam4 (h : Fin 8) (c : Fin 160) (q : Fin 16 × Fin 12288) : S16x8x160x12288.Idx := ValueIdx.ix4 q.1 h c q.2

theorem fam4_inj : Function.Injective (fam4 h c) := fun q q' e => Prod.ext (congrFun e 0) (congrFun e 3)

theorem fam4_drop (q : Fin 16 × Fin 12288) : reducesTo_S16x8x160x12288_S8x160_d0_3.drop (fam4 h c q) = ValueIdx.ix2 h c := by
  funext a; fin_cases a <;> rfl

theorem fam4_onto (i : S16x8x160x12288.Idx) (hi : reducesTo_S16x8x160x12288_S8x160_d0_3.drop i = ValueIdx.ix2 h c) : ∃ q, fam4 h c q = i := by
  have e0 : (i 1).val = h.val := congrArg Fin.val (congrFun hi 0)
  have e1 : (i 2).val = c.val := congrArg Fin.val (congrFun hi 1)
  refine ⟨(i 0, i 3), funext fun a => ?_⟩
  fin_cases a
  · rfl
  · exact Fin.ext e0.symm
  · exact Fin.ext e1.symm
  · rfl

theorem fam3_1 {n : ℕ} (hr : (⟨3, ![8, 160, n]⟩ : Shape).ReducesTo [2] S8x160) (k : Fin n) : hr.drop (ValueIdx.ix3 h c k) = ValueIdx.ix2 h c := by
  funext a; fin_cases a <;> rfl

theorem fam3_2 {n : ℕ} (hr : (⟨3, ![8, 160, n]⟩ : Shape).ReducesTo [2] S8x160) (i : (⟨3, ![8, 160, n]⟩ : Shape).Idx) (hi : hr.drop i = ValueIdx.ix2 h c) : ∃ k : Fin n, ValueIdx.ix3 h c k = i := by
  have e0 : (i 0).val = h.val := congrArg Fin.val (congrFun hi 0)
  have e1 : (i 1).val = c.val := congrArg Fin.val (congrFun hi 1)
  refine ⟨i 2, funext fun a => ?_⟩
  fin_cases a
  · exact Fin.ext e0.symm
  · exact Fin.ext e1.symm
  · rfl

theorem fam3_inj {n : ℕ} : Function.Injective (fun k : Fin n => (ValueIdx.ix3 h c k : (⟨3, ![8, 160, n]⟩ : Shape).Idx)) := fun k k' e => congrFun e 2

theorem mag_chan (q : Fin 16 × Fin 12288) : mag xt (gOf h c) (rOf c) q = max (xt (fam4 h c q)) (-(xt (fam4 h c q))) := by
  unfold mag
  rw [xblk_chan]
  rfl

/-- The reference's channel maximum is the kernel's. -/
theorem v1_eq : (val_main_v1 (F := Ideal) xt (ValueIdx.ix2 h c) : EReal) = kmax xt (gOf h c) (rOf c) := by
  have e : (val_main_v1 (F := Ideal) xt (ValueIdx.ix2 h c) : EReal) = (univ : Finset (Fin 16 × Fin 12288)).fold max (⊥ : EReal) (mag xt (gOf h c) (rOf c)) := by
    refine (reduce_fold (max : EReal → EReal → EReal) _ _ _ _ _ (fam4 h c) (fam4_inj h c) (fam4_drop h c) (fam4_onto h c)).trans ?_
    refine congrArg₂ (fun (b : EReal) f => (univ : Finset (Fin 16 × Fin 12288)).fold max b f) ?_ (funext fun q => (mag_chan xt h c q).symm)
    show Ideal.ofBits .f32 0xFF800000#32 = ⊥
    simp [Ideal.ofBits, Ideal.ieee]
  have key : ∀ y : EReal, 0 ≤ y → ((val_main_v1 (F := Ideal) xt (ValueIdx.ix2 h c) : EReal) ≤ y ↔ kmax xt (gOf h c) (rOf c) ≤ y) := fun y hy => by
    rw [e, Finset.fold_max_le, kmax_le _ _ _ y hy]
    simp
  have h0 : 0 ≤ (val_main_v1 (F := Ideal) xt (ValueIdx.ix2 h c) : EReal) := by
    rw [e, Finset.le_fold_max]
    exact .inr ⟨(0, 0), mem_univ _, mag_nonneg _ _ _ _⟩
  exact le_antisymm ((key _ (kmax_nonneg _ _ _)).2 le_rfl) ((key _ h0).1 le_rfl)

variable {e : ℤ} (he : IsExp (kmax xt (gOf h c) (rOf c)) e)

theorem v4_eq (k : Fin 277) (i : S277.Idx) (hi : i 0 = k) : val_main_v4 (F := Ideal) i = BitVec.ofInt 32 ((k.val : ℤ) - 148) := by
  have e1 : val_main_v4 (F := Ideal) i = IntOp.addi 4294967148#32 (BitVec.ofNat 32 k.val) := by
    rw [val_main_v4_apply, val_main_v3_apply, val_main_v2_apply, val_main_c_apply, hi]
  rw [e1]
  refine BitVec.eq_of_toInt_eq ?_
  have := k.isLt
  show (4294967148#32 + BitVec.ofNat 32 k.val).toInt = _
  rw [BitVec.toInt_add, show (4294967148#32 : BitVec 32).toInt = -148 by decide, toInt_nat _ (by omega), toInt_word _ (by omega) (by omega), Int.bmod_def]
  omega

theorem v13_eq (k : Fin 277) : val_main_v13 (F := Ideal) xt (ValueIdx.ix3 h c k)
    = if kmax xt (gOf h c) (rOf c) < (((2 : ℝ) ^ ((k.val : ℤ) - 148) : ℝ) : EReal) then BitVec.ofInt 32 ((k.val : ℤ) - 148) else BitVec.ofInt 32 129 := by
  have := k.isLt
  have e10 : (val_main_v10 (F := Ideal) xt (ValueIdx.ix3 h c k) : EReal) = kmax xt (gOf h c) (rOf c) := by
    rw [val_main_v10_apply, val_main_v5_apply, ← v1_eq]
    refine congrArg (val_main_v1 (F := Ideal) xt) (funext fun a => ?_)
    fin_cases a <;> rfl
  have e11 : (val_main_v11 (F := Ideal) (ValueIdx.ix3 h c k) : EReal) = (((2 : ℝ) ^ ((k.val : ℤ) - 148) : ℝ) : EReal) := by
    rw [val_main_v11_apply, val_main_v9_apply, val_main_v8_apply, val_main_v6_apply, val_main_v7_apply, val_main_cst_0_apply, v4_eq k _ rfl]
    exact pow_word _ (by omega) (by omega)
  rw [val_main_v13_apply, val_main_v12_apply, val_main_call0_v1_apply, val_main_call0_v2_apply, val_main_call0_v0_apply, val_main_c_1_apply, e10, e11, v4_eq k _ rfl]
  show Scalar.select (BitVec.ofBool (decide (kmax xt (gOf h c) (rOf c) < (((2 : ℝ) ^ ((k.val : ℤ) - 148) : ℝ) : EReal)))) _ _ = _
  by_cases hk : kmax xt (gOf h c) (rOf c) < (((2 : ℝ) ^ ((k.val : ℤ) - 148) : ℝ) : EReal)
  · rw [if_pos hk, decide_eq_true hk]; rfl
  · rw [if_neg hk, decide_eq_false hk]; rfl

include he

/-- The reference's exponent. -/
theorem v17_eq : val_main_v17 (F := Ideal) xt (ValueIdx.ix2 h c) = BitVec.ofInt 32 e := by
  rw [val_main_v17_apply, val_main_v16_apply, val_main_v15_apply, val_main_cst_3_apply, val_main_call1_v1_apply, val_main_call1_v0_apply, val_main_c_4_apply, v1_eq]
  have hz : (FloatOps.ofBits FTy.f32 0#32 : Ideal .f32) = (0 : EReal) := zeroBits
  rw [hz]
  show Scalar.select (BitVec.ofBool (decide (kmax xt (gOf h c) (rOf c) = 0))) _ _ = _
  by_cases h0 : kmax xt (gOf h c) (rOf c) = 0
  · rw [decide_eq_true h0]
    have e0 : e = 0 := by
      rcases he.h with ⟨_, h2⟩ | ⟨h1, _⟩
      · exact h2
      · rw [h0] at h1
        exact absurd (EReal.coe_le_coe_iff.1 h1) (not_le.2 (two_zpow_pos _))
    rw [e0]; rfl
  · rw [decide_eq_false h0]
    show val_main_v14 (F := Ideal) xt (ValueIdx.ix2 h c) = _
    haveI : Std.Commutative (IntOp.minsi (w := 32)) := inferInstance
    refine (reduce_fold IntOp.minsi _ _ _ _ _ (fun k : Fin 277 => ValueIdx.ix3 h c k) (fam3_inj h c) (fam3_1 h c _) (fam3_2 h c _)).trans ?_
    exact least_exp he h0 _ (v13_eq xt h c)

/-- An entry's grid number. -/
theorem v27_eq (q : Fin 16 × Fin 12288) : val_main_v27 (F := Ideal) xt (fam4 h c q) = BitVec.ofNat 32 (wOf xt (gOf h c) (rOf c) e q) := by
  have hl := he.lo
  have hh := he.hi
  have e24 : (val_main_v24 (F := Ideal) xt (fam4 h c q) : EReal) = mE e := by
    rw [val_main_v24_apply, val_main_v23_apply, val_main_v22_apply, val_main_v21_apply, val_main_cst_6_apply, val_main_v20_apply, val_main_v19_apply, val_main_v18_apply, val_main_c_5_apply]
    have : val_main_v17 (F := Ideal) xt (idx_main_v23 (idx_main_v24 (fam4 h c q))) = BitVec.ofInt 32 e := by
      rw [← v17_eq xt h c he]
      refine congrArg (val_main_v17 (F := Ideal) xt) (funext fun a => ?_)
      fin_cases a <;> rfl
    rw [this, show (20#32 : BitVec 32) = BitVec.ofInt 32 20 from rfl, word_sub _ _ (by omega) (by omega) (by omega) (by omega)]
    exact pow_word _ (by omega) (by omega)
  rw [val_main_v27_apply, val_main_v26_apply, val_main_v25_apply, e24, val_main_v0_apply]
  have hm := mag_in xt (gOf h c) (rOf c) he q
  have hw := wOf_lt xt (gOf h c) (rOf c) he q
  show Ideal.fptosi 32 (Ideal.liftRound Int.floor (max (xt (fam4 h c q)) (-(xt (fam4 h c q))) * mE e)) = _
  rw [← mag_chan, hm.floor]
  exact fptosi_nv _ (lt_trans hw (by norm_num))

theorem v29_eq (q : Fin 16 × Fin 12288) : val_main_v29 (F := Ideal) xt (fam4 h c q) = BitVec.ofNat 32 (wOf xt (gOf h c) (rOf c) e q / 256) := by
  rw [val_main_v29_apply, v27_eq xt h c he, val_main_v28_apply, val_main_c_7_apply, shr8 _ (wOf_lt xt (gOf h c) (rOf c) he q)]

theorem v31_eq (q : Fin 16 × Fin 12288) : val_main_v31 (F := Ideal) xt (fam4 h c q) = BitVec.ofNat 32 (wOf xt (gOf h c) (rOf c) e q % 256) := by
  rw [val_main_v31_apply, v27_eq xt h c he, val_main_v30_apply, val_main_c_8_apply, and255 _ (wOf_lt xt (gOf h c) (rOf c) he q)]

end chan

end Cert.Equation
-- ==== Proof.RefCounts.lean ====
module

public import proofs.«01_k».proof.Proof.RefWords

@[expose] public section

noncomputable section

namespace Cert.Equation

open Cert.KernelIdeal.Hand
open Cert.ReferenceIdeal Cert.ReferenceIdeal.Gen Cert.ReferenceIdeal.Read
open Idealize.ShloMosaic Idealize.ShloMosaic.TcCoe
open scoped BigOperators
open Finset

/-! ## Comparisons of words that are numbers -/

theorem sle_nat (a b : ℕ) (ha : a < 2 ^ 31) (hb : b < 2 ^ 31) : IntOp.cmpi .sle (BitVec.ofNat 32 a) (BitVec.ofNat 32 b) = BitVec.ofBool (decide (a ≤ b)) := by
  show BitVec.ofBool (decide ((BitVec.ofNat 32 a).toInt ≤ (BitVec.ofNat 32 b).toInt)) = _
  rw [toInt_nat a ha, toInt_nat b hb]
  exact congrArg BitVec.ofBool (decide_eq_decide.2 Int.ofNat_le)

theorem slt_nat (a b : ℕ) (ha : a < 2 ^ 31) (hb : b < 2 ^ 31) : IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_nat a ha, toInt_nat b hb]
  exact congrArg BitVec.ofBool (decide_eq_decide.2 Int.ofNat_lt)

theorem seq_nat (a b : ℕ) (ha : a < 2 ^ 31) (hb : b < 2 ^ 31) : IntOp.cmpi .eq (BitVec.ofNat 32 a) (BitVec.ofNat 32 b) = BitVec.ofBool (decide (a = b)) := by
  show BitVec.ofBool (BitVec.ofNat 32 a == BitVec.ofNat 32 b) = _
  rw [beq_eq_decide]
  refine congrArg BitVec.ofBool (decide_eq_decide.2 ⟨fun h => ?_, fun h => h ▸ rfl⟩)
  have := congrArg BitVec.toInt h
  rw [toInt_nat a ha, toInt_nat b hb] at this
  exact_mod_cast this

theorem and_bool (P Q : Prop) [Decidable P] [Decidable Q] : IntOp.andi (BitVec.ofBool (decide P)) (BitVec.ofBool (decide Q)) = BitVec.ofBool (decide (P ∧ Q)) := by
  by_cases h1 : P <;> by_cases h2 : Q <;> simp [h1, h2, IntOp.andi]

theorem add_nat (a b : ℕ) : IntOp.addi (BitVec.ofNat 32 a) (BitVec.ofNat 32 b) = BitVec.ofNat 32 (a + b) := (BitVec.ofNat_add a b).symm

theorem mul_nat (a b : ℕ) : IntOp.muli (BitVec.ofNat 32 a) (BitVec.ofNat 32 b) = BitVec.ofNat 32 (a * b) := (BitVec.ofNat_mul a b).symm

section chan
variable (xt : S16x8x160x12288.Idx → EReal) (h : Fin 8) (c : Fin 160) {e : ℤ} (he : IsExp (kmax xt (gOf h c) (rOf c)) e)

/-- The entries of a channel against the bins or sub-bins. -/
def fam5 {n : ℕ} (h : Fin 8) (c : Fin 160) (k : Fin n) (q : Fin 16 × Fin 12288) : (⟨5, ![16, 8, 160, 12288, n]⟩ : Shape).Idx := ValueIdx.ix5 q.1 h c q.2 k

theorem fam5_inj {n : ℕ} (k : Fin n) : Function.Injective (fam5 h c k) := fun q q' e => Prod.ext (congrFun e 0) (congrFun e 3)

theorem fam5_drop {n : ℕ} (k : Fin n) (hr : (⟨5, ![16, 8, 160, 12288, n]⟩ : Shape).ReducesTo [0, 3] ⟨3, ![8, 160, n]⟩) (q : Fin 16 × Fin 12288) : hr.drop (fam5 h c k q) = ValueIdx.ix3 h c k := by
  funext a; fin_cases a <;> rfl

theorem fam5_onto {n : ℕ} (k : Fin n) (hr : (⟨5, ![16, 8, 160, 12288, n]⟩ : Shape).ReducesTo [0, 3] ⟨3, ![8, 160, n]⟩) (i : (⟨5, ![16, 8, 160, 12288, n]⟩ : Shape).Idx) (hi : hr.drop i = ValueIdx.ix3 h c k) :
    ∃ q, fam5 h c k q = i := by
  have e0 : (i 1).val = h.val := congrArg Fin.val (congrFun hi 0)
  have e1 : (i 2).val = c.val := congrArg Fin.val (congrFun hi 1)
  have e2 : (i 4).val = k.val := congrArg Fin.val (congrFun hi 2)
  refine ⟨(i 0, i 3), funext fun a => ?_⟩
  fin_cases a
  · rfl
  · exact Fin.ext e0.symm
  · exact Fin.ext e1.symm
  · rfl
  · exact Fin.ext e2.symm

theorem card_all : Fintype.card (Fin 16 × Fin 12288) = 196608 := by simp

theorem card_le (P : Fin 16 × Fin 12288 → Prop) [DecidablePred P] : (univ.filter P).card < 2 ^ 20 :=
  lt_of_le_of_lt (card_le_univ _) (by rw [card_all]; norm_num)

include he

theorem w_bin (q : Fin 16 × Fin 12288) : wOf xt (gOf h c) (rOf c) e q / 256 < 2 ^ 20 := by
  have := wOf_lt xt (gOf h c) (rOf c) he q
  omega

/-- How many entries of a channel lie in the bins up to `k`. -/
theorem v39_eq (k : Fin 4096) : val_main_v39 (F := Ideal) xt (ValueIdx.ix3 h c k) = BitVec.ofNat 32 (univ.filter fun q => wOf xt (gOf h c) (rOf c) e q / 256 ≤ k.val).card := by
  refine reduce_count _ _ _ _ _ (fam5 h c k) (fam5_inj h c k) (fam5_drop h c k _) (fam5_onto h c k _) (fun _ => rfl) _ fun q => ?_
  have hk := k.isLt
  have hw := w_bin xt h c he q
  rw [val_main_v38_apply, val_main_v37_apply, val_main_v36_apply, val_main_v34_apply, val_main_v32_apply, val_main_v35_apply, val_main_v33_apply]
  refine congrArg (fun b : BitVec 1 => b.setWidth 32) ?_
  have h29 : val_main_v29 (F := Ideal) xt (idx_main_v33 (idx_main_v35 (fam5 h c k q))) = BitVec.ofNat 32 (wOf xt (gOf h c) (rOf c) e q / 256) := by
    rw [← v29_eq xt h c he q]
    refine congrArg (val_main_v29 (F := Ideal) xt) (funext fun a => ?_)
    fin_cases a <;> rfl
  rw [h29]
  exact sle_nat _ k.val (by omega) (by omega)

/-- The bin of the threshold. -/
theorem v43_eq : val_main_v43 (F := Ideal) xt (ValueIdx.ix2 h c) = BitVec.ofNat 32 (fOf xt (gOf h c) (rOf c) e / 256) := by
  obtain ⟨s1, s2⟩ := fOf_spec xt (gOf h c) (rOf c) he
  rw [← Count.bin_rank (wOf xt (gOf h c) (rOf c) e) card_all s1 s2 (fOf_lt xt (gOf h c) (rOf c) he)]
  refine reduce_count _ _ _ _ _ (fun k : Fin 4096 => ValueIdx.ix3 h c k) (fam3_inj h c) (fam3_1 h c _) (fam3_2 h c _) (fun _ => rfl) _ fun k => ?_
  rw [val_main_v42_apply, val_main_v41_apply, val_main_v40_apply, val_main_c_10_apply, v39_eq xt h c he]
  have := card_le fun q => wOf xt (gOf h c) (rOf c) e q / 256 ≤ k.val
  exact congrArg (fun b : BitVec 1 => b.setWidth 32) (slt_nat _ 196589 (by omega) (by norm_num))

theorem f_bin : fOf xt (gOf h c) (rOf c) e / 256 < 2 ^ 20 := by
  have := fOf_lt xt (gOf h c) (rOf c) he
  omega

/-- How many entries lie below the bin of the threshold. -/
theorem v48_eq : val_main_v48 (F := Ideal) xt (ValueIdx.ix2 h c) = BitVec.ofNat 32 (univ.filter fun q => wOf xt (gOf h c) (rOf c) e q / 256 < fOf xt (gOf h c) (rOf c) e / 256).card := by
  refine reduce_count _ _ _ _ _ (fam4 h c) (fam4_inj h c) (fam4_drop h c) (fam4_onto h c) (fun _ => rfl) _ fun q => ?_
  have hw := w_bin xt h c he q
  have hf := f_bin xt h c he
  rw [val_main_v47_apply, val_main_v46_apply, v29_eq xt h c he, val_main_v45_apply, val_main_v44_apply]
  have h43 : val_main_v43 (F := Ideal) xt (idx_main_v44 (idx_main_v45 (fam4 h c q))) = BitVec.ofNat 32 (fOf xt (gOf h c) (rOf c) e / 256) := by
    rw [← v43_eq xt h c he]
    refine congrArg (val_main_v43 (F := Ideal) xt) (funext fun a => ?_)
    fin_cases a <;> rfl
  rw [h43]
  exact congrArg (fun b : BitVec 1 => b.setWidth 32) (slt_nat _ _ (by omega) (by omega))

/-- Whether an entry lies in the bin of the threshold. -/
theorem v51_eq (q : Fin 16 × Fin 12288) : val_main_v51 (F := Ideal) xt (fam4 h c q) = BitVec.ofBool (decide (wOf xt (gOf h c) (rOf c) e q / 256 = fOf xt (gOf h c) (rOf c) e / 256)) := by
  have hw := w_bin xt h c he q
  have hf := f_bin xt h c he
  rw [val_main_v51_apply, v29_eq xt h c he, val_main_v50_apply, val_main_v49_apply]
  have h43 : val_main_v43 (F := Ideal) xt (idx_main_v49 (idx_main_v50 (fam4 h c q))) = BitVec.ofNat 32 (fOf xt (gOf h c) (rOf c) e / 256) := by
    rw [← v43_eq xt h c he]
    refine congrArg (val_main_v43 (F := Ideal) xt) (funext fun a => ?_)
    fin_cases a <;> rfl
  rw [h43]
  exact seq_nat _ _ (by omega) (by omega)

/-- How many entries of the bin of the threshold lie at a sub-bin. -/
theorem v62_eq (j : Fin 256) : val_main_v62 (F := Ideal) xt (ValueIdx.ix3 h c j) = BitVec.ofNat 32 (binCnt xt (gOf h c) (rOf c) e j.val) := by
  obtain ⟨s1, s2⟩ := fOf_spec xt (gOf h c) (rOf c) he
  have es := Count.sub_hist (wOf xt (gOf h c) (rOf c) e) card_all s1 s2 j.val j.isLt
  refine Eq.trans ?_ (congrArg (BitVec.ofNat 32) es)
  refine reduce_count _ _ _ _ _ (fam5 h c j) (fam5_inj h c j) (fam5_drop h c j _) (fam5_onto h c j _) (fun _ => rfl) _ fun q => ?_
  have hj := j.isLt
  rw [val_main_v61_apply, val_main_v60_apply, val_main_v59_apply, val_main_v53_apply, val_main_v58_apply, val_main_v57_apply, val_main_v55_apply, val_main_v52_apply, val_main_v56_apply, val_main_v54_apply]
  refine congrArg (fun b : BitVec 1 => b.setWidth 32) ?_
  have h51 : val_main_v51 (F := Ideal) xt (idx_main_v53 (idx_main_v59 (fam5 h c j q))) = BitVec.ofBool (decide (wOf xt (gOf h c) (rOf c) e q / 256 = fOf xt (gOf h c) (rOf c) e / 256)) := by
    rw [← v51_eq xt h c he q]
    refine congrArg (val_main_v51 (F := Ideal) xt) (funext fun a => ?_)
    fin_cases a <;> rfl
  have h31 : val_main_v31 (F := Ideal) xt (idx_main_v54 (idx_main_v56 (fam5 h c j q))) = BitVec.ofNat 32 (wOf xt (gOf h c) (rOf c) e q % 256) := by
    rw [← v31_eq xt h c he q]
    refine congrArg (val_main_v31 (F := Ideal) xt) (funext fun a => ?_)
    fin_cases a <;> rfl
  rw [h51, h31]
  refine Eq.trans (congrArg (IntOp.andi _) (seq_nat _ j.val (by omega) (by omega))) ?_
  exact and_bool _ _

/-- How many entries of the bin of the threshold lie up to a sub-bin. -/
theorem v73_eq (j : Fin 256) : val_main_v73 (F := Ideal) xt (ValueIdx.ix3 h c j)
    = BitVec.ofNat 32 (univ.filter fun q => wOf xt (gOf h c) (rOf c) e q / 256 = fOf xt (gOf h c) (rOf c) e / 256 ∧ wOf xt (gOf h c) (rOf c) e q % 256 ≤ j.val).card := by
  refine reduce_count _ _ _ _ _ (fam5 h c j) (fam5_inj h c j) (fam5_drop h c j _) (fam5_onto h c j _) (fun _ => rfl) _ fun q => ?_
  have hj := j.isLt
  rw [val_main_v72_apply, val_main_v71_apply, val_main_v70_apply, val_main_v64_apply, val_main_v69_apply, val_main_v68_apply, val_main_v66_apply, val_main_v52_apply, val_main_v67_apply, val_main_v65_apply]
  refine congrArg (fun b : BitVec 1 => b.setWidth 32) ?_
  have h51 : val_main_v51 (F := Ideal) xt (idx_main_v64 (idx_main_v70 (fam5 h c j q))) = BitVec.ofBool (decide (wOf xt (gOf h c) (rOf c) e q / 256 = fOf xt (gOf h c) (rOf c) e / 256)) := by
    rw [← v51_eq xt h c he q]
    refine congrArg (val_main_v51 (F := Ideal) xt) (funext fun a => ?_)
    fin_cases a <;> rfl
  have h31 : val_main_v31 (F := Ideal) xt (idx_main_v65 (idx_main_v67 (fam5 h c j q))) = BitVec.ofNat 32 (wOf xt (gOf h c) (rOf c) e q % 256) := by
    rw [← v31_eq xt h c he q]
    refine congrArg (val_main_v31 (F := Ideal) xt) (funext fun a => ?_)
    fin_cases a <;> rfl
  rw [h51, h31]
  refine Eq.trans (congrArg (IntOp.andi _) (sle_nat _ j.val (by omega) (by omega))) ?_
  exact and_bool _ _

/-- The sub-bin of the threshold. -/
theorem v79_eq : val_main_v79 (F := Ideal) xt (ValueIdx.ix2 h c) = BitVec.ofNat 32 (fOf xt (gOf h c) (rOf c) e % 256) := by
  obtain ⟨s1, s2⟩ := fOf_spec xt (gOf h c) (rOf c) he
  rw [← Count.sub_rank (wOf xt (gOf h c) (rOf c) e) card_all s1 s2]
  refine reduce_count _ _ _ _ _ (fun k : Fin 256 => ValueIdx.ix3 h c k) (fam3_inj h c) (fam3_1 h c _) (fam3_2 h c _) (fun _ => rfl) _ fun j => ?_
  rw [val_main_v78_apply, val_main_v77_apply, val_main_v76_apply, val_main_c_15_apply, val_main_v75_apply, val_main_v74_apply, val_main_v63_apply, v73_eq xt h c he]
  have h48 : val_main_v48 (F := Ideal) xt (idx_main_v63 (idx_main_v74 (ValueIdx.ix3 h c j))) = BitVec.ofNat 32 (univ.filter fun q => wOf xt (gOf h c) (rOf c) e q / 256 < fOf xt (gOf h c) (rOf c) e / 256).card := by
    rw [← v48_eq xt h c he]
    refine congrArg (val_main_v48 (F := Ideal) xt) (funext fun a => ?_)
    fin_cases a <;> rfl
  rw [h48, add_nat]
  have a1 := card_le fun q => wOf xt (gOf h c) (rOf c) e q / 256 < fOf xt (gOf h c) (rOf c) e / 256
  have a2 := card_le fun q => wOf xt (gOf h c) (rOf c) e q / 256 = fOf xt (gOf h c) (rOf c) e / 256 ∧ wOf xt (gOf h c) (rOf c) e q % 256 ≤ j.val
  exact congrArg (fun b : BitVec 1 => b.setWidth 32) (slt_nat _ 196589 (by omega) (by norm_num))

/-! ## The numbers of a channel -/

/-- The threshold. -/
theorem v91_eq : (val_main_v91 (F := Ideal) xt (ValueIdx.ix2 h c) : EReal) = thrV (fOf xt (gOf h c) (rOf c) e) e := by
  have hl := he.lo
  have hh := he.hi
  have hf := fOf_lt xt (gOf h c) (rOf c) he
  rw [val_main_v91_apply, val_main_v90_apply, val_main_v89_apply, val_main_cst_20_apply, val_main_v88_apply, val_main_v87_apply, val_main_v86_apply, val_main_c_19_apply, v17_eq xt h c he,
    val_main_v85_apply, val_main_v84_apply, val_main_v83_apply, val_main_c_18_apply, val_main_v82_apply, val_main_v81_apply, val_main_v80_apply, val_main_c_17_apply, v43_eq xt h c he, v79_eq xt h c he,
    show (20#32 : BitVec 32) = BitVec.ofInt 32 20 from rfl, word_sub _ _ (by omega) (by omega) (by omega) (by omega), mul_nat 256, add_nat, add_nat _ 1]
  unfold thrV
  have hp := pow_word (e - 20) (by omega) (by omega)
  refine congrArg₂ (fun x y : EReal => x * y) ?_ hp
  show (((BitVec.ofNat 32 (256 * (fOf xt (gOf h c) (rOf c) e / 256) + fOf xt (gOf h c) (rOf c) e % 256 + 1)).toInt : ℝ) : EReal) = _
  rw [Nat.div_add_mod, toInt_nat _ (by omega)]
  exact zv_nat _

theorem v93_eq : (val_main_v93 (F := Ideal) xt (ValueIdx.ix2 h c) : EReal) = Ideal.div (thrV (fOf xt (gOf h c) (rOf c) e) e) (Ideal.ofBits .f32 0x42FE0000#32) := by
  rw [val_main_v93_apply, v91_eq xt h c he]
  rfl

theorem v95_eq : (val_main_v95 (F := Ideal) xt (ValueIdx.ix2 h c) : EReal) = Ideal.div (thrV (fOf xt (gOf h c) (rOf c) e) e) (Ideal.ofBits .f32 0x40E00000#32) := by
  rw [val_main_v95_apply, v91_eq xt h c he]
  rfl

theorem v107_eq : (val_main_v107 (F := Ideal) xt (ValueIdx.ix2 h c) : EReal) = (((2 : ℝ) ^ (16 - e) : ℝ) : EReal) := by
  have hl := he.lo
  have hh := he.hi
  rw [val_main_v107_apply, val_main_v106_apply, val_main_cst_26_apply, val_main_v105_apply, val_main_v104_apply, val_main_v103_apply, val_main_c_25_apply, v17_eq xt h c he,
    show (16#32 : BitVec 32) = BitVec.ofInt 32 16 from rfl, word_sub _ _ (by omega) (by omega) (by omega) (by omega)]
  exact pow_word _ (by omega) (by omega)

theorem v108_eq : (val_main_v108 (F := Ideal) xt (ValueIdx.ix2 h c) : EReal) = nv (fOf xt (gOf h c) (rOf c) e % 256) := by
  rw [val_main_v108_apply, v79_eq xt h c he]
  show (((BitVec.ofNat 32 (fOf xt (gOf h c) (rOf c) e % 256)).toInt : ℝ) : EReal) = _
  rw [toInt_nat _ (by omega)]
  exact zv_nat _

/-- The code of an entry. -/
theorem v102_row (q : Fin 16 × Fin 12288) : val_main_v102 (F := Ideal) xt (fam4 h c q) = Ideal.fptosi 8 (clipV (xt (fam4 h c q)) (Ideal.div (thrV (fOf xt (gOf h c) (rOf c) e) e) (Ideal.ofBits .f32 0x42FE0000#32))) := by
  rw [← clip_cut, ← v93_eq xt h c he, val_main_v102_apply, val_main_v101_apply, val_main_v100_apply, val_main_call3_v4_apply, val_main_call3_v3_apply, val_main_c_24_apply, val_main_call3_v2_apply,
    val_main_call3_v1_apply, val_main_call3_v0_apply, val_main_c_23_apply, val_main_v99_apply, val_main_v98_apply, val_main_v97_apply, val_main_v96_apply]
  have h93 : val_main_v93 (F := Ideal) xt (idx_main_v96 (idx_main_v97 (fam4 h c q))) = val_main_v93 (F := Ideal) xt (ValueIdx.ix2 h c) := by
    refine congrArg (val_main_v93 (F := Ideal) xt) (funext fun a => ?_)
    fin_cases a <;> rfl
  rw [h93]
  rfl

end chan

end Cert.Equation
-- ==== Proof.Region.lean ====
module

public import proofs.«01_k».proof.Proof.Points
public import proofs.«01_k».proof.Proof.FrameRunIdeal
public import Idealize.ShloMosaic.Lib.Pipeline.ValueKit
public import Idealize.ShloMosaic.Lib.Pipeline.ArrRel
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-! ## What the scratch buffers hold before each point -/

/-- Before point `t`: the rows already replaced hold the current group, the others the group before; the scale is that of
    the group before, once it is computed. -/
def Inv (xt : S16x8x160x12288.Idx → Elt F .f32) (t : ℕ) (X6 : S16x32x12288.Idx → Elt F .f32) (X7 : S16x3x32x128.Idx → Elt F .f32) (X8 : S32x128.Idx → Elt F .f32) : Prop :=
  (∀ y : S16x32x12288.Idx, (1 ≤ t / 16 ∨ (y 0).val < t % 16) → X6 y = slabOf xt (if (y 0).val < t % 16 then t / 16 else t / 16 - 1) y)
    ∧ (∀ y : S16x3x32x128.Idx, (1 ≤ t / 16 ∨ (y 0).val < t % 16) → X7 y = keptOf xt (if (y 0).val < t % 16 then t / 16 else t / 16 - 1) y)
    ∧ (1 ≤ t / 16 → t % 16 ≠ 0 → X8 = scaleG xt (t / 16 - 1))

/-- At the first row of a group the slab is the whole group before. -/
theorem Inv.full {xt : S16x8x160x12288.Idx → Elt F .f32} {t : ℕ} {X6 : S16x32x12288.Idx → Elt F .f32} {X7 : S16x3x32x128.Idx → Elt F .f32} {X8 : S32x128.Idx → Elt F .f32}
    (h : Inv xt t X6 X7 X8) (h0 : t % 16 = 0) (h1 : 1 ≤ t / 16) : X6 = slabOf xt (t / 16 - 1) ∧ X7 = keptOf xt (t / 16 - 1) := by
  refine ⟨funext fun y => ?_, funext fun y => ?_⟩
  · rw [h.1 y (.inl h1), if_neg (by omega)]
  · rw [h.2.1 y (.inl h1), if_neg (by omega)]

/-- The scale after a point of a group that has one before it. -/
theorem out8_eq {xt : S16x8x160x12288.Idx → Elt F .f32} (t : Fin cfg0.N) {X6 : S16x32x12288.Idx → Elt F .f32} {X7 : S16x3x32x128.Idx → Elt F .f32} {X8 : S32x128.Idx → Elt F .f32}
    (h : Inv xt t.val X6 X7 X8) (h1 : 1 ≤ t.val / 16) : out8 (grid0.coords t) X6 X7 X8 = scaleG xt (t.val / 16 - 1) := by
  unfold out8
  by_cases h0 : t.val % 16 = 0
  · rw [if_pos ((cond1_iff _).mpr ⟨by rw [coord1]; exact h0, by rw [coord0]; omega⟩)]
    obtain ⟨rfl, rfl⟩ := h.full h0 h1
    rfl
  · rw [if_neg fun hc => h0 (by rw [← coord1]; exact ((cond1_iff _).mp hc).1)]
    exact h.2.2 h1 h0

theorem Inv.step {xt : S16x8x160x12288.Idx → Elt F .f32} (t : Fin cfg0.N) {X6 : S16x32x12288.Idx → Elt F .f32} {X7 : S16x3x32x128.Idx → Elt F .f32} {X8 : S32x128.Idx → Elt F .f32}
    (X2 : S1x1x32x12288.Idx → Elt F .f32) (h2 : t.val < 640 → X2 = xblk xt (t.val / 16) (grid0.coords t 1)) (h : Inv xt t.val X6 X7 X8) :
    Inv xt (t.val + 1) (out6 (grid0.coords t) X2 X6) (out7 (grid0.coords t) X2 X7) (out8 (grid0.coords t) X6 X7 X8) := by
  have ht : t.val < 656 := N_0 ▸ t.isLt
  have c0 := coord0 t
  have c1 := coord1 t
  refine ⟨fun y hy => ?_, fun y hy => ?_, fun ha hb => ?_⟩
  · have hy0 : (y 0).val < 16 := (y 0).isLt
    unfold out6
    by_cases h6 : t.val / 16 = 40
    · rw [if_pos ((cond6_iff _).mpr (c0.trans h6)), h.1 y (.inl (by omega))]
      have e : ∀ n, n = 39 ∨ n = 40 → slabOf xt n = slabOf xt 39 := by rintro n (rfl | rfl) <;> rfl
      have e1 : (if (y 0).val < t.val % 16 then t.val / 16 else t.val / 16 - 1) = 39 ∨ (if (y 0).val < t.val % 16 then t.val / 16 else t.val / 16 - 1) = 40 := by split <;> omega
      have e2 : (if (y 0).val < (t.val + 1) % 16 then (t.val + 1) / 16 else (t.val + 1) / 16 - 1) = 39 ∨ (if (y 0).val < (t.val + 1) % 16 then (t.val + 1) / 16 else (t.val + 1) / 16 - 1) = 40 := by split <;> omega
      rw [e _ e1, e _ e2]
    · rw [if_neg fun hc => h6 (c0.symm.trans ((cond6_iff _).mp hc))]
      unfold slabAfter
      have hy2 : (y 2).val < 12288 := (y 2).isLt
      by_cases hr : (y 0).val = (grid0.coords t 1).val
      · rw [if_pos ⟨hr, by omega⟩, h2 (by omega)]
        have e : (if (y 0).val < (t.val + 1) % 16 then (t.val + 1) / 16 else (t.val + 1) / 16 - 1) = t.val / 16 := by split <;> omega
        rw [e]
        unfold slabOf
        rw [show (y 0) = grid0.coords t 1 from Fin.ext hr]
      · rw [if_neg fun hc => hr hc.1, h.1 y (by omega)]
        congr 1
        rw [c1] at hr
        split <;> split <;> omega
  · have hy0 : (y 0).val < 16 := (y 0).isLt
    unfold out7
    by_cases h6 : t.val / 16 = 40
    · rw [if_pos ((cond6_iff _).mpr (c0.trans h6)), h.2.1 y (.inl (by omega))]
      have e : ∀ n, n = 39 ∨ n = 40 → keptOf xt n = keptOf xt 39 := by rintro n (rfl | rfl) <;> rfl
      have e1 : (if (y 0).val < t.val % 16 then t.val / 16 else t.val / 16 - 1) = 39 ∨ (if (y 0).val < t.val % 16 then t.val / 16 else t.val / 16 - 1) = 40 := by split <;> omega
      have e2 : (if (y 0).val < (t.val + 1) % 16 then (t.val + 1) / 16 else (t.val + 1) / 16 - 1) = 39 ∨ (if (y 0).val < (t.val + 1) % 16 then (t.val + 1) / 16 else (t.val + 1) / 16 - 1) = 40 := by split <;> omega
      rw [e _ e1, e _ e2]
    · rw [if_neg fun hc => h6 (c0.symm.trans ((cond6_iff _).mp hc))]
      unfold cellsAfter
      by_cases hr : (y 0).val = (grid0.coords t 1).val
      · rw [if_pos hr, h2 (by omega)]
        have e : (if (y 0).val < (t.val + 1) % 16 then (t.val + 1) / 16 else (t.val + 1) / 16 - 1) = t.val / 16 := by split <;> omega
        rw [e]
        unfold keptOf
        rw [show (y 0) = grid0.coords t 1 from Fin.ext hr]
      · rw [if_neg hr, h.2.1 y (by omega)]
        congr 1
        rw [c1] at hr
        split <;> split <;> omega
  · rw [out8_eq t h (by omega)]
    congr 1; omega

/-- The codes a point writes are those of its row. -/
theorem out3_eq {xt : S16x8x160x12288.Idx → Elt F .f32} (t : Fin cfg0.N) {X6 : S16x32x12288.Idx → Elt F .f32} {X7 : S16x3x32x128.Idx → Elt F .f32} {X8 : S32x128.Idx → Elt F .f32}
    (Y3 : S1x1x32x12288.Idx → Elt F .i8) (h : Inv xt t.val X6 X7 X8) (h1 : 16 ≤ t.val) :
    out3 (grid0.coords t) Y3 X6 (out8 (grid0.coords t) X6 X7 X8) = codesG xt (t.val / 16 - 1) (grid0.coords t 1) := by
  rw [out8_eq t h (by omega)]
  unfold out3
  rw [if_neg fun hc => by have := (cond4_iff _).mp hc; rw [coord0] at this; omega]
  funext y
  have hy3 : (y 3).val < 12288 := (y 3).isLt
  unfold codesAfter codesG
  rw [if_pos (by omega)]
  have hw : ∀ k, rowTile X6 (grid0.coords t 1) k = rowTile (slabOf xt (t.val / 16 - 1)) (grid0.coords t 1) k := by
    intro k
    funext x
    unfold rowTile VecWindow.window
    rw [h.1 _ (.inl (by omega)), if_neg]
    have hz : ∀ n, n = (grid0.coords t 1).val + 1 * (x 0).val → ¬ n < t.val % 16 := by
      intro n hn
      rw [coord1] at hn; omega
    exact hz _ rfl
  rw [hw]

/-! ## The region's proof data and its body -/

section reg
variable (m : (ℓ : Loc nD τ sig) → Buf (Elt F) ℓ) (ρ : Dev nD → PrngReg)

/-- The argument as core `c` holds it. -/
abbrev xOf (c : Dev nD) : S16x8x160x12288.Idx → Elt F .f32 := m ((c.tc : Thread nD τ).loc main_arg0)

/-- The proof data: the scratch buffers hold what `Inv` says, the codes are written at every point after the first group,
    the statistics and the sub-bin counts at the first row of each group and then kept. -/
def vdat (c : Dev nD) : RDat τ (Elt F) Unit ℕ (UR sig nD τ) ℕ cfg0 c where
  A w := V m c (Pipeline.arrRef spec0 w)
  after := fun w t => match w with
    | ⟨0, _⟩ => fun (Y X : S1x1x32x12288.Idx → Elt F .f32) => X = Y
    | ⟨1, _⟩ => fun (Y X : S1x1x32x12288.Idx → Elt F .i8) => 16 ≤ t.val → X = codesG (xOf m c) (t.val / 16 - 1) (grid0.coords t 1)
    | ⟨2, _⟩ => fun (Y X : S32x128.Idx → Elt F .f32) => 16 ≤ t.val → if t.val % 16 = 0 then X = statsG (xOf m c) (t.val / 16 - 1) else X = Y
    | ⟨3, _⟩ => fun (Y X : S32x256.Idx → Elt F .i32) => 16 ≤ t.val → if t.val % 16 = 0 then X = subG (xOf m c) (t.val / 16 - 1) else X = Y
  Φ t := iprop((∃ X6 X7 X8, ⌜Inv (xOf m c) t.val X6 X7 X8⌝ ∗ owns (c : Thread nD τ) (Memref.whole cc0_scratch0) fullShare X6
      ∗ owns (c : Thread nD τ) (Memref.whole cc0_scratch1) fullShare X7 ∗ owns (c : Thread nD τ) (Memref.whole cc0_scratch2) fullShare X8) ∗ ∃ r, prngReg c r)
  q _ := fullShare
  owed _ := 0

/-- What the input window holds at a point of a group: the group's block. -/
theorem found0 (c : Dev nD) (t : Fin cfg0.N) (Y : S1x1x32x12288.Idx → Elt F .f32) (hY : (vdat m c).Finds 0 t Y) (ht : t.val < 640) :
    Y = xblk (xOf m c) (t.val / 16) (grid0.coords t 1) := by
  obtain ⟨d, hd⟩ := (vdat m c).finds_in_eq_fetched 0 rfl (fun _ _ _ => rfl) (fun t Y X h => h) t Y hY
  rw [hd]
  have e : (vdat m c).fetched 0 t d = (vdat m c).blockOf 0 t := by unfold RDat.fetched RDat.blockOf; rfl
  rw [e]
  funext y
  have c1 := coord1 t
  have hy0 : (y 0).val < 1 := (y 0).isLt
  have hy1 : (y 1).val < 1 := (y 1).isLt
  have hy2 : (y 2).val < 32 := (y 2).isLt
  show xOf m c (((cfg0.win 0).rect t).emb y) = xOf m c _
  congr 1
  have hm : min (t.val / 16) 39 = t.val / 16 := by omega
  funext a
  refine Fin.ext ?_
  rw [show (((cfg0.win 0).rect t).emb y a).val = (cfg0.win 0).index t a * (cfg0.win 0).size a + (y a).val from Pipeline.Window.rect_emb_val _ t y a, idx0 t ht a]
  fin_cases a
  · show t.val % 16 * 1 + (y 0).val = (grid0.coords t 1).val; omega
  · show t.val / 16 / 5 * 1 + (y 1).val = min (t.val / 16) 39 / 5; omega
  · show t.val / 16 % 5 * 32 + (y 2).val = min (t.val / 16) 39 % 5 * 32 + (y 2).val; omega
  · show 0 * 12288 + (y 3).val = (y 3).val; omega

set_option maxHeartbeats 4000000 in
/-- The body at a point, from the scratch as `Inv` says to the scratch as `Inv` says at the next point. -/
theorem vbody (hok : ∀ d7 : S16x3x32x128.Idx → Elt F .f32, (selC0 d7 = 1#1 ∧ ¬ selC1 d7 = 1#1) ∨ (¬ selC0 d7 = 1#1 ∧ selC1 d7 = 1#1)) (c : Dev nD) :
    (vdat (F := F) m c).BodyObligation (defs₀ (F := F)) Variants.none () Set.univ := fun t Y hY => by
  have hf := hY 0
  rw [bigSep_W0, bigSep_W0, defs₀_row]
  show iprop(((∃ X6 X7 X8, ⌜Inv (xOf m c) t.val X6 X7 X8⌝ ∗ owns (c : Thread nD τ) (Memref.whole cc0_scratch0) fullShare X6
      ∗ owns (c : Thread nD τ) (Memref.whole cc0_scratch1) fullShare X7 ∗ owns (c : Thread nD τ) (Memref.whole cc0_scratch2) fullShare X8) ∗ ∃ r, prngReg c r)
    ∗ (vdat m c).owesAt () t.castSucc ∗ owns (c : Thread nD τ) (st0_0 t) fullShare (Y 0)
    ∗ owns (c : Thread nD τ) (st0_1 t) fullShare (Y 1) ∗ owns (c : Thread nD τ) (st0_2 t) fullShare (Y 2) ∗ owns (c : Thread nD τ) (st0_3 t) fullShare (Y 3)) ⊢
    wp frame (wpE (defs₀ (F := F)) Variants.none (c : Thread nD τ) none) Set.univ (bodyAt0 t) fun _ =>
      iprop(((∃ X6 X7 X8, ⌜Inv (xOf m c) (t.val + 1) X6 X7 X8⌝ ∗ owns (c : Thread nD τ) (Memref.whole cc0_scratch0) fullShare X6
        ∗ owns (c : Thread nD τ) (Memref.whole cc0_scratch1) fullShare X7 ∗ owns (c : Thread nD τ) (Memref.whole cc0_scratch2) fullShare X8) ∗ ∃ r, prngReg c r)
        ∗ (vdat m c).owesAt () t.castSucc ∗ (∃ X, ⌜X = Y 0⌝ ∗ owns (c : Thread nD τ) (st0_0 t) fullShare X)
        ∗ (∃ X, ⌜16 ≤ t.val → X = codesG (xOf m c) (t.val / 16 - 1) (grid0.coords t 1)⌝ ∗ owns (c : Thread nD τ) (st0_1 t) fullShare X)
        ∗ (∃ X, ⌜16 ≤ t.val → if t.val % 16 = 0 then X = statsG (xOf m c) (t.val / 16 - 1) else X = Y 2⌝ ∗ owns (c : Thread nD τ) (st0_2 t) fullShare X)
        ∗ (∃ X, ⌜16 ≤ t.val → if t.val % 16 = 0 then X = subG (xOf m c) (t.val / 16 - 1) else X = Y 3⌝ ∗ owns (c : Thread nD τ) (st0_3 t) fullShare X))
  unfold bodyAt0
  iintro ⟨⟨⟨%X6, %X7, %X8, %hI, H6, H7, H8⟩, Hg⟩, HO, H0, H1, H2, H3⟩
  iapply (wp_wand_r Idealize.ShloMosaic.frame (wpE (defs₀ (F := F)) Variants.none (c : Thread nD τ) none) Set.univ)
  isplitl [H0 H1 H2 H3 H6 H7 H8]
  · iapply (kernelVal c (grid0.coords t) (st0_0 t) _ (st0_1 t) _ (st0_2 t) _ (st0_3 t) _ (Memref.whole cc0_scratch0) _ (Memref.whole cc0_scratch1) _ (Memref.whole cc0_scratch2) _
      (Y 0) (Y 1) (Y 2) (Y 3) X6 X7 X8 (hok X7))
    isplitl [H0]; · iexact H0
    isplitl [H1]; · iexact H1
    isplitl [H2]; · iexact H2
    isplitl [H3]; · iexact H3
    isplitl [H6]; · iexact H6
    isplitl [H7]; · iexact H7
    iexact H8
  · iintro %_ ⟨H0, H1, H2, H3, H6, H7, H8⟩
    isplitl [H6 H7 H8 Hg]
    · isplitl [H6 H7 H8]
      · iexists _; iexists _; iexists _
        isplitr; swap
        · isplitl [H6]; · iexact H6
          isplitl [H7]; · iexact H7
          iexact H8
        · ipureintro; exact hI.step t (Y 0) (found0 m c t (Y 0) hf)
      · iexact Hg
    isplitl [HO]; · iexact HO
    isplitl [H0]
    · iexists _; isplitr; swap
      · iexact H0
      · ipureintro; rfl
    isplitl [H1]
    · iexists _; isplitr; swap
      · iexact H1
      · ipureintro; intro h; exact out3_eq t (Y 1) hI h
    isplitl [H2]
    · iexists _; isplitr; swap
      · iexact H2
      · ipureintro; intro h
        by_cases h0 : t.val % 16 = 0
        · rw [if_pos h0]
          unfold out4
          rw [if_pos ((cond1_iff _).mpr ⟨by rw [coord1]; exact h0, by rw [coord0]; omega⟩)]
          obtain ⟨rfl, rfl⟩ := hI.full h0 (by omega)
          rfl
        · rw [if_neg h0]
          exact if_neg fun hc => h0 (by rw [← coord1]; exact ((cond1_iff _).mp hc).1)
    iexists _; isplitr; swap
    · iexact H3
    · ipureintro; intro h
      by_cases h0 : t.val % 16 = 0
      · rw [if_pos h0]
        unfold out5
        rw [if_pos ((cond1_iff _).mpr ⟨by rw [coord1]; exact h0, by rw [coord0]; omega⟩)]
        obtain ⟨rfl, rfl⟩ := hI.full h0 (by omega)
        rfl
      · rw [if_neg h0]
        exact if_neg fun hc => h0 (by rw [← coord1]; exact ((cond1_iff _).mp hc).1)

/-! ## What may be written back -/

theorem leaves1 (c : Dev nD) (t : Fin cfg0.N) (h : 16 ≤ t.val) (X : S1x1x32x12288.Idx → Elt F .i8) (hX : (vdat m c).Leaves 1 t X) :
    X = codesG (xOf m c) (t.val / 16 - 1) (grid0.coords t 1) := by
  obtain ⟨Y, _, hR⟩ := hX
  exact hR h

theorem leaves2 (c : Dev nD) : ∀ (n : ℕ) (t : Fin cfg0.N), t.val = n → 16 ≤ t.val → ∀ X : S32x128.Idx → Elt F .f32, (vdat m c).Leaves 2 t X →
    X = statsG (xOf m c) (t.val / 16 - 1) := by
  intro n
  induction n with
  | zero => intro t h0 h1; omega
  | succ n ih =>
    intro t hn h X hX
    obtain ⟨Y, hY, hR⟩ := hX
    have hR' : if t.val % 16 = 0 then X = statsG (xOf m c) (t.val / 16 - 1) else X = Y := hR h
    by_cases h0 : t.val % 16 = 0
    · rw [if_pos h0] at hR'; exact hR'
    · rw [if_neg h0] at hR'
      rcases ((vdat m c).finds_of_pos (fetch2 t) (by omega) Y).mp hY with hfl | hL
      · have := (flush2 _ hfl).2
        have hv : (⟨t.val - 1, Nat.lt_of_le_of_lt (Nat.sub_le _ _) t.isLt⟩ : Fin cfg0.N).val = t.val - 1 := rfl
        omega
      · have hlt : t.val - 1 < cfg0.N := Nat.lt_of_le_of_lt (Nat.sub_le _ _) t.isLt
        have := ih ⟨t.val - 1, hlt⟩ (by show t.val - 1 = n; omega) (by show 16 ≤ t.val - 1; omega) Y hL
        rw [hR', this]
        show statsG _ ((t.val - 1) / 16 - 1) = _
        congr 1; omega

theorem leaves3 (c : Dev nD) : ∀ (n : ℕ) (t : Fin cfg0.N), t.val = n → 16 ≤ t.val → ∀ X : S32x256.Idx → Elt F .i32, (vdat m c).Leaves 3 t X →
    X = subG (xOf m c) (t.val / 16 - 1) := by
  intro n
  induction n with
  | zero => intro t h0 h1; omega
  | succ n ih =>
    intro t hn h X hX
    obtain ⟨Y, hY, hR⟩ := hX
    have hR' : if t.val % 16 = 0 then X = subG (xOf m c) (t.val / 16 - 1) else X = Y := hR h
    by_cases h0 : t.val % 16 = 0
    · rw [if_pos h0] at hR'; exact hR'
    · rw [if_neg h0] at hR'
      rcases ((vdat m c).finds_of_pos (fetch3 t) (by omega) Y).mp hY with hfl | hL
      · have := (flush3 _ hfl).2
        have hv : (⟨t.val - 1, Nat.lt_of_le_of_lt (Nat.sub_le _ _) t.isLt⟩ : Fin cfg0.N).val = t.val - 1 := rfl
        omega
      · have hlt : t.val - 1 < cfg0.N := Nat.lt_of_le_of_lt (Nat.sub_le _ _) t.isLt
        have := ih ⟨t.val - 1, hlt⟩ (by show t.val - 1 = n; omega) (by show 16 ≤ t.val - 1; omega) Y hL
        rw [hR', this]
        show subG _ ((t.val - 1) / 16 - 1) = _
        congr 1; omega

/-! ## The three arrays at the end -/

/-- The codes of the whole argument. -/
def codesArr (xt : S16x8x160x12288.Idx → Elt F .f32) : S16x8x160x12288.Idx → Elt F .i8 := fun y =>
  codesG xt ((y 1).val * 5 + (y 2).val / 32) (y 0) (ValueIdx.ix4 0 0 ⟨(y 2).val % 32, Nat.mod_lt _ (by norm_num)⟩ (⟨(y 3).val, (y 3).isLt⟩ : Fin 12288))

/-- The statistics of every channel. -/
def statsArr (xt : S16x8x160x12288.Idx → Elt F .f32) : S1280x128.Idx → Elt F .f32 := fun y =>
  statsG xt ((y 0).val / 32) (ValueIdx.ix2 ⟨(y 0).val % 32, Nat.mod_lt _ (by norm_num)⟩ (⟨(y 1).val, (y 1).isLt⟩ : Fin 128))

/-- The sub-bin counts of every channel. -/
def subArr (xt : S16x8x160x12288.Idx → Elt F .f32) : S1280x256.Idx → Elt F .i32 := fun y =>
  subG xt ((y 0).val / 32) (ValueIdx.ix2 ⟨(y 0).val % 32, Nat.mod_lt _ (by norm_num)⟩ (⟨(y 1).val, (y 1).isLt⟩ : Fin 256))

theorem arr1 (c : Dev nD) (after : (w' : Fin cfg0.W) → Fin cfg0.N → (cfg0.win w').block.Idx → Elt F (cfg0.win w').elt)
    (hL : ∀ (w : Fin cfg0.W) (u : Fin cfg0.N), (cfg0.win w).flush u = true → (vdat m c).Leaves w u (after w u)) :
    ((vdat m c).withAfter after).arrAt 1 cfg0.N = codesArr (xOf m c) := by
  refine Pipeline.Dat.arrAt_eq_of_covers _ 1 _ covers1 fun t hf y => ?_
  have h16 := flush1 t hf
  have e := leaves1 m c t h16 _ (hL 1 t hf)
  have c1 := coord1 t
  have hy0 : (y 0).val < 1 := (y 0).isLt
  have hy1 : (y 1).val < 1 := (y 1).isLt
  have hy2 : (y 2).val < 32 := (y 2).isLt
  have hy3 : (y 3).val < 12288 := (y 3).isLt
  have ea : ∀ a : Fin 4, (((cfg0.win 1).rect t).emb y a).val = (cfg0.win 1).index t a * (cfg0.win 1).size a + (y a).val := fun a => Pipeline.Window.rect_emb_val _ t y a
  have e0 : (((cfg0.win 1).rect t).emb y 0).val = (grid0.coords t 1).val := by
    rw [ea 0, idx1 t h16 0, c1]; show t.val % 16 * 1 + (y 0).val = _; omega
  have e1 : (((cfg0.win 1).rect t).emb y 1).val = (t.val / 16 - 1) / 5 := by
    rw [ea 1, idx1 t h16 1]; show (t.val / 16 - 1) / 5 * 1 + (y 1).val = _; omega
  have e2 : (((cfg0.win 1).rect t).emb y 2).val = (t.val / 16 - 1) % 5 * 32 + (y 2).val := by
    rw [ea 2, idx1 t h16 2]; rfl
  have e3 : (((cfg0.win 1).rect t).emb y 3).val = (y 3).val := by
    rw [ea 3, idx1 t h16 3]; show 0 * 12288 + (y 3).val = _; omega
  show after 1 t y = codesArr (xOf m c) (((cfg0.win 1).rect t).emb y)
  rw [e]
  unfold codesArr
  have q0 : ((cfg0.win 1).rect t).emb y 0 = grid0.coords t 1 := Fin.ext e0
  have qg : (((cfg0.win 1).rect t).emb y 1).val * 5 + (((cfg0.win 1).rect t).emb y 2).val / 32 = t.val / 16 - 1 := by rw [e1, e2]; omega
  rw [qg, q0]
  congr 1
  funext a
  refine Fin.ext ?_
  fin_cases a
  · show (y 0).val = 0; omega
  · show (y 1).val = 0; omega
  · show (y 2).val = (((cfg0.win 1).rect t).emb y 2).val % 32; rw [e2]; omega
  · show (y 3).val = (((cfg0.win 1).rect t).emb y 3).val; rw [e3]

theorem arr2 (c : Dev nD) (after : (w' : Fin cfg0.W) → Fin cfg0.N → (cfg0.win w').block.Idx → Elt F (cfg0.win w').elt)
    (hL : ∀ (w : Fin cfg0.W) (u : Fin cfg0.N), (cfg0.win w).flush u = true → (vdat m c).Leaves w u (after w u)) :
    ((vdat m c).withAfter after).arrAt 2 cfg0.N = statsArr (xOf m c) := by
  refine Pipeline.Dat.arrAt_eq_of_covers _ 2 _ covers2 fun t hf y => ?_
  have h16 := (flush2 t hf).1
  have e := leaves2 m c _ t rfl h16 _ (hL 2 t hf)
  have hy0 : (y 0).val < 32 := (y 0).isLt
  have ea : ∀ a : Fin 2, (((cfg0.win 2).rect t).emb y a).val = (cfg0.win 2).index t a * (cfg0.win 2).size a + (y a).val := fun a => Pipeline.Window.rect_emb_val _ t y a
  have e0 : (((cfg0.win 2).rect t).emb y 0).val = (t.val / 16 - 1) * 32 + (y 0).val := by rw [ea 0, idx2 t 0]; rfl
  have e1 : (((cfg0.win 2).rect t).emb y 1).val = (y 1).val := by rw [ea 1, idx2 t 1]; show 0 * 128 + (y 1).val = _; omega
  show after 2 t y = statsArr (xOf m c) (((cfg0.win 2).rect t).emb y)
  rw [e]
  unfold statsArr
  have qg : (((cfg0.win 2).rect t).emb y 0).val / 32 = t.val / 16 - 1 := by rw [e0]; omega
  rw [qg]
  congr 1
  funext a
  refine Fin.ext ?_
  fin_cases a
  · show (y 0).val = (((cfg0.win 2).rect t).emb y 0).val % 32; rw [e0]; omega
  · show (y 1).val = (((cfg0.win 2).rect t).emb y 1).val; rw [e1]

theorem arr3 (c : Dev nD) (after : (w' : Fin cfg0.W) → Fin cfg0.N → (cfg0.win w').block.Idx → Elt F (cfg0.win w').elt)
    (hL : ∀ (w : Fin cfg0.W) (u : Fin cfg0.N), (cfg0.win w).flush u = true → (vdat m c).Leaves w u (after w u)) :
    ((vdat m c).withAfter after).arrAt 3 cfg0.N = subArr (xOf m c) := by
  refine Pipeline.Dat.arrAt_eq_of_covers _ 3 _ covers3 fun t hf y => ?_
  have h16 := (flush3 t hf).1
  have e := leaves3 m c _ t rfl h16 _ (hL 3 t hf)
  have hy0 : (y 0).val < 32 := (y 0).isLt
  have ea : ∀ a : Fin 2, (((cfg0.win 3).rect t).emb y a).val = (cfg0.win 3).index t a * (cfg0.win 3).size a + (y a).val := fun a => Pipeline.Window.rect_emb_val _ t y a
  have e0 : (((cfg0.win 3).rect t).emb y 0).val = (t.val / 16 - 1) * 32 + (y 0).val := by rw [ea 0, idx3 t 0]; rfl
  have e1 : (((cfg0.win 3).rect t).emb y 1).val = (y 1).val := by rw [ea 1, idx3 t 1]; show 0 * 256 + (y 1).val = _; omega
  show after 3 t y = subArr (xOf m c) (((cfg0.win 3).rect t).emb y)
  rw [e]
  unfold subArr
  have qg : (((cfg0.win 3).rect t).emb y 0).val / 32 = t.val / 16 - 1 := by rw [e0]; omega
  rw [qg]
  congr 1
  funext a
  refine Fin.ext ?_
  fin_cases a
  · show (y 0).val = (((cfg0.win 3).rect t).emb y 0).val % 32; rw [e0]; omega
  · show (y 1).val = (((cfg0.win 3).rect t).emb y 1).val; rw [e1]

set_option backward.isDefEq.respectTransparency.types false in
/-- From any memory with zero counters, every fair execution of @main ends with the codes, the statistics and the sub-bin
    counts of the argument in the three result arrays, and the argument unchanged. -/
theorem run_val (hok : ∀ d7 : S16x3x32x128.Idx → Elt F .f32, (selC0 d7 = 1#1 ∧ ¬ selC1 d7 = 1#1) ∨ (¬ selC0 d7 = 1#1 ∧ selC1 d7 = 1#1)) :
    θ_run defs (onTc (τ := τ) (main (F := F))) (s₀ m ρ)
      (fun r => ∀ c : Dev nD, r.2.mem ((c.tc : Thread nD τ).loc main_v0_0) = codesArr (xOf m c)
        ∧ r.2.mem ((c.tc : Thread nD τ).loc main_v0_1) = statsArr (xOf m c)
        ∧ r.2.mem ((c.tc : Thread nD τ).loc main_v0_2) = subArr (xOf m c)
        ∧ r.2.mem ((c.tc : Thread nD τ).loc main_arg0) = m ((c.tc : Thread nD τ).loc main_arg0)) :=
  Pipeline.RDat.θ_run_frame_track cfgs (0 : Fin 1) launch0 defs₀ Variants.none (vdat m) m ρ main
    (vbody m hok) (fun c w => by unfold RDat.share; split <;> rfl) (fun _ _ => rfl) (V m) (hmain m Variants.none) (fun _ _ => rfl)
    (fun c => by
      unfold Pipeline.ΦA
      rw [scopedRest0_eq]
      show _ ⊢ iprop((∃ X6 X7 X8, ⌜Inv (xOf m c) 0 X6 X7 X8⌝ ∗ owns (c : Thread nD τ) (Memref.whole cc0_scratch0) fullShare X6
        ∗ owns (c : Thread nD τ) (Memref.whole cc0_scratch1) fullShare X7 ∗ owns (c : Thread nD τ) (Memref.whole cc0_scratch2) fullShare X8) ∗ ∃ r, prngReg c r)
      simp only [owns_whole]
      iintro ⟨⟨⟨%f6, H6⟩, ⟨%f7, H7⟩, ⟨%f8, H8⟩⟩, Hg⟩
      isplitl [H6 H7 H8]
      · iexists f6; iexists f7; iexists f8
        isplitr; swap
        · isplitl [H6]; · iexact H6
          isplitl [H7]; · iexact H7
          iexact H8
        · ipureintro
          exact ⟨fun y hy => absurd hy (by omega), fun y hy => absurd hy (by omega), fun h => absurd h (by omega)⟩
      · iexact Hg)
    (fun c => by
      unfold Pipeline.ΦA
      rw [scopedRest0_eq]
      show iprop((∃ X6 X7 X8, ⌜Inv (xOf m c) 656 X6 X7 X8⌝ ∗ owns (c : Thread nD τ) (Memref.whole cc0_scratch0) fullShare X6
        ∗ owns (c : Thread nD τ) (Memref.whole cc0_scratch1) fullShare X7 ∗ owns (c : Thread nD τ) (Memref.whole cc0_scratch2) fullShare X8) ∗ ∃ r, prngReg c r) ⊢ _
      simp only [owns_whole]
      iintro ⟨⟨%f6, %f7, %f8, %h, H6, H7, H8⟩, Hg⟩
      isplitl [H6 H7 H8]
      · isplitl [H6]; · iexists _; iexact H6
        isplitl [H7]; · iexists _; iexact H7
        iexists _; iexact H8
      · iexact Hg)
    _ (fun r h c => by
      obtain ⟨after, hL, hA⟩ := Pipeline.RDat.FramePost.exists_exact h.1 c
      exact ⟨(hA 1).trans (arr1 m c after hL), (hA 2).trans (arr2 m c after hL), (hA 3).trans (arr3 m c after hL), (h.1.arr_in c 0 rfl).trans rfl⟩)
end reg

end Cert.KernelIdeal.Hand
-- ==== Proof.Equation.lean ====
module

public import proofs.«01_k».proof.Proof.RefCounts
public import proofs.«01_k».proof.Proof.Region
public import proofs.«01_k».proof.Proof.Gen.Pre_finite
public import Idealize.ShloMosaic.Lib.ReduceAll
public import Idealize.ShloMosaic.Lib.Pipeline.ValueKit.Tiles

@[expose] public section

noncomputable section

namespace Cert.Equation

open Cert.KernelIdeal.Hand
open Cert.ReferenceIdeal Cert.ReferenceIdeal.Gen Cert.ReferenceIdeal.Read
open Idealize.ShloMosaic Idealize.ShloMosaic.TcCoe
open scoped BigOperators

/-! ## What the precondition says of a channel -/

theorem loBits : (FloatOps.ofBits FTy.f32 0x0A000000#32 : Ideal .f32) = (((2 : ℝ) ^ (-107 : ℤ) : ℝ) : EReal) := by
  show Ideal.ofBits .f32 0x0A000000#32 = _
  simp [Ideal.ofBits, Ideal.ieee]
  rw [← EReal.coe_mul]; norm_num

theorem hiBits : (FloatOps.ofBits FTy.f32 0x7F7FFFFF#32 : Ideal .f32) < ((((2 : ℝ) ^ (128 : ℤ) : ℝ) : EReal) : EReal) := by
  show Ideal.ofBits .f32 0x7F7FFFFF#32 < _
  simp [Ideal.ofBits, Ideal.ieee]
  rw [← EReal.coe_pow, ← EReal.coe_pow, ← EReal.coe_mul, EReal.coe_lt_coe_iff]; norm_num

theorem or_and_bits {P Q R : Prop} [Decidable P] [Decidable Q] [Decidable R] (h : IntOp.ori (BitVec.ofBool (decide P)) (IntOp.andi (BitVec.ofBool (decide Q)) (BitVec.ofBool (decide R))) = 1#1) : P ∨ (Q ∧ R) := by
  by_cases h1 : P <;> by_cases h2 : Q <;> by_cases h3 : R <;> simp [h1, h2, h3, IntOp.ori, IntOp.andi] at h ⊢

/-- The precondition's bits, from the channel maxima. -/
def preBits (a : FVec Ideal S8x160 .f32) : IVec S8x160 1 :=
  ori (cmpf .oeq a (broadcastInDim S8x160 ![] Cert.Pre_finite.Gen.bcast_S_S8x160 (constant S_ .f32 0x00000000#32)))
    (andi (cmpf .oge a (broadcastInDim S8x160 ![] Cert.Pre_finite.Gen.bcast_S_S8x160 (constant S_ .f32 0x0A000000#32)))
      (cmpf .ole a (broadcastInDim S8x160 ![] Cert.Pre_finite.Gen.bcast_S_S8x160 (constant S_ .f32 0x7F7FFFFF#32))))

theorem preBits_at (a : FVec Ideal S8x160 .f32) (i : S8x160.Idx) (A : EReal) (hA : (a i : EReal) = A) (h : preBits a i = 1#1) :
    A = (FloatOps.ofBits FTy.f32 0x00000000#32 : Ideal .f32) ∨ ((FloatOps.ofBits FTy.f32 0x0A000000#32 : Ideal .f32) ≤ A ∧ A ≤ (FloatOps.ofBits FTy.f32 0x7F7FFFFF#32 : Ideal .f32)) := by
  subst hA
  exact or_and_bits h

theorem fn_eq (xt : S16x8x160x12288.Idx → EReal) : Cert.Pre_finite.fn (F := Ideal) xt
    = Host.reduce IntOp.andi (preBits (val_main_v1 (F := Ideal) xt)) (constantI S_ 1 1#1) Cert.Pre_finite.Gen.reducesTo_S8x160_S_d0_1 Cert.Pre_finite.Gen.h_S_ := rfl

theorem exp_of_pre (xt : S16x8x160x12288.Idx → EReal) (hp : Cert.Pre_finite.fn (F := Ideal) xt = fun _ => 1#1) (h : Fin 8) (c : Fin 160) : ∃ e, IsExp (kmax xt (gOf h c) (rOf c)) e := by
  haveI : Subsingleton Cert.Pre_finite.S_.Idx := ⟨fun a b => funext fun i => i.elim0⟩
  rw [fn_eq] at hp
  have h1 := Host.reduce_andi_all _ _ _ _ _ (congrFun hp (Shape.Idx.first Cert.Pre_finite.Gen.h_S_)) (ValueIdx.ix2 h c)
  have h3 := preBits_at _ _ _ (v1_eq xt h c) h1
  have hz : (FloatOps.ofBits FTy.f32 0#32 : Ideal .f32) = (0 : EReal) := zeroBits
  refine exists_exp _ ?_
  rcases h3 with h3 | ⟨h4, h5⟩
  · exact .inl (h3.trans hz)
  · exact .inr ⟨loBits ▸ h4, lt_of_le_of_lt h5 hiBits⟩

section arrays
variable (xt : S16x8x160x12288.Idx → EReal) (hp : Cert.Pre_finite.fn (F := Ideal) xt = fun _ => 1#1)
include hp

/-! ## The three results, array by array -/

theorem codes_eq : codesArr (F := Ideal) xt = val_main_v102 (F := Ideal) xt := by
  funext y
  obtain ⟨h, hh⟩ : ∃ h : Fin 8, h = y 1 := ⟨_, rfl⟩
  obtain ⟨c, hc⟩ : ∃ c : Fin 160, c = y 2 := ⟨_, rfl⟩
  obtain ⟨b, hb⟩ : ∃ b : Fin 16, b = y 0 := ⟨_, rfl⟩
  obtain ⟨s, hs⟩ : ∃ s : Fin 12288, s = y 3 := ⟨_, rfl⟩
  have hy : y = fam4 h c (b, s) := by
    funext a
    fin_cases a
    exacts [hb.symm, hh.symm, hc.symm, hs.symm]
  obtain ⟨e, he⟩ := exp_of_pre xt hp h c
  rw [hy, v102_row xt h c he]
  refine (codesG_row xt (gOf h c) (rOf c) he b s).trans ?_
  rw [xblk_chan]
  rfl

/-- Row `i` of the per-channel results is channel `i % 160` of head `i / 160`. -/
theorem row_chan (i : Fin 1280) : ∃ (h : Fin 8) (c : Fin 160), h.val = i.val / 160 ∧ c.val = i.val % 160 ∧ gOf h c = i.val / 32 ∧ (rOf c).val = i.val % 32 :=
  ⟨⟨i.val / 160, by omega⟩, ⟨i.val % 160, by omega⟩, rfl, rfl, by show i.val / 160 * 5 + i.val % 160 / 32 = _; omega, by show i.val % 160 % 32 = _; omega⟩

theorem sub_eq : subArr (F := Ideal) xt = val_main_v118 (F := Ideal) xt := by
  funext y
  obtain ⟨h, c, h1, h2, h3, h4⟩ := row_chan xt hp (y 0)
  obtain ⟨e, he⟩ := exp_of_pre xt hp h c
  have hl : (y 1).val < 256 := (y 1).isLt
  have hk : subArr (F := Ideal) xt y = subG (F := Ideal) xt (gOf h c) (ValueIdx.ix2 (rOf c) (⟨(y 1).val, hl⟩ : Fin 256)) := by
    unfold subArr
    rw [← h3]
    exact congrArg (fun r : Fin 32 => subG (F := Ideal) xt (gOf h c) (ValueIdx.ix2 r (⟨(y 1).val, hl⟩ : Fin 256))) (Fin.ext h4.symm)
  rw [hk, subG_row xt (gOf h c) (rOf c) he, val_main_v118_apply, ← v62_eq xt h c he]
  refine congrArg (val_main_v62 (F := Ideal) xt) (funext fun a => ?_)
  have hi : (y 0).val < 1280 := (y 0).isLt
  fin_cases a <;> refine Fin.ext ?_
  · show h.val = ((y 0).val * 256 + (y 1).val) / 40960
    omega
  · show c.val = ((y 0).val * 256 + (y 1).val) / 256 % 160
    omega
  · show (y 1).val = ((y 0).val * 256 + (y 1).val) % 256
    omega

omit hp in
theorem v114_eq (h : Fin 8) (c : Fin 160) {e : ℤ} (he : IsExp (kmax xt (gOf h c) (rOf c)) e) (l : Fin 5) : (val_main_v114 (F := Ideal) xt (ValueIdx.ix3 h c l) : EReal) = statV (fOf xt (gOf h c) (rOf c) e) e l.val := by
  unfold val_main_v114
  have idx : ∀ (i : S8x160x1.Idx), (i 0).val = h.val → (i 1).val = c.val → ∀ k : S8x160x1.Idx → S8x160.Idx, (∀ i, (k i 0).val = (i 0).val) → (∀ i, (k i 1).val = (i 1).val) → k i = ValueIdx.ix2 h c := by
    intro i e0 e1 k k0 k1
    funext a
    fin_cases a
    · exact Fin.ext ((k0 i).trans e0)
    · exact Fin.ext ((k1 i).trans e1)
  refine concatenate_unit_eq _ _ _ _ _ rfl ?_
  refine concatAt_cons _ _ _ _ ?_ (concatAt_cons _ _ _ _ ?_ (concatAt_cons _ _ _ _ ?_ (concatAt_cons _ _ _ _ ?_ (concatAt_cons _ _ _ _ ?_ (concatAt_nil _ _ _ _)))))
  · intro hl hr i h0 hb
    have hl' : l.val = 0 := hl
    rw [val_main_v109_apply, idx i (hb 0 (by decide)) (hb 1 (by decide)) idx_main_v109 (fun _ => rfl) (fun _ => rfl), v91_eq xt h c he, hl']
    rfl
  · intro hl hr i h0 hb
    have hl' : l.val = 1 := hl
    rw [val_main_v110_apply, idx i (hb 0 (by decide)) (hb 1 (by decide)) idx_main_v110 (fun _ => rfl) (fun _ => rfl), v93_eq xt h c he, hl']
    rfl
  · intro hl hr i h0 hb
    have hl' : l.val = 2 := hl
    rw [val_main_v111_apply, idx i (hb 0 (by decide)) (hb 1 (by decide)) idx_main_v111 (fun _ => rfl) (fun _ => rfl), v95_eq xt h c he, hl']
    rfl
  · intro hl hr i h0 hb
    have hl' : l.val = 3 := hl
    rw [val_main_v112_apply, idx i (hb 0 (by decide)) (hb 1 (by decide)) idx_main_v112 (fun _ => rfl) (fun _ => rfl), v108_eq xt h c he, hl']
    rfl
  · intro hl hr i h0 hb
    have hl' : l.val = 4 := hl
    rw [val_main_v113_apply, idx i (hb 0 (by decide)) (hb 1 (by decide)) idx_main_v113 (fun _ => rfl) (fun _ => rfl), v107_eq xt h c he, hl']
    rfl

theorem stats_eq : statsArr (F := Ideal) xt = val_main_v117 (F := Ideal) xt := by
  funext y
  obtain ⟨h, c, h1, h2, h3, h4⟩ := row_chan xt hp (y 0)
  obtain ⟨e, he⟩ := exp_of_pre xt hp h c
  have hl : (y 1).val < 128 := (y 1).isLt
  have hi : (y 0).val < 1280 := (y 0).isLt
  have hk : statsArr (F := Ideal) xt y = statsG (F := Ideal) xt (gOf h c) (ValueIdx.ix2 (rOf c) (⟨(y 1).val, hl⟩ : Fin 128)) := by
    unfold statsArr
    rw [← h3]
    exact congrArg (fun r : Fin 32 => statsG (F := Ideal) xt (gOf h c) (ValueIdx.ix2 r (⟨(y 1).val, hl⟩ : Fin 128))) (Fin.ext h4.symm)
  rw [hk]
  refine (statsG_row xt (gOf h c) (rOf c) he _).trans ?_
  unfold val_main_v117
  by_cases h5 : (y 1).val < 5
  · refine Eq.trans ?_ (concatenate_pair_apply_left (s₁ := S1280x5) (s₂ := S1280x123) _ _ _ _ y rfl (ValueIdx.ix2 (⟨(y 0).val, hi⟩ : Fin 1280) (⟨(y 1).val, h5⟩ : Fin 5)) (fun b => by fin_cases b <;> rfl)).symm
    rw [val_main_v115_apply]
    refine (v114_eq xt h c he ⟨(y 1).val, h5⟩).symm.trans ?_
    refine congrArg (val_main_v114 (F := Ideal) xt) (funext fun a => ?_)
    fin_cases a <;> refine Fin.ext ?_
    · show h.val = ((y 0).val * 5 + (y 1).val) / 800
      omega
    · show c.val = ((y 0).val * 5 + (y 1).val) / 5 % 160
      omega
    · show (y 1).val = ((y 0).val * 5 + (y 1).val) % 5
      omega
  · refine Eq.trans ?_ (concatenate_pair_apply_right (s₁ := S1280x5) (s₂ := S1280x123) _ _ _ _ y rfl rfl (ValueIdx.ix2 (⟨(y 0).val, hi⟩ : Fin 1280) (⟨(y 1).val - 5, by omega⟩ : Fin 123)) (fun b hb => ?_) ?_).symm
    · rw [val_main_v116_apply, val_main_cst_27_apply]
      have hz : (FloatOps.ofBits FTy.f32 0#32 : Ideal .f32) = (0 : EReal) := zeroBits
      rw [hz]
      show statV _ _ (y 1).val = 0
      unfold statV
      rw [if_neg (by omega), if_neg (by omega), if_neg (by omega), if_neg (by omega), if_neg (by omega)]
    · fin_cases b
      · rfl
      · exact absurd rfl hb
    · show (y 1).val - 5 + 5 = (y 1).val
      omega

end arrays

end Cert.Equation
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.FrameRun
public import proofs.«01_k».proof.Proof.FrameRunIdeal
public import proofs.«01_k».proof.Proof.Equation

@[expose] public section

noncomputable section

namespace Cert.Proof

open Idealize.ShloMosaic Idealize.ShloMosaic.TcCoe Idealize.SL.Sem

/-- The reference runs, keeps its argument, and declares no semaphore. -/
theorem run_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2.2.2, Idealize.ShloMosaic.sem_eq_zero_of_no_sems (by decide) r.2⟩)
    (Cert.ReferenceIdeal.Value.run (F := Ideal) m g)

/-- The kernel and the reference end with equal results. -/
theorem equal : Cert.algebraic_KernelIdeal_ReferenceIdeal_pre_finite := by
  intro m g m' g' hp ha
  refine ⟨fun c => Cert.KernelIdeal.Hand.codesArr (F := Ideal) (Cert.KernelIdeal.Hand.xOf m c), fun c => Cert.KernelIdeal.Hand.statsArr (F := Ideal) (Cert.KernelIdeal.Hand.xOf m c),
    fun c => Cert.KernelIdeal.Hand.subArr (F := Ideal) (Cert.KernelIdeal.Hand.xOf m c), Cert.KernelIdeal.Hand.run_val (F := Ideal) m g Cert.KernelIdeal.Hand.one_branch, ?_⟩
  refine (θ_run Cert.ReferenceIdeal.defs _ _).mono (fun r h c => ?_) (Cert.ReferenceIdeal.Value.run (F := Ideal) m' g')
  obtain ⟨h0, h1, h2, h3⟩ := h c
  refine ⟨h0.trans ?_, h1.trans ?_, h2.trans ?_, h3⟩
  · refine (Cert.ReferenceIdeal.Read.val_main_v102_eq m' c).trans ?_
    rw [ha c]
    exact (Cert.Equation.codes_eq _ (hp c)).symm
  · refine (Cert.ReferenceIdeal.Read.val_main_v117_eq m' c).trans ?_
    rw [ha c]
    exact (Cert.Equation.stats_eq _ (hp c)).symm
  · refine (Cert.ReferenceIdeal.Read.val_main_v118_eq m' c).trans ?_
    rw [ha c]
    exact (Cert.Equation.sub_eq _ (hp c)).symm

/-- Every claim. -/
theorem claim : Cert.Claim :=
  ⟨Cert.Kernel.Gen.facts, Cert.KernelIdeal.Gen.facts, Cert.ReferenceIdeal.Gen.facts, Cert.Pre_finite.Gen.facts,
    fun m g _ => Cert.Kernel.Hand.run_main m g,
    fun m g _ => Cert.KernelIdeal.Hand.run_main m g,
    fun m g _ => Cert.KernelIdeal.Hand.run_main m g,
    fun m g _ => run_ref m g,
    fun m g _ => run_ref m g,
    trivial,
    equal⟩

end Cert.Proof

end
